-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S16x256x1024 : Shape := ⟨3, ![16, 256, 1024]⟩
abbrev S6144x1024 : Shape := ⟨2, ![6144, 1024]⟩
abbrev S6144 : Shape := ⟨1, ![6144]⟩
abbrev S44160x512 : Shape := ⟨2, ![44160, 512]⟩
abbrev S44160x8 : Shape := ⟨2, ![44160, 8]⟩
abbrev S16x256 : Shape := ⟨2, ![16, 256]⟩
abbrev S_ : Shape := ⟨0, ![]⟩

class Facts : Prop where
  bcast_S_S16x256 : S_.BroadcastsInDim S16x256 (![] : Fin 0 → Fin S16x256.rank)

variable [Facts]

def fn {F : FTy → Type} [FloatOps F] (main_arg0 : FVec F S16x256x1024 .bf16) (main_arg1 : FVec F S6144x1024 .fp8e4m3) (main_arg2 : FVec F S6144 .f32) (main_arg3 : IVec S44160x512 8) (main_arg4 : FVec F S44160x8 .bf16) (main_arg5 : IVec S16x256 32) : IVec S16x256 1 :=
  let main_c : IVec S_ 32 := constantI S_ 32 0#32
  let main_v0 : IVec S16x256 32 := broadcastInDim S16x256 ![] bcast_S_S16x256 main_c
  let main_v1 : IVec S16x256 1 := cmpi .sge main_arg5 main_v0
  let main_c_0 : IVec S_ 32 := constantI S_ 32 50304#32
  let main_v2 : IVec S16x256 32 := broadcastInDim S16x256 ![] bcast_S_S16x256 main_c_0
  let main_v3 : IVec S16x256 1 := cmpi .slt main_arg5 main_v2
  let main_v4 : IVec S16x256 1 := andi main_v1 main_v3
  main_v4
-- ==== Kernel.lean ====
abbrev S16x256x1024 : Shape := ⟨3, ![16, 256, 1024]⟩
abbrev S6144x1024 : Shape := ⟨2, ![6144, 1024]⟩
abbrev S6144 : Shape := ⟨1, ![6144]⟩
abbrev S44160x512 : Shape := ⟨2, ![44160, 512]⟩
abbrev S44160x8 : Shape := ⟨2, ![44160, 8]⟩
abbrev S16x256 : Shape := ⟨2, ![16, 256]⟩
abbrev S4096x1024 : Shape := ⟨2, ![4096, 1024]⟩
abbrev S6144x1 : Shape := ⟨2, ![6144, 1]⟩
abbrev S1x4096 : Shape := ⟨2, ![1, 4096]⟩
abbrev S512x1024 : Shape := ⟨2, ![512, 1024]⟩
abbrev S512x1 : Shape := ⟨2, ![512, 1]⟩
abbrev S480x512 : Shape := ⟨2, ![480, 512]⟩
abbrev S480x8 : Shape := ⟨2, ![480, 8]⟩
abbrev S8x4096 : Shape := ⟨2, ![8, 4096]⟩
abbrev S256x256 : Shape := ⟨2, ![256, 256]⟩
abbrev S512x256 : Shape := ⟨2, ![512, 256]⟩
abbrev S512x128 : Shape := ⟨2, ![512, 128]⟩
abbrev S512x512 : Shape := ⟨2, ![512, 512]⟩
abbrev S8x512 : Shape := ⟨2, ![8, 512]⟩
abbrev S64x8x512 : Shape := ⟨3, ![64, 8, 512]⟩
abbrev S1x8x512 : Shape := ⟨3, ![1, 8, 512]⟩
abbrev S1x512 : Shape := ⟨2, ![1, 512]⟩
abbrev S4096 : Shape := ⟨1, ![4096]⟩
abbrev S480x128 : Shape := ⟨2, ![480, 128]⟩
abbrev S480x1 : Shape := ⟨2, ![480, 1]⟩
abbrev S480x1024 : Shape := ⟨2, ![480, 1024]⟩
abbrev S60x8x512 : Shape := ⟨3, ![60, 8, 512]⟩

abbrev nBuf : Space → Nat
  | .hbm => 13
  | .vmem => 19
  | .smem => 0
  | _ => 0

abbrev bufTy : (tb : Table) → Fin (tcTables nBuf tb) → BufTy
  | .hbm, ⟨0, _⟩ => ⟨S16x256x1024, .bf16⟩
  | .hbm, ⟨1, _⟩ => ⟨S6144x1024, .fp8e4m3⟩
  | .hbm, ⟨2, _⟩ => ⟨S6144, .f32⟩
  | .hbm, ⟨3, _⟩ => ⟨S44160x512, .i8⟩
  | .hbm, ⟨4, _⟩ => ⟨S44160x8, .bf16⟩
  | .hbm, ⟨5, _⟩ => ⟨S16x256, .i32⟩
  | .hbm, ⟨6, _⟩ => ⟨S4096x1024, .bf16⟩
  | .hbm, ⟨7, _⟩ => ⟨S6144x1, .f32⟩
  | .hbm, ⟨8, _⟩ => ⟨S1x4096, .i32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .local _ .vmem, ⟨0, _⟩ => ⟨S4096x1024, .bf16⟩
  | .local _ .vmem, ⟨1, _⟩ => ⟨S512x1024, .fp8e4m3⟩
  | .local _ .vmem, ⟨2, _⟩ => ⟨S512x1024, .fp8e4m3⟩
  | .local _ .vmem, ⟨3, _⟩ => ⟨S512x1, .f32⟩
  | .local _ .vmem, ⟨4, _⟩ => ⟨S512x1, .f32⟩
  | .local _ .vmem, ⟨5, _⟩ => ⟨S480x512, .i8⟩
  | .local _ .vmem, ⟨6, _⟩ => ⟨S480x512, .i8⟩
  | .local _ .vmem, ⟨7, _⟩ => ⟨S480x8, .bf16⟩
  | .local _ .vmem, ⟨8, _⟩ => ⟨S480x8, .bf16⟩
  | .local _ .vmem, ⟨9, _⟩ => ⟨S1x4096, .i32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S4096x1024, .bf16⟩
  | .local _ .vmem, ⟨15, _⟩ => ⟨S512x1024, .bf16⟩
  | .local _ .vmem, ⟨16, _⟩ => ⟨S8x4096, .f32⟩
  | .local _ .vmem, ⟨17, _⟩ => ⟨S8x4096, .f32⟩
  | .local _ .vmem, ⟨18, _⟩ => ⟨S8x4096, .f32⟩
  | _, _ => ⟨S16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![104], ![false]⟩

def k0_cond3 (i : grid0.Coords) : BitVec 1 :=
  let arg0 : BitVec 32 := BitVec.ofNat 32 (i 0).val
  let c12_i32_3 : BitVec 32 := 12#32
  let v8 : BitVec 1 := Scalar.cmpi .slt arg0 c12_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_12 : BitVec 32 := 0#32
  let c8_i32 : BitVec 32 := 8#32
  let v21 : BitVec 32 := Scalar.addi c0_i32_12 c8_i32
  let c1_i32 : BitVec 32 := 1#32
  ⟨c0_i32_12, v21, c1_i32⟩
def k0_mult1 (k0_t1 : Fin k0_t1_loop.trips) : BitVec 32 :=
  let c0_i32_12 : BitVec 32 := 0#32
  let c1_i32 : BitVec 32 := 1#32
  let arg16 : BitVec 32 := Scf.iv c0_i32_12 c1_i32 k0_t1
  let c512_i32 : BitVec 32 := 512#32
  let v25 : BitVec 32 := Scalar.muli arg16 c512_i32
  v25
def k0_off1 (k0_t1 : Fin k0_t1_loop.trips) : Fin 2 → Nat :=
  let c0_i32_12 : BitVec 32 := 0#32
  let c1_i32 : BitVec 32 := 1#32
  let arg16 : BitVec 32 := Scf.iv c0_i32_12 c1_i32 k0_t1
  let c512_i32 : BitVec 32 := 512#32
  let v25 : BitVec 32 := Scalar.muli arg16 c512_i32
  let v26 : BitVec 32 := v25
  let v27 : Index := Scalar.indexCast v26
  let c0_15 : Index := 0#32
  ![v27.toNat, 0]
def k0_mult2 (k0_t1 : Fin k0_t1_loop.trips) : BitVec 32 :=
  let c0_i32_12 : BitVec 32 := 0#32
  let c1_i32 : BitVec 32 := 1#32
  let arg16 : BitVec 32 := Scf.iv c0_i32_12 c1_i32 k0_t1
  let c512_i32_19 : BitVec 32 := 512#32
  let v35 : BitVec 32 := Scalar.muli arg16 c512_i32_19
  v35
def k0_off2 (k0_t1 : Fin k0_t1_loop.trips) : Fin 2 → Nat :=
  let c0_20 : Index := 0#32
  let c0_i32_12 : BitVec 32 := 0#32
  let c1_i32 : BitVec 32 := 1#32
  let arg16 : BitVec 32 := Scf.iv c0_i32_12 c1_i32 k0_t1
  let c512_i32_19 : BitVec 32 := 512#32
  let v35 : BitVec 32 := Scalar.muli arg16 c512_i32_19
  let v36 : BitVec 32 := v35
  let v37 : Index := Scalar.indexCast v36
  ![0, v37.toNat]
def k0_off3 (k0_t1 : Fin k0_t1_loop.trips) : Fin 2 → Nat :=
  let c0_26 : Index := 0#32
  let c0_i32_12 : BitVec 32 := 0#32
  let c1_i32 : BitVec 32 := 1#32
  let arg16 : BitVec 32 := Scf.iv c0_i32_12 c1_i32 k0_t1
  let c512_i32_19 : BitVec 32 := 512#32
  let v35 : BitVec 32 := Scalar.muli arg16 c512_i32_19
  let v36 : BitVec 32 := v35
  let v62 : Index := Scalar.indexCast v36
  ![0, v62.toNat]
def k0_cond5 (i : grid0.Coords) : BitVec 1 :=
  let arg0 : BitVec 32 := BitVec.ofNat 32 (i 0).val
  let c12_i32_5 : BitVec 32 := 12#32
  let v11 : BitVec 1 := Scalar.cmpi .sge arg0 c12_i32_5
  let v12 : BitVec 32 := Scalar.extui v11
  let c0_i32_6 : BitVec 32 := 0#32
  let v13 : BitVec 1 := Scalar.cmpi .ne v12 c0_i32_6
  v13

@[reducible] def k0_t2_loop : Scf.Loop 32 :=
  let c0_i32_28 : BitVec 32 := 0#32
  let c8_i32 : BitVec 32 := 8#32
  let v173 : BitVec 32 := Scalar.addi c0_i32_28 c8_i32
  let c1_i32 : BitVec 32 := 1#32
  ⟨c0_i32_28, v173, c1_i32⟩
def k0_mult3 (k0_t2 : Fin k0_t2_loop.trips) : BitVec 32 :=
  let c0_i32_28 : BitVec 32 := 0#32
  let c1_i32 : BitVec 32 := 1#32
  let arg16 : BitVec 32 := Scf.iv c0_i32_28 c1_i32 k0_t2
  let c512_i32 : BitVec 32 := 512#32
  let v177 : BitVec 32 := Scalar.muli arg16 c512_i32
  v177
def k0_off4 (k0_t2 : Fin k0_t2_loop.trips) : Fin 2 → Nat :=
  let c0_i32_28 : BitVec 32 := 0#32
  let c1_i32 : BitVec 32 := 1#32
  let arg16 : BitVec 32 := Scf.iv c0_i32_28 c1_i32 k0_t2
  let c512_i32 : BitVec 32 := 512#32
  let v177 : BitVec 32 := Scalar.muli arg16 c512_i32
  let v178 : BitVec 32 := v177
  let v179 : Index := Scalar.indexCast v178
  let c0_31 : Index := 0#32
  ![v179.toNat, 0]
def k0_mult4 (k0_t2 : Fin k0_t2_loop.trips) : BitVec 32 :=
  let c0_i32_28 : BitVec 32 := 0#32
  let c1_i32 : BitVec 32 := 1#32
  let arg16 : BitVec 32 := Scf.iv c0_i32_28 c1_i32 k0_t2
  let c512_i32_35 : BitVec 32 := 512#32
  let v186 : BitVec 32 := Scalar.muli arg16 c512_i32_35
  v186
def k0_off5 (k0_t2 : Fin k0_t2_loop.trips) : Fin 2 → Nat :=
  let c0_36 : Index := 0#32
  let c0_i32_28 : BitVec 32 := 0#32
  let c1_i32 : BitVec 32 := 1#32
  let arg16 : BitVec 32 := Scf.iv c0_i32_28 c1_i32 k0_t2
  let c512_i32_35 : BitVec 32 := 512#32
  let v186 : BitVec 32 := Scalar.muli arg16 c512_i32_35
  let v187 : BitVec 32 := v186
  let v188 : Index := Scalar.indexCast v187
  ![0, v188.toNat]
def k0_off6 (k0_t2 : Fin k0_t2_loop.trips) : Fin 2 → Nat :=
  let c0_42 : Index := 0#32
  let c0_i32_28 : BitVec 32 := 0#32
  let c1_i32 : BitVec 32 := 1#32
  let arg16 : BitVec 32 := Scf.iv c0_i32_28 c1_i32 k0_t2
  let c512_i32_35 : BitVec 32 := 512#32
  let v186 : BitVec 32 := Scalar.muli arg16 c512_i32_35
  let v187 : BitVec 32 := v186
  let v213 : Index := Scalar.indexCast v187
  ![0, v213.toNat]
def k0_cond6 (i : grid0.Coords) : BitVec 1 :=
  let arg0 : BitVec 32 := BitVec.ofNat 32 (i 0).val
  let c103_i32 : BitVec 32 := 103#32
  let v174 : BitVec 1 := Scalar.cmpi .eq arg0 c103_i32
  let v175 : BitVec 32 := Scalar.extui v174
  let c0_i32_30 : BitVec 32 := 0#32
  let v176 : BitVec 1 := Scalar.cmpi .ne v175 c0_i32_30
  v176

def k0_cond4 (i : grid0.Coords) : BitVec 1 :=
  let arg0 : BitVec 32 := BitVec.ofNat 32 (i 0).val
  let c11_i32 : BitVec 32 := 11#32
  let v22 : BitVec 1 := Scalar.cmpi .eq arg0 c11_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S480x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S480x8 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x256x1024 : Shape := ⟨3, ![16, 256, 1024]⟩
abbrev S6144x1024 : Shape := ⟨2, ![6144, 1024]⟩
abbrev S6144 : Shape := ⟨1, ![6144]⟩
abbrev S44160x512 : Shape := ⟨2, ![44160, 512]⟩
abbrev S44160x8 : Shape := ⟨2, ![44160, 8]⟩
abbrev S16x256 : Shape := ⟨2, ![16, 256]⟩
abbrev S16x256x6144 : Shape := ⟨3, ![16, 256, 6144]⟩
abbrev S1x1x6144 : Shape := ⟨3, ![1, 1, 6144]⟩
abbrev S_ : Shape := ⟨0, ![]⟩
abbrev S44160x8x64 : Shape := ⟨3, ![44160, 8, 64]⟩
abbrev S44160x8x1 : Shape := ⟨3, ![44160, 8, 1]⟩
abbrev S16x256x512 : Shape := ⟨3, ![16, 256, 512]⟩
abbrev S16x256x44160 : Shape := ⟨3, ![16, 256, 44160]⟩
abbrev S16x256x1 : Shape := ⟨3, ![16, 256, 1]⟩
abbrev S16x256x1x1 : Shape := ⟨4, ![16, 256, 1, 1]⟩
abbrev S1 : Shape := ⟨1, ![1]⟩
abbrev S1x1x1x1 : Shape := ⟨4, ![1, 1, 1, 1]⟩
abbrev S1x4096 : Shape := ⟨2, ![1, 4096]⟩

abbrev nBuf : Space → Nat
  | .hbm => 157
  | .vmem => 2
  | .smem => 0
  | _ => 0

abbrev hbmTy0_0 (i : Nat) : BufTy := match i % 128 with
  | 0 => ⟨S16x256x1024, .bf16⟩
  | 1 => ⟨S6144x1024, .fp8e4m3⟩
  | 2 => ⟨S6144, .f32⟩
  | 3 => ⟨S44160x512, .i8⟩
  | 4 => ⟨S44160x8, .bf16⟩
  | 5 => ⟨S16x256, .i32⟩
  | 6 => ⟨S6144x1024, .bf16⟩
  | 7 => ⟨S16x256x6144, .f32⟩
  | 8 => ⟨S1x1x6144, .f32⟩
  | 9 => ⟨S16x256x6144, .f32⟩
  | 10 => ⟨S16x256x6144, .f32⟩
  | 11 => ⟨S44160x512, .i32⟩
  | 12 => ⟨S_, .i32⟩
  | 13 => ⟨S44160x512, .i32⟩
  | 14 => ⟨S44160x512, .i32⟩
  | 15 => ⟨S_, .i32⟩
  | 16 => ⟨S44160x512, .i32⟩
  | 17 => ⟨S44160x512, .i32⟩
  | 18 => ⟨S_, .i32⟩
  | 19 => ⟨S44160x512, .i32⟩
  | 20 => ⟨S44160x512, .i1⟩
  | 21 => ⟨S_, .i32⟩
  | 22 => ⟨S44160x512, .i32⟩
  | 23 => ⟨S44160x512, .i32⟩
  | 24 => ⟨S44160x512, .i32⟩
  | 25 => ⟨S_, .i32⟩
  | 26 => ⟨S44160x512, .i32⟩
  | 27 => ⟨S44160x512, .i1⟩
  | 28 => ⟨S_, .i32⟩
  | 29 => ⟨S44160x512, .i32⟩
  | 30 => ⟨S44160x512, .i32⟩
  | 31 => ⟨S44160x512, .i32⟩
  | 32 => ⟨S44160x512, .bf16⟩
  | 33 => ⟨S44160x8x64, .bf16⟩
  | 34 => ⟨S44160x8x1, .bf16⟩
  | 35 => ⟨S44160x8x64, .bf16⟩
  | 36 => ⟨S44160x8x64, .bf16⟩
  | 37 => ⟨S44160x512, .bf16⟩
  | 38 => ⟨S44160x512, .bf16⟩
  | 39 => ⟨S44160x8x64, .bf16⟩
  | 40 => ⟨S44160x8x1, .bf16⟩
  | 41 => ⟨S44160x8x64, .bf16⟩
  | 42 => ⟨S44160x8x64, .bf16⟩
  | 43 => ⟨S44160x512, .bf16⟩
  | 44 => ⟨S16x256x512, .bf16⟩
  | 45 => ⟨S16x256x44160, .f32⟩
  | 46 => ⟨S16x256x512, .bf16⟩
  | 47 => ⟨S16x256x44160, .f32⟩
  | 48 => ⟨S16x256x44160, .f32⟩
  | 49 => ⟨S_, .f32⟩
  | 50 => ⟨S16x256, .f32⟩
  | 51 => ⟨S16x256x1, .f32⟩
  | 52 => ⟨S16x256, .f32⟩
  | 53 => ⟨S16x256x6144, .f32⟩
  | 54 => ⟨S16x256x6144, .f32⟩
  | 55 => ⟨S16x256x6144, .f32⟩
  | 56 => ⟨S_, .f32⟩
  | 57 => ⟨S16x256, .f32⟩
  | 58 => ⟨S16x256, .f32⟩
  | 59 => ⟨S16x256, .f32⟩
  | 60 => ⟨S_, .f32⟩
  | 61 => ⟨S16x256, .f32⟩
  | 62 => ⟨S16x256x1, .f32⟩
  | 63 => ⟨S16x256, .f32⟩
  | 64 => ⟨S16x256x44160, .f32⟩
  | 65 => ⟨S16x256x44160, .f32⟩
  | 66 => ⟨S16x256x44160, .f32⟩
  | 67 => ⟨S_, .f32⟩
  | 68 => ⟨S16x256, .f32⟩
  | 69 => ⟨S16x256, .f32⟩
  | 70 => ⟨S16x256, .f32⟩
  | 71 => ⟨S16x256, .f32⟩
  | 72 => ⟨S16x256, .f32⟩
  | 73 => ⟨S16x256, .i1⟩
  | 74 => ⟨S16x256, .f32⟩
  | 75 => ⟨S16x256, .f32⟩
  | 76 => ⟨S16x256, .f32⟩
  | 77 => ⟨S16x256, .f32⟩
  | 78 => ⟨S16x256, .f32⟩
  | 79 => ⟨S16x256, .f32⟩
  | 80 => ⟨S16x256, .f32⟩
  | 81 => ⟨S_, .i32⟩
  | 82 => ⟨S_, .i32⟩
  | 83 => ⟨S_, .i32⟩
  | 84 => ⟨S16x256, .i32⟩
  | 85 => ⟨S16x256, .i32⟩
  | 86 => ⟨S_, .i32⟩
  | 87 => ⟨S16x256, .i32⟩
  | 88 => ⟨S16x256, .i32⟩
  | 89 => ⟨S_, .i32⟩
  | 90 => ⟨S16x256, .i32⟩
  | 91 => ⟨S16x256, .i32⟩
  | 92 => ⟨S_, .i32⟩
  | 93 => ⟨S_, .i32⟩
  | 94 => ⟨S_, .i32⟩
  | 95 => ⟨S16x256, .i32⟩
  | 96 => ⟨S16x256, .i32⟩
  | 97 => ⟨S_, .i32⟩
  | 98 => ⟨S16x256, .i32⟩
  | 99 => ⟨S16x256, .i32⟩
  | 100 => ⟨S16x256x1, .i32⟩
  | 101 => ⟨S_, .i32⟩
  | 102 => ⟨S16x256x1, .i32⟩
  | 103 => ⟨S16x256x1, .i1⟩
  | 104 => ⟨S_, .i32⟩
  | 105 => ⟨S16x256x1, .i32⟩
  | 106 => ⟨S16x256x1, .i32⟩
  | 107 => ⟨S16x256x1, .i32⟩
  | 108 => ⟨S16x256x1x1, .i32⟩
  | 109 => ⟨S1, .i32⟩
  | 110 => ⟨S_, .i32⟩
  | 111 => ⟨S16x256x1x1, .i32⟩
  | 112 => ⟨S16x256x1x1, .i1⟩
  | 113 => ⟨S1x1x1x1, .i32⟩
  | 114 => ⟨S16x256x1x1, .i32⟩
  | 115 => ⟨S16x256x1x1, .i1⟩
  | 116 => ⟨S16x256x1x1, .i1⟩
  | 117 => ⟨S_, .i1⟩
  | 118 => ⟨S16x256x1, .i1⟩
  | 119 => ⟨S16x256x1, .f32⟩
  | 120 => ⟨S_, .f32⟩
  | 121 => ⟨S16x256x1, .f32⟩
  | 122 => ⟨S16x256x1, .f32⟩
  | 123 => ⟨S16x256, .f32⟩
  | 124 => ⟨S16x256x1, .i32⟩
  | 125 => ⟨S_, .i32⟩
  | 126 => ⟨S16x256x1, .i32⟩
  | 127 => ⟨S16x256x1, .i1⟩
  | _ => ⟨S16x256x1024, .bf16⟩

abbrev hbmTy0_1 (i : Nat) : BufTy := match i % 128 with
  | 0 => ⟨S_, .i32⟩
  | 1 => ⟨S16x256x1, .i32⟩
  | 2 => ⟨S16x256x1, .i32⟩
  | 3 => ⟨S16x256x1, .i32⟩
  | 4 => ⟨S16x256x1x1, .i32⟩
  | 5 => ⟨S1, .i32⟩
  | 6 => ⟨S_, .i32⟩
  | 7 => ⟨S16x256x1x1, .i32⟩
  | 8 => ⟨S16x256x1x1, .i1⟩
  | 9 => ⟨S1x1x1x1, .i32⟩
  | 10 => ⟨S16x256x1x1, .i32⟩
  | 11 => ⟨S16x256x1x1, .i1⟩
  | 12 => ⟨S16x256x1x1, .i1⟩
  | 13 => ⟨S_, .i1⟩
  | 14 => ⟨S16x256x1, .i1⟩
  | 15 => ⟨S16x256x1, .f32⟩
  | 16 => ⟨S_, .f32⟩
  | 17 => ⟨S16x256x1, .f32⟩
  | 18 => ⟨S16x256x1, .f32⟩
  | 19 => ⟨S16x256, .f32⟩
  | 20 => ⟨S_, .i32⟩
  | 21 => ⟨S16x256, .i32⟩
  | 22 => ⟨S16x256, .i1⟩
  | 23 => ⟨S16x256, .f32⟩
  | 24 => ⟨S16x256, .f32⟩
  | 25 => ⟨S1x4096, .f32⟩
  | 26 => ⟨S1x4096, .f32⟩
  | 27 => ⟨S1x4096, .f32⟩
  | 28 => ⟨S1x4096, .f32⟩
  | _ => ⟨S16x256x1024, .bf16⟩

abbrev hbmTy (i : Nat) : BufTy := match i / 128 with
  | 0 => hbmTy0_0 i
  | 1 => hbmTy0_1 i
  | _ => ⟨S16x256x1024, .bf16⟩

abbrev bufTy : (tb : Table) → Fin (tcTables nBuf tb) → BufTy
  | .hbm, ⟨i, _⟩ => hbmTy i
  | .local _ .vmem, ⟨0, _⟩ => ⟨S6144x1024, .fp8e4m3⟩
  | .local _ .vmem, ⟨1, _⟩ => ⟨S6144x1024, .bf16⟩
  | _, _ => ⟨S16x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_8 : Ref sig .tc := ⟨.hbm, 81, rfl⟩
abbrev main_c_9 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v65 : Ref sig .tc := ⟨.hbm, 88, rfl⟩
abbrev main_c_10 : Ref sig .tc := ⟨.hbm, 89, rfl⟩
abbrev main_v66 : Ref sig .tc := ⟨.hbm, 90, rfl⟩
abbrev main_v67 : Ref sig .tc := ⟨.hbm, 91, rfl⟩
abbrev main_c_11 : Ref sig .tc := ⟨.hbm, 92, rfl⟩
abbrev main_c_12 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v68 : Ref sig .tc := ⟨.hbm, 99, rfl⟩
abbrev main_v69 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_cst : Ref sig .tc := ⟨.hbm, 120, rfl⟩
abbrev main_call4_v14 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_call5_c : Ref sig .tc := ⟨.hbm, 125, rfl⟩
abbrev main_call5_v0 : Ref sig .tc := ⟨.hbm, 126, rfl⟩
abbrev main_call5_v1 : Ref sig .tc := ⟨.hbm, 127, rfl⟩
abbrev main_call5_c_0 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_v5 : Ref sig .tc := ⟨.hbm, 132, rfl⟩
abbrev main_call5_c_1 : Ref sig .tc := ⟨.hbm, 133, rfl⟩
abbrev main_call5_c_2 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_c_3 : Ref sig .tc := ⟨.hbm, 141, rfl⟩
abbrev main_call5_v12 : Ref sig .tc := ⟨.hbm, 142, rfl⟩
abbrev main_call5_v13 : Ref sig .tc := ⟨.hbm, 143, rfl⟩
abbrev main_call5_cst : Ref sig .tc := ⟨.hbm, 144, rfl⟩
abbrev main_call5_v14 : Ref sig .tc := ⟨.hbm, 145, rfl⟩
abbrev main_v73 : Ref sig .tc := ⟨.hbm, 146, rfl⟩
abbrev main_v74 : Ref sig .tc := ⟨.hbm, 147, rfl⟩
abbrev main_c_13 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6144x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.BitsCells.lean ====
module

public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section
namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 104 = 0 :=
  (fun t => by
    have ht : t.val < 104 := Nat.lt_of_lt_of_eq t.isLt N_0
    have e0 : (grid0.coords t 0).val = t.val / 1 % 104 := Pipeline.Grid.coords_val t 0 (by decide) rfl
    simp only [cond0_0, e0]
    word_cmp
   : ∀ t : Fin grid0.N, cond0_0 (grid0.coords t) ↔ t.val % 104 = 0)

/-- The condition of the body's `scf.if` 1 (`k0_h2`), from the grid coordinates (the skeleton's scalar
    chain substituted). -/
abbrev cond0_1 (i : grid0.Coords) : Prop := (Scalar.cmpi .ne (Scalar.extui (Scalar.ori (Scalar.cmpi .eq (BitVec.ofNat 32 (i 0).val) 0#32) (Scalar.cmpi .eq (BitVec.ofNat 32 (i 0).val) 12#32))) 0#32) = 1#1
/-- It holds at points 0 and 12 only — by arithmetic of the point. -/
theorem hcond0_1 : ∀ t : Fin cfg0.N, cond0_1 (grid0.coords t) ↔ (t.val % 104 = 0 ∨ t.val % 104 = 12) :=
  (fun t => by
    have ht : t.val < 104 := Nat.lt_of_lt_of_eq t.isLt N_0
    have e0 : (grid0.coords t 0).val = t.val / 1 % 104 := Pipeline.Grid.coords_val t 0 (by decide) rfl
    simp only [cond0_1, e0]
    word_cmp
   : ∀ t : Fin grid0.N, cond0_1 (grid0.coords t) ↔ (t.val % 104 = 0 ∨ t.val % 104 = 12))

/-- The condition of the body's `scf.if` 2 (`k0_h3`), from the grid coordinates (the skeleton's scalar
    chain substituted). -/
abbrev cond0_2 (i : grid0.Coords) : Prop := k0_cond3 i = 1#1
/-- It holds at the points before point 12 — decided over the grid. -/
theorem hcond0_2 : ∀ t : Fin cfg0.N, cond0_2 (grid0.coords t) ↔ t.val < 12 :=
  (by decide +kernel : ∀ t : Fin grid0.N, cond0_2 (grid0.coords t) ↔ t.val < 12)

/-- The condition of the body's `scf.if` 3 (`k0_h4`), from the grid coordinates (the skeleton's scalar
    chain substituted). -/
abbrev cond0_3 (i : grid0.Coords) : Prop := k0_cond4 i = 1#1
/-- It holds at point 11 only — by arithmetic of the point. -/
theorem hcond0_3 : ∀ t : Fin cfg0.N, cond0_3 (grid0.coords t) ↔ t.val % 104 = 11 :=
  (fun t => by
    have ht : t.val < 104 := Nat.lt_of_lt_of_eq t.isLt N_0
    have e0 : (grid0.coords t 0).val = t.val / 1 % 104 := Pipeline.Grid.coords_val t 0 (by decide) rfl
    simp only [cond0_3, k0_cond4, e0]
    word_cmp
   : ∀ t : Fin grid0.N, cond0_3 (grid0.coords t) ↔ t.val % 104 = 11)

/-- The condition of the body's `scf.if` 4 (`k0_h5`), from the grid coordinates (the skeleton's scalar
    chain substituted). -/
abbrev cond0_4 (i : grid0.Coords) : Prop := k0_cond5 i = 1#1
/-- It holds at the points from point 12 on — decided over the grid. -/
theorem hcond0_4 : ∀ t : Fin cfg0.N, cond0_4 (grid0.coords t) ↔ 12 ≤ t.val :=
  (by decide +kernel : ∀ t : Fin grid0.N, cond0_4 (grid0.coords t) ↔ 12 ≤ t.val)

/-- The condition of the body's `scf.if` 5 (`k0_h6`), from the grid coordinates (the skeleton's scalar
    chain substituted). -/
abbrev cond0_5 (i : grid0.Coords) : Prop := k0_cond6 i = 1#1
/-- It holds at the last point only — by arithmetic of the point. -/
theorem hcond0_5 : ∀ t : Fin cfg0.N, cond0_5 (grid0.coords t) ↔ t.val % 104 = 103 :=
  (fun t => by
    have ht : t.val < 104 := Nat.lt_of_lt_of_eq t.isLt N_0
    have e0 : (grid0.coords t 0).val = t.val / 1 % 104 := Pipeline.Grid.coords_val t 0 (by decide) rfl
    simp only [cond0_5, k0_cond6, e0]
    word_cmp
   : ∀ t : Fin grid0.N, cond0_5 (grid0.coords t) ↔ t.val % 104 = 103)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4096x1024 .bf16 := win0_0.stage (cfg0.slots t 0)
/-- Window 0's staging memref is whole. -/
abbrev hs0_0 (t : Fin cfg0.N) : (ms0_0 t).IsWhole := hstage0_0 ((cfg0.slots t 0).cast nbuf0_0)
/-- Window 1's staging memref at point `t`. -/
abbrev ms0_1 (t : Fin cfg0.N) : Memref sig .tc .vmem S512x1024 .fp8e4m3 := win0_1.stage (cfg0.slots t 1)
/-- Window 1's staging memref is whole. -/
abbrev hs0_1 (t : Fin cfg0.N) : (ms0_1 t).IsWhole := hstage0_1 ((cfg0.slots t 1).cast nbuf0_1)
/-- Window 2's staging memref at point `t`. -/
abbrev ms0_2 (t : Fin cfg0.N) : Memref sig .tc .vmem S512x1 .f32 := win0_2.stage (cfg0.slots t 2)
/-- Window 2's staging memref is whole. -/
abbrev hs0_2 (t : Fin cfg0.N) : (ms0_2 t).IsWhole := hstage0_2 ((cfg0.slots t 2).cast nbuf0_2)
/-- Window 3's staging memref at point `t`. -/
abbrev ms0_3 (t : Fin cfg0.N) : Memref sig .tc .vmem S480x512 .i8 := win0_3.stage (cfg0.slots t 3)
/-- Window 3's staging memref is whole. -/
abbrev hs0_3 (t : Fin cfg0.N) : (ms0_3 t).IsWhole := hstage0_3 ((cfg0.slots t 3).cast nbuf0_3)
/-- Window 4's staging memref at point `t`. -/
abbrev ms0_4 (t : Fin cfg0.N) : Memref sig .tc .vmem S480x8 .bf16 := win0_4.stage (cfg0.slots t 4)
/-- Window 4's staging memref is whole. -/
abbrev hs0_4 (t : Fin cfg0.N) : (ms0_4 t).IsWhole := hstage0_4 ((cfg0.slots t 4).cast nbuf0_4)
/-- Window 5's staging memref at point `t`. -/
abbrev ms0_5 (t : Fin cfg0.N) : Memref sig .tc .vmem S1x4096 .i32 := win0_5.stage (cfg0.slots t 5)
/-- Window 5's staging memref is whole. -/
abbrev hs0_5 (t : Fin cfg0.N) : (ms0_5 t).IsWhole := hstage0_5 ((cfg0.slots t 5).cast nbuf0_5)
/-- Window 6's staging memref at point `t`. -/
abbrev ms0_6 (t : Fin cfg0.N) : Memref sig .tc .vmem S1x4096 .f32 := win0_6.stage (cfg0.slots t 6)
/-- Window 6's staging memref is whole. -/
abbrev hs0_6 (t : Fin cfg0.N) : (ms0_6 t).IsWhole := hstage0_6 ((cfg0.slots t 6).cast nbuf0_6)
/-- Window 7's staging memref at point `t`. -/
abbrev ms0_7 (t : Fin cfg0.N) : Memref sig .tc .vmem S1x4096 .f32 := win0_7.stage (cfg0.slots t 7)
/-- Window 7's staging memref is whole. -/
abbrev hs0_7 (t : Fin cfg0.N) : (ms0_7 t).IsWhole := hstage0_7 ((cfg0.slots t 7).cast nbuf0_7)
/-- Window 8's staging memref at point `t`. -/
abbrev ms0_8 (t : Fin cfg0.N) : Memref sig .tc .vmem S1x4096 .f32 := win0_8.stage (cfg0.slots t 8)
/-- Window 8's staging memref is whole. -/
abbrev hs0_8 (t : Fin cfg0.N) : (ms0_8 t).IsWhole := hstage0_8 ((cfg0.slots t 8).cast nbuf0_8)
/-- Window 9's staging memref at point `t`. -/
abbrev ms0_9 (t : Fin cfg0.N) : Memref sig .tc .vmem S1x4096 .f32 := win0_9.stage (cfg0.slots t 9)
/-- Window 9's staging memref is whole. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4096x1024 .bf16 := Memref.whole cc0_scratch0
/-- The scratch of unpacked weights. -/
abbrev scM0_1 : Memref sig .tc .vmem S512x1024 .bf16 := Memref.whole cc0_scratch1
/-- The scratch of running maxima. -/
abbrev scM0_2 : Memref sig .tc .vmem S8x4096 .f32 := Memref.whole cc0_scratch2
/-- The scratch of running sums. -/
abbrev scM0_3 : Memref sig .tc .vmem S8x4096 .f32 := Memref.whole cc0_scratch3
/-- The scratch of target scores. -/
abbrev scM0_4 : Memref sig .tc .vmem S8x4096 .f32 := Memref.whole cc0_scratch4
/-- The scratch `arg11` the kernel carries between points, as a view: what it holds is stated through it. -/
abbrev VS0_0 : View sig .tc .vmem S4096x1024 .bf16 := scM0_0.view
/-- The scratch `arg12` the kernel carries between points, as a view: what it holds is stated through it. -/
abbrev VS0_1 : View sig .tc .vmem S512x1024 .bf16 := scM0_1.view
/-- The scratch `arg13` the kernel carries between points, as a view: what it holds is stated through it. -/
abbrev VS0_2 : View sig .tc .vmem S8x4096 .f32 := scM0_2.view
/-- The scratch `arg14` the kernel carries between points, as a view: what it holds is stated through it. -/
abbrev VS0_3 : View sig .tc .vmem S8x4096 .f32 := scM0_3.view
/-- The scratch `arg15` the kernel carries between points, as a view: what it holds is stated through it. -/
abbrev VS0_4 : View sig .tc .vmem S8x4096 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.BitsRunA.lean ====
module

public import proofs.«01_k».proof.Proof.BitsCells

@[expose] public section

/-! What the kernel's body does at the first point, whatever its numbers. -/

set_option maxRecDepth 16384

noncomputable section

namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1224000 in
/-- The body at point 0: unpack `x`, reset the sums, run the head tile. The lists are the pieces its stores leave in each buffer, last first, and the
    triple says so. -/
noncomputable def runA (hc0 : cond0_0 i) (hc1 : cond0_1 i) (hc2 : cond0_2 i) (hc3 : ¬cond0_3 i) (hc4 : ¬cond0_4 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) :
    Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            (∃ d, owns (c : Thread nD τ) arg11 fullShare d) ∗
            (∃ d, owns (c : Thread nD τ) arg12 fullShare d) ∗
            (∃ d, owns (c : Thread nD τ) arg13 fullShare d) ∗
            (∃ d, owns (c : Thread nD τ) arg14 fullShare d) ∗
            (∃ d, owns (c : Thread nD τ) arg15 fullShare d)
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            (∃ f, arg11.view.loc (c : Thread nD τ) ↦[arg11.view.set]{fullShare} arg11.view.writes (Elt F) f LS0) ∗
            (∃ f, arg12.view.loc (c : Thread nD τ) ↦[arg12.view.set]{fullShare} arg12.view.writes (Elt F) f LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_two_tier_lse_eq_skeleton]; unfold cc0_two_tier_lse_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _; isplitr; · ipureintro; exact harg9.read_unread _
      iexact H8
    isplitl [H9]
    · iexists _, _; isplitr; swap; · iexact H9
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.BitsRunB.lean ====
module

public import proofs.«01_k».proof.Proof.BitsRunA

@[expose] public section

/-! What the kernel's body does at a head tile in the middle, whatever its numbers. -/

set_option maxRecDepth 16384

noncomputable section

namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1200000 in
/-- The body at points 1 to 10: a head tile. The lists are the pieces its stores leave in each buffer, last first, and the
    triple says so. -/
noncomputable def runB (hc0 : ¬cond0_0 i) (hc1 : ¬cond0_1 i) (hc2 : cond0_2 i) (hc3 : ¬cond0_3 i) (hc4 : ¬cond0_4 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) (xs0 : Vec F S4096x1024 .bf16) (xs2 : Vec F S8x4096 .f32) (xs3 : Vec F S8x4096 .f32) (xs4 : Vec F S8x4096 .f32) :
    Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            (∃ d, owns (c : Thread nD τ) arg12 fullShare d) ∗
            owns (c : Thread nD τ) arg13 fullShare xs2 ∗
            owns (c : Thread nD τ) arg14 fullShare xs3 ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            (∃ f, arg12.view.loc (c : Thread nD τ) ↦[arg12.view.set]{fullShare} arg12.view.writes (Elt F) f LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, fun E K => ?run⟩
  case run =>
    simp only [cc0_two_tier_lse_eq_skeleton]; unfold cc0_two_tier_lse_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%fs0, %hfs0, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg11.eq_unread hfs0; obtain rfl := harg13.eq_unread hfs2; obtain rfl := harg14.eq_unread hfs3; obtain rfl := harg15.eq_unread hfs4
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _; isplitr; · ipureintro; exact harg9.read_unread _
      iexact H8
    isplitl [H9]
    · iexists _, _; isplitr; swap; · iexact H9
      ipureintro; rfl
    isplitl [HS0]
    · iexists _; isplitr; · ipureintro; exact harg11.read_unread _
      iexact HS0
    isplitl [HS1]; · iexists _; iexact HS1
    isplitl [HS2]; · iexists _; iexact HS2
    isplitl [HS3]; · iexists _; iexact HS3
    iexists _; iexact HS4

end Cert.Kernel.Hand

end
-- ==== Proof.BitsRunC.lean ====
module

public import proofs.«01_k».proof.Proof.BitsRunB

@[expose] public section

/-! What the kernel's body does at the last head tile, whatever its numbers. -/

set_option maxRecDepth 16384

noncomputable section

namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1200000 in
/-- The body at point 11: the last head tile, which stores the head's log-sum-exp. The lists are the pieces its stores leave in each buffer, last first, and the
    triple says so. -/
noncomputable def runC (hc0 : ¬cond0_0 i) (hc1 : ¬cond0_1 i) (hc2 : cond0_2 i) (hc3 : cond0_3 i) (hc4 : ¬cond0_4 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (xs0 : Vec F S4096x1024 .bf16) (xs2 : Vec F S8x4096 .f32) (xs3 : Vec F S8x4096 .f32) (xs4 : Vec F S8x4096 .f32) :
    Σ' (L8 : List (View.Piece (Elt F) S1x4096 .f32)), Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            (∃ d, owns (c : Thread nD τ) arg9 fullShare d) ∗
            (∃ d, owns (c : Thread nD τ) arg10 fullShare d) ∗
            owns (c : Thread nD τ) arg11 fullShare xs0 ∗
            (∃ d, owns (c : Thread nD τ) arg12 fullShare d) ∗
            owns (c : Thread nD τ) arg13 fullShare xs2 ∗
            owns (c : Thread nD τ) arg14 fullShare xs3 ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            (∃ f, arg9.view.loc (c : Thread nD τ) ↦[arg9.view.set]{fullShare} arg9.view.writes (Elt F) f L8) ∗
            (∃ d, owns (c : Thread nD τ) arg10 fullShare d) ∗
            owns (c : Thread nD τ) arg11 fullShare xs0 ∗
            (∃ f, arg12.view.loc (c : Thread nD τ) ↦[arg12.view.set]{fullShare} arg12.view.writes (Elt F) f LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, ?_, ?_, ?_, fun E K => ?run⟩
  case run =>
    simp only [cc0_two_tier_lse_eq_skeleton]; unfold cc0_two_tier_lse_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0; obtain rfl := harg13.eq_unread hfs2; obtain rfl := harg14.eq_unread hfs3; obtain rfl := harg15.eq_unread hfs4
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]; · iexists _; iexact H8
    isplitl [H9]
    · iexists _, _; isplitr; swap; · iexact H9
      ipureintro; rfl
    isplitl [HS0]
    · iexists _; isplitr; · ipureintro; exact harg11.read_unread _
      iexact HS0
    isplitl [HS1]; · iexists _; iexact HS1
    isplitl [HS2]; · iexists _; iexact HS2
    isplitl [HS3]; · iexists _; iexact HS3
    iexists _; iexact HS4

end Cert.Kernel.Hand

end
-- ==== Proof.BitsRunD.lean ====
module

public import proofs.«01_k».proof.Proof.BitsRunC

@[expose] public section

/-! What the kernel's body does at the first tail tile, whatever its numbers. -/

set_option maxRecDepth 16384

noncomputable section

namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1200000 in
/-- The body at point 12: reset the running maxima and sums, run a tail tile. The lists are the pieces its stores leave in each buffer, last first, and the
    triple says so. -/
noncomputable def runD (hc0 : ¬cond0_0 i) (hc1 : cond0_1 i) (hc2 : ¬cond0_2 i) (hc4 : cond0_4 i) (hc5 : ¬cond0_5 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) (xs0 : Vec F S4096x1024 .bf16) (xs1 : Vec F S512x1024 .bf16) (xs4 : Vec F S8x4096 .f32) :
    Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            owns (c : Thread nD τ) arg12 fullShare xs1 ∗
            (∃ d, owns (c : Thread nD τ) arg13 fullShare d) ∗
            (∃ d, owns (c : Thread nD τ) arg14 fullShare d) ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗ (arg12.view.loc (c : Thread nD τ) ↦[arg12.view.set]{fullShare} arg12.view.writes (Elt F) (harg12.unread xs1) LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, fun E K => ?run⟩
  case run =>
    simp only [cc0_two_tier_lse_eq_skeleton]; unfold cc0_two_tier_lse_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%fs0, %hfs0, HS0⟩, ⟨%fs1, %hfs1, HS1⟩, ⟨%ds2, %fs2, -, HS2⟩, ⟨%ds3, %fs3, -, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg11.eq_unread hfs0; obtain rfl := harg12.eq_unread hfs1; obtain rfl := harg15.eq_unread hfs4
    sl_exec (disch := first | sl_exact hc0 | sl_exact hc1 | sl_exact hc2 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _; isplitr; · ipureintro; exact harg9.read_unread _
      iexact H8
    isplitl [H9]
    · iexists _, _; isplitr; swap; · iexact H9
      ipureintro; rfl
    isplitl [HS0]
    · iexists _; isplitr; · ipureintro; exact harg11.read_unread _
      iexact HS0
    isplitl [HS1]; · iexact HS1
    isplitl [HS2]; · iexists _; iexact HS2
    isplitl [HS3]; · iexists _; iexact HS3
    iexists _; iexact HS4

end Cert.Kernel.Hand

end
-- ==== Proof.BitsRunE.lean ====
module

public import proofs.«01_k».proof.Proof.BitsRunD

@[expose] public section

/-! What the kernel's body does at a tail tile in the middle, whatever its numbers. -/

set_option maxRecDepth 16384

noncomputable section

namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1600000 in
/-- The body at points 13 to 102: a tail tile. The lists are the pieces its stores leave in each buffer, last first, and the
    triple says so. -/
noncomputable def runE (hc0 : ¬cond0_0 i) (hc1 : ¬cond0_1 i) (hc2 : ¬cond0_2 i) (hc4 : cond0_4 i) (hc5 : ¬cond0_5 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) (xs0 : Vec F S4096x1024 .bf16) (xs1 : Vec F S512x1024 .bf16) (xs2 : Vec F S8x4096 .f32) (xs3 : Vec F S8x4096 .f32) (xs4 : Vec F S8x4096 .f32) :
    Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            owns (c : Thread nD τ) arg12 fullShare xs1 ∗
            owns (c : Thread nD τ) arg13 fullShare xs2 ∗
            owns (c : Thread nD τ) arg14 fullShare xs3 ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗ (arg12.view.loc (c : Thread nD τ) ↦[arg12.view.set]{fullShare} arg12.view.writes (Elt F) (harg12.unread xs1) LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, fun E K => ?run⟩
  case run =>
    simp only [cc0_two_tier_lse_eq_skeleton]; unfold cc0_two_tier_lse_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg11.eq_unread hfs0; obtain rfl := harg12.eq_unread hfs1; obtain rfl := harg13.eq_unread hfs2; obtain rfl := harg14.eq_unread hfs3; obtain rfl := harg15.eq_unread hfs4
    sl_exec (disch := first | sl_exact hc0 | sl_exact hc1 | sl_exact hc2 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _; isplitr; · ipureintro; exact harg9.read_unread _
      iexact H8
    isplitl [H9]
    · iexists _, _; isplitr; swap; · iexact H9
      ipureintro; rfl
    isplitl [HS0]
    · iexists _; isplitr; · ipureintro; exact harg11.read_unread _
      iexact HS0
    isplitl [HS1]; · iexact HS1
    isplitl [HS2]; · iexists _; iexact HS2
    isplitl [HS3]; · iexists _; iexact HS3
    iexists _; iexact HS4

end Cert.Kernel.Hand

end
-- ==== Proof.BitsRunF.lean ====
module

public import proofs.«01_k».proof.Proof.BitsRunE

@[expose] public section

/-! What the kernel's body does at the last point, whatever its numbers. -/

set_option maxRecDepth 16384

noncomputable section

namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1600000 in
/-- The body at point 103: the last tail tile, which stores the results. The lists are the pieces its stores leave in each buffer, last first, and the
    triple says so. -/
noncomputable def runF (hc0 : ¬cond0_0 i) (hc1 : ¬cond0_1 i) (hc2 : ¬cond0_2 i) (hc4 : cond0_4 i) (hc5 : cond0_5 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) (xs0 : Vec F S4096x1024 .bf16) (xs1 : Vec F S512x1024 .bf16) (xs2 : Vec F S8x4096 .f32) (xs3 : Vec F S8x4096 .f32) (xs4 : Vec F S8x4096 .f32) :
    Σ' (L6 : List (View.Piece (Elt F) S1x4096 .f32)), Σ' (L7 : List (View.Piece (Elt F) S1x4096 .f32)), Σ' (L9 : List (View.Piece (Elt F) S1x4096 .f32)), Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            owns (c : Thread nD τ) arg12 fullShare xs1 ∗
            owns (c : Thread nD τ) arg13 fullShare xs2 ∗
            owns (c : Thread nD τ) arg14 fullShare xs3 ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ f, arg7.view.loc (c : Thread nD τ) ↦[arg7.view.set]{fullShare} arg7.view.writes (Elt F) f L6) ∗
            (∃ f, arg8.view.loc (c : Thread nD τ) ↦[arg8.view.set]{fullShare} arg8.view.writes (Elt F) f L7) ∗
            owns (c : Thread nD τ) arg9 fullShare x8 ∗
            (∃ f, arg10.view.loc (c : Thread nD τ) ↦[arg10.view.set]{fullShare} arg10.view.writes (Elt F) f L9) ∗
            owns (c : Thread nD τ) arg11 fullShare xs0 ∗ (arg12.view.loc (c : Thread nD τ) ↦[arg12.view.set]{fullShare} arg12.view.writes (Elt F) (harg12.unread xs1) LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], ?_, ?_, ?_, ?_, fun E K => ?run⟩
  case run =>
    simp only [cc0_two_tier_lse_eq_skeleton]; unfold cc0_two_tier_lse_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg11.eq_unread hfs0; obtain rfl := harg12.eq_unread hfs1; obtain rfl := harg13.eq_unread hfs2; obtain rfl := harg14.eq_unread hfs3; obtain rfl := harg15.eq_unread hfs4
    sl_exec (disch := first | sl_exact hc0 | sl_exact hc1 | sl_exact hc2 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]; · iexists _; iexact H9
    isplitl [HS0]
    · iexists _; isplitr; · ipureintro; exact harg11.read_unread _
      iexact HS0
    isplitl [HS1]; · iexact HS1
    isplitl [HS2]; · iexists _; iexact HS2
    isplitl [HS3]; · iexists _; iexact HS3
    iexists _; iexact HS4

end Cert.Kernel.Hand

end
-- ==== Proof.BitsState.lean ====
module

public import proofs.«01_k».proof.Proof.BitsRunF

@[expose] public section

/-! What the kernel's body is handed and gives back, whatever its numbers, when no value is followed. -/

set_option maxRecDepth 16384

noncomputable section
namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The staging buffers at point `t`: the inputs at their blocks, the outputs at anything. -/
def bodyAny (c : Dev nD) (t : Fin cfg0.N) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

end Cert.Kernel.Hand

end
-- ==== Proof.BitsStepA.lean ====
module

public import proofs.«01_k».proof.Proof.BitsState

@[expose] public section

/-! The body at the first point, whatever its numbers. -/

set_option maxRecDepth 16384

noncomputable section
namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body's triple at the first point, its values left open. -/
theorem stepA (c : Dev nD) (t : Fin cfg0.N) (ht : t.val = 0) (O : sProp 𝕄) :
    iprop(Pipeline.ΦA spec0 c ∗ O ∗ bodyAny m c t) ⊢ wp frame (wpE (defs₀ (F := F)) Variants.none c none) Set.univ (bodyAt0 t) (fun _ => iprop(Pipeline.ΦA spec0 c ∗ O ∗ bodyAny m c t)) := by
  have hN : t.val < 104 := lt_of_lt_of_eq t.isLt (show cfg0.N = 104 from N_0)
  rw [PhiA0_eq]
  unfold bodyAny bodyAt0
  iintro ⟨⟨⟨HS0, HS1, HS2, HS3, HS4⟩, Hg⟩, Ho, H0, H1, H2, H3, H4, H5, ⟨%d6, H6⟩, ⟨%d7, H7⟩, ⟨%x8, H8⟩, ⟨%d9, H9⟩⟩
  iapply ((runA (F := F) c (grid0.coords t) _ _ _ _ _ _ _ _ _ _ _ _ _ _ _ _ _ _ _ _ _ _ _ _ _ _ _ _ _ _ ((hcond0_0 t).mpr (by omega)) ((hcond0_1 t).mpr (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) (iblk m c 4 t) (iblk m c 5 t) x8).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%d6, H6⟩, ⟨%d7, H7⟩, H8, ⟨%d9, H9⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; iexact H6
  isplitl [H7]
  · iexists _; iexact H7
  isplitl [H8]
  · iexists _; iexact H8
  iexists _; iexact H9

end Cert.Kernel.Hand

end
-- ==== Proof.BitsStepB.lean ====
module

public import proofs.«01_k».proof.Proof.BitsState

@[expose] public section

/-! The body at a head tile that is neither the first nor the last, whatever its numbers. -/

set_option maxRecDepth 16384

noncomputable section
namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body's triple at a head tile that is neither the first nor the last, its values left open. -/
theorem stepB (c : Dev nD) (t : Fin cfg0.N) (h1 : 1 ≤ t.val) (h2 : t.val < 11) (O : sProp 𝕄) :
    iprop(Pipeline.ΦA spec0 c ∗ O ∗ bodyAny m c t) ⊢ wp frame (wpE (defs₀ (F := F)) Variants.none c none) Set.univ (bodyAt0 t) (fun _ => iprop(Pipeline.ΦA spec0 c ∗ O ∗ bodyAny m c t)) := by
  have hN : t.val < 104 := lt_of_lt_of_eq t.isLt (show cfg0.N = 104 from N_0)
  rw [PhiA0_eq]
  unfold bodyAny bodyAt0
  iintro ⟨⟨⟨⟨%xs0, HS0⟩, ⟨%xs1, HS1⟩, ⟨%xs2, HS2⟩, ⟨%xs3, HS3⟩, ⟨%xs4, HS4⟩⟩, Hg⟩, Ho, H0, H1, H2, H3, H4, H5, ⟨%d6, H6⟩, ⟨%d7, H7⟩, ⟨%x8, H8⟩, ⟨%d9, H9⟩⟩
  iapply ((runB (F := F) c (grid0.coords t) _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) (iblk m c 4 t) (iblk m c 5 t) x8 xs0 xs2 xs3 xs4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexists _; iexact HS1
  isplitl [HS2]; · iexact HS2
  isplitl [HS3]; · iexact HS3
  isplitl [HS4]; · iexact HS4
  iintro ⟨H0, H1, H2, H3, H4, H5, ⟨%d6, H6⟩, ⟨%d7, H7⟩, H8, ⟨%d9, H9⟩, HS0, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · iexists _; iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; iexact H6
  isplitl [H7]
  · iexists _; iexact H7
  isplitl [H8]
  · iexists _; iexact H8
  iexists _; iexact H9

end Cert.Kernel.Hand

end
-- ==== Proof.BitsStepC.lean ====
module

public import proofs.«01_k».proof.Proof.BitsState

@[expose] public section

/-! The body at the last head tile, whatever its numbers. -/

set_option maxRecDepth 16384

noncomputable section
namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body's triple at the last head tile, its values left open. -/
theorem stepC (c : Dev nD) (t : Fin cfg0.N) (ht : t.val = 11) (O : sProp 𝕄) :
    iprop(Pipeline.ΦA spec0 c ∗ O ∗ bodyAny m c t) ⊢ wp frame (wpE (defs₀ (F := F)) Variants.none c none) Set.univ (bodyAt0 t) (fun _ => iprop(Pipeline.ΦA spec0 c ∗ O ∗ bodyAny m c t)) := by
  have hN : t.val < 104 := lt_of_lt_of_eq t.isLt (show cfg0.N = 104 from N_0)
  rw [PhiA0_eq]
  unfold bodyAny bodyAt0
  iintro ⟨⟨⟨⟨%xs0, HS0⟩, ⟨%xs1, HS1⟩, ⟨%xs2, HS2⟩, ⟨%xs3, HS3⟩, ⟨%xs4, HS4⟩⟩, Hg⟩, Ho, H0, H1, H2, H3, H4, H5, ⟨%d6, H6⟩, ⟨%d7, H7⟩, ⟨%x8, H8⟩, ⟨%d9, H9⟩⟩
  iapply ((runC (F := F) c (grid0.coords t) _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) ((hcond0_3 t).mpr (by omega)) (fun h => absurd ((hcond0_4 t).mp h) (by omega)) (iblk m c 0 t) (iblk m c 1 t) (iblk m c 2 t) (iblk m c 3 t) (iblk m c 4 t) (iblk m c 5 t) xs0 xs2 xs3 xs4).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexists _; iexact HS1
  isplitl [HS2]; · iexact HS2
  isplitl [HS3]; · iexact HS3
  isplitl [HS4]; · iexact HS4
  iintro ⟨H0, H1, H2, H3, H4, H5, ⟨%d6, H6⟩, ⟨%d7, H7⟩, ⟨%e8, H8⟩, ⟨%d9, H9⟩, HS0, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · iexists _; iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; iexact H6
  isplitl [H7]
  · iexists _; iexact H7
  isplitl [H8]
  · iexists _; unfold owns; iexists _; isplitr
    swap; · iexact H8
    ipureintro; rfl
  iexists _; iexact H9

end Cert.Kernel.Hand

end
-- ==== Proof.BitsStepD.lean ====
module

public import proofs.«01_k».proof.Proof.BitsState

@[expose] public section

/-! The body at the first tail tile, whatever its numbers. -/

set_option maxRecDepth 16384

noncomputable section
namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body's triple at the first tail tile, its values left open. -/
theorem stepD (c : Dev nD) (t : Fin cfg0.N) (ht : t.val = 12) (O : sProp 𝕄) :
    iprop(Pipeline.ΦA spec0 c ∗ O ∗ bodyAny m c t) ⊢ wp frame (wpE (defs₀ (F := F)) Variants.none c none) Set.univ (bodyAt0 t) (fun _ => iprop(Pipeline.ΦA spec0 c ∗ O ∗ bodyAny m c t)) := by
  have hN : t.val < 104 := lt_of_lt_of_eq t.isLt (show cfg0.N = 104 from N_0)
  rw [PhiA0_eq]
  unfold bodyAny bodyAt0
  iintro ⟨⟨⟨⟨%xs0, HS0⟩, ⟨%xs1, HS1⟩, ⟨%xs2, HS2⟩, ⟨%xs3, HS3⟩, ⟨%xs4, HS4⟩⟩, Hg⟩, Ho, H0, H1, H2, H3, H4, H5, ⟨%d6, H6⟩, ⟨%d7, H7⟩, ⟨%x8, H8⟩, ⟨%d9, H9⟩⟩
  iapply ((runD (F := F) c (grid0.coords t) _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) ((hcond0_4 t).mpr (by omega)) (fun h => absurd ((hcond0_5 t).mp h) (by omega)) (iblk m c 0 t) (iblk m c 1 t) (iblk m c 2 t) (iblk m c 3 t) (iblk m c 4 t) (iblk m c 5 t) x8 xs0 xs1 xs4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexact HS1
  isplitl [HS2]; · iexists _; iexact HS2
  isplitl [HS3]; · iexists _; iexact HS3
  isplitl [HS4]; · iexact HS4
  iintro ⟨H0, H1, H2, H3, H4, H5, ⟨%d6, H6⟩, ⟨%d7, H7⟩, H8, ⟨%d9, H9⟩, HS0, HS1, ⟨%es2, HS2⟩, ⟨%es3, HS3⟩, ⟨%es4, HS4⟩⟩
  isplitl [HS0 HS1 HS2 HS3 HS4 Hg]
  · isplitl [HS0 HS1 HS2 HS3 HS4]
    · isplitl [HS0]
      · iexists _; iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; iexact H6
  isplitl [H7]
  · iexists _; iexact H7
  isplitl [H8]
  · iexists _; iexact H8
  iexists _; iexact H9

end Cert.Kernel.Hand

end
-- ==== Proof.BitsStepE.lean ====
module

public import proofs.«01_k».proof.Proof.BitsState

@[expose] public section

/-! The body at a tail tile that is neither the first nor the last, whatever its numbers. -/

set_option maxRecDepth 16384

noncomputable section
namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body's triple at a tail tile that is neither the first nor the last, its values left open. -/
theorem stepE (c : Dev nD) (t : Fin cfg0.N) (h1 : 13 ≤ t.val) (h2 : t.val < 103) (O : sProp 𝕄) :
    iprop(Pipeline.ΦA spec0 c ∗ O ∗ bodyAny m c t) ⊢ wp frame (wpE (defs₀ (F := F)) Variants.none c none) Set.univ (bodyAt0 t) (fun _ => iprop(Pipeline.ΦA spec0 c ∗ O ∗ bodyAny m c t)) := by
  have hN : t.val < 104 := lt_of_lt_of_eq t.isLt (show cfg0.N = 104 from N_0)
  rw [PhiA0_eq]
  unfold bodyAny bodyAt0
  iintro ⟨⟨⟨⟨%xs0, HS0⟩, ⟨%xs1, HS1⟩, ⟨%xs2, HS2⟩, ⟨%xs3, HS3⟩, ⟨%xs4, HS4⟩⟩, Hg⟩, Ho, H0, H1, H2, H3, H4, H5, ⟨%d6, H6⟩, ⟨%d7, H7⟩, ⟨%x8, H8⟩, ⟨%d9, H9⟩⟩
  iapply ((runE (F := F) c (grid0.coords t) _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_4 t).mpr (by omega)) (fun h => absurd ((hcond0_5 t).mp h) (by omega)) (iblk m c 0 t) (iblk m c 1 t) (iblk m c 2 t) (iblk m c 3 t) (iblk m c 4 t) (iblk m c 5 t) x8 xs0 xs1 xs2 xs3 xs4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%d6, H6⟩, ⟨%d7, H7⟩, H8, ⟨%d9, H9⟩, HS0, HS1, ⟨%es2, HS2⟩, ⟨%es3, HS3⟩, ⟨%es4, HS4⟩⟩
  isplitl [HS0 HS1 HS2 HS3 HS4 Hg]
  · isplitl [HS0 HS1 HS2 HS3 HS4]
    · isplitl [HS0]
      · iexists _; iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; iexact H6
  isplitl [H7]
  · iexists _; iexact H7
  isplitl [H8]
  · iexists _; iexact H8
  iexists _; iexact H9

end Cert.Kernel.Hand

end
-- ==== Proof.BitsStepF.lean ====
module

public import proofs.«01_k».proof.Proof.BitsState

@[expose] public section

/-! The body at the last point, whatever its numbers. -/

set_option maxRecDepth 16384

noncomputable section
namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body's triple at the last point, its values left open. -/
theorem stepF (c : Dev nD) (t : Fin cfg0.N) (ht : t.val = 103) (O : sProp 𝕄) :
    iprop(Pipeline.ΦA spec0 c ∗ O ∗ bodyAny m c t) ⊢ wp frame (wpE (defs₀ (F := F)) Variants.none c none) Set.univ (bodyAt0 t) (fun _ => iprop(Pipeline.ΦA spec0 c ∗ O ∗ bodyAny m c t)) := by
  have hN : t.val < 104 := lt_of_lt_of_eq t.isLt (show cfg0.N = 104 from N_0)
  rw [PhiA0_eq]
  unfold bodyAny bodyAt0
  iintro ⟨⟨⟨⟨%xs0, HS0⟩, ⟨%xs1, HS1⟩, ⟨%xs2, HS2⟩, ⟨%xs3, HS3⟩, ⟨%xs4, HS4⟩⟩, Hg⟩, Ho, H0, H1, H2, H3, H4, H5, ⟨%d6, H6⟩, ⟨%d7, H7⟩, ⟨%x8, H8⟩, ⟨%d9, H9⟩⟩
  iapply ((runF (F := F) c (grid0.coords t) _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_4 t).mpr (by omega)) ((hcond0_5 t).mpr (by omega)) (iblk m c 0 t) (iblk m c 1 t) (iblk m c 2 t) (iblk m c 3 t) (iblk m c 4 t) (iblk m c 5 t) x8 xs0 xs1 xs2 xs3 xs4).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%e7, H7⟩, H8, ⟨%e9, H9⟩, HS0, HS1, ⟨%es2, HS2⟩, ⟨%es3, HS3⟩, ⟨%es4, HS4⟩⟩
  isplitl [HS0 HS1 HS2 HS3 HS4 Hg]
  · isplitl [HS0 HS1 HS2 HS3 HS4]
    · isplitl [HS0]
      · iexists _; iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; unfold owns; iexists _; isplitr
    swap; · iexact H6
    ipureintro; rfl
  isplitl [H7]
  · iexists _; unfold owns; iexists _; isplitr
    swap; · iexact H7
    ipureintro; rfl
  isplitl [H8]
  · iexists _; iexact H8
  iexists _; unfold owns; iexists _; isplitr
  swap; · iexact H9
  ipureintro; rfl

end Cert.Kernel.Hand

end
-- ==== Proof.RunBits.lean ====
module

public import proofs.«01_k».proof.Proof.BitsStepA
public import proofs.«01_k».proof.Proof.BitsStepB
public import proofs.«01_k».proof.Proof.BitsStepC
public import proofs.«01_k».proof.Proof.BitsStepD
public import proofs.«01_k».proof.Proof.BitsStepE
public import proofs.«01_k».proof.Proof.BitsStepF
public import Idealize.ShloMosaic.Lib.Pipeline.ArrRel
public import Idealize.ShloMosaic.Lib.Claim

@[expose] public section

/-! The kernel's run, whatever its numbers: the proof data, the body at every point, the frame. -/

set_option maxRecDepth 16384

noncomputable section
namespace Cert.Kernel.Hand

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body may leave in a window's buffer: an input's as found, an output's anything. -/
def leftAt (c : Dev nD) : (w : Fin cfg0.W) → (t : Fin cfg0.N) → (Y X : (cfg0.win w).block.Idx → Elt F (cfg0.win w).elt) → Prop
  | ⟨0, _⟩, _ => fun Y X => X = Y
  | ⟨1, _⟩, _ => fun Y X => X = Y
  | ⟨2, _⟩, _ => fun Y X => X = Y
  | ⟨3, _⟩, _ => fun Y X => X = Y
  | ⟨4, _⟩, _ => fun Y X => X = Y
  | ⟨5, _⟩, _ => fun Y X => X = Y
  | ⟨6, _⟩, _ => fun _ _ => True
  | ⟨7, _⟩, _ => fun _ _ => True
  | ⟨8, _⟩, _ => fun _ _ => True
  | ⟨9, _⟩, _ => fun _ _ => True

/-- The proof data: the scratch at anything between points. -/
def rdat (c : Dev nD) : Pipeline.RDat τ (Elt F) Unit ℕ (UR sig nD τ) ℕ cfg0 c where
  A w := V m c (Pipeline.arrRef spec0 w)
  after := leftAt c
  Φ _ := Pipeline.ΦA spec0 c
  q _ := fullShare
  owed _ := 0

/-- The arrays at the region's entry. -/
theorem A_eq (c : Dev nD) (w : Fin cfg0.W) : (rdat m c).A w = V m c (Pipeline.arrRef spec0 w) := by
  dsimp only [rdat]

/-- An input's buffer holds its block. -/
theorem finds0 (c : Dev nD) (t : Fin cfg0.N) (Y) (h : (rdat m c).Finds 0 t Y) : Y = iblk m c 0 t := by
  obtain ⟨d, e⟩ := Pipeline.RDat.finds_in_eq_fetched (rdat m c) 0 rfl (fun _ _ _ => rfl) (fun _ _ _ h => h) t Y h
  rw [e]; unfold Pipeline.RDat.fetched Pipeline.RDat.blockOf iblk; rw [A_eq]; rfl
/-- The same for input 1. -/
theorem finds1 (c : Dev nD) (t : Fin cfg0.N) (Y) (h : (rdat m c).Finds 1 t Y) : Y = iblk m c 1 t := by
  obtain ⟨d, e⟩ := Pipeline.RDat.finds_in_eq_fetched (rdat m c) 1 rfl (fun _ _ _ => rfl) (fun _ _ _ h => h) t Y h
  rw [e]; unfold Pipeline.RDat.fetched Pipeline.RDat.blockOf iblk; rw [A_eq]; rfl
/-- The same for input 2. -/
theorem finds2 (c : Dev nD) (t : Fin cfg0.N) (Y) (h : (rdat m c).Finds 2 t Y) : Y = iblk m c 2 t := by
  obtain ⟨d, e⟩ := Pipeline.RDat.finds_in_eq_fetched (rdat m c) 2 rfl (fun _ _ _ => rfl) (fun _ _ _ h => h) t Y h
  rw [e]; unfold Pipeline.RDat.fetched Pipeline.RDat.blockOf iblk; rw [A_eq]; rfl
/-- The same for input 3. -/
theorem finds3 (c : Dev nD) (t : Fin cfg0.N) (Y) (h : (rdat m c).Finds 3 t Y) : Y = iblk m c 3 t := by
  obtain ⟨d, e⟩ := Pipeline.RDat.finds_in_eq_fetched (rdat m c) 3 rfl (fun _ _ _ => rfl) (fun _ _ _ h => h) t Y h
  rw [e]; unfold Pipeline.RDat.fetched Pipeline.RDat.blockOf iblk; rw [A_eq]; rfl
/-- The same for input 4. -/
theorem finds4 (c : Dev nD) (t : Fin cfg0.N) (Y) (h : (rdat m c).Finds 4 t Y) : Y = iblk m c 4 t := by
  obtain ⟨d, e⟩ := Pipeline.RDat.finds_in_eq_fetched (rdat m c) 4 rfl (fun _ _ _ => rfl) (fun _ _ _ h => h) t Y h
  rw [e]; unfold Pipeline.RDat.fetched Pipeline.RDat.blockOf iblk; rw [A_eq]; rfl
/-- The same for input 5. -/
theorem finds5 (c : Dev nD) (t : Fin cfg0.N) (Y) (h : (rdat m c).Finds 5 t Y) : Y = iblk m c 5 t := by
  obtain ⟨d, e⟩ := Pipeline.RDat.finds_in_eq_fetched (rdat m c) 5 rfl (fun _ _ _ => rfl) (fun _ _ _ h => h) t Y h
  rw [e]; unfold Pipeline.RDat.fetched Pipeline.RDat.blockOf iblk; rw [A_eq]; rfl

/-- The body at any point. -/
theorem step (c : Dev nD) (t : Fin cfg0.N) (O : sProp 𝕄) :
    iprop(Pipeline.ΦA spec0 c ∗ O ∗ bodyAny m c t) ⊢ wp frame (wpE (defs₀ (F := F)) Variants.none c none) Set.univ (bodyAt0 t) (fun _ => iprop(Pipeline.ΦA spec0 c ∗ O ∗ bodyAny m c t)) := by
  have hN : t.val < 104 := lt_of_lt_of_eq t.isLt (show cfg0.N = 104 from N_0)
  by_cases h0 : t.val = 0
  · exact stepA m c t h0 O
  by_cases h1 : t.val < 11
  · exact stepB m c t (by omega) h1 O
  by_cases h2 : t.val = 11
  · exact stepC m c t h2 O
  by_cases h3 : t.val = 12
  · exact stepD m c t h3 O
  by_cases h4 : t.val < 103
  · exact stepE m c t (by omega) h4 O
  · exact stepF m c t (by omega) O

/-- The body table's row at a point's slots is the body. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The library's body obligation. -/
theorem body_obligation (c : Dev nD) : (rdat m c).BodyObligation (defs₀ (F := F)) Variants.none () Set.univ := fun t Y hY => by
  rw [bigSep_W0, bigSep_W0, defs₀_row]
  have h0 := finds0 m c t _ (hY 0)
  have h1 := finds1 m c t _ (hY 1)
  have h2 := finds2 m c t _ (hY 2)
  have h3 := finds3 m c t _ (hY 3)
  have h4 := finds4 m c t _ (hY 4)
  have h5 := finds5 m c t _ (hY 5)
  rw [h0, h1, h2, h3, h4, h5, show (rdat m c).Φ t.castSucc = Pipeline.ΦA spec0 c from rfl, show (rdat m c).Φ t.succ = Pipeline.ΦA spec0 c from rfl]
  refine triple_restated (step m c t ((rdat m c).owesAt () t.castSucc)) rfl ?_ fun _ => ?_
  · unfold bodyAny
    iintro ⟨HP, Ho, H0, H1, H2, H3, H4, H5, H6, H7, H8, H9⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9
  · unfold bodyAny
    iintro ⟨HP, Ho, H0, H1, H2, H3, H4, H5, ⟨%d6, H6⟩, ⟨%d7, H7⟩, ⟨%d8, H8⟩, ⟨%d9, H9⟩⟩
    isplitl [HP]; · iexact HP
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; trivial
    isplitl [H7]
    · iexists _; isplitr; swap; · iexact H7
      ipureintro; trivial
    isplitl [H8]
    · iexists _; isplitr; swap; · iexact H8
      ipureintro; trivial
    iexists _; isplitr; swap; · iexact H9
    ipureintro; trivial

-- the launch theorem's implicit arguments are found by unifying its conclusion with this one
set_option backward.isDefEq.respectTransparency.types false in
/-- The run of the whole program: the arrays as the proof data say, every semaphore at zero. -/
theorem run_main : θ_run defs (onTc (τ := τ) (main (F := F))) (s₀ m ρ) (fun r => Pipeline.RDat.FramePost (cfgs 0) (rdat m) (V m) r ∧ r.2.sem = fun _ => 0) :=
  Pipeline.RDat.θ_run_frame_track cfgs (0 : Fin 1) launch0 defs₀ Variants.none (rdat m) m ρ main
    (hbody := fun c => body_obligation m c) (hshare := fun c w => by unfold Pipeline.RDat.share; split <;> rfl)
    (howed := fun _ _ => rfl) (V := V m) (hmain := hmain m Variants.none) (hA := A_eq m) (hin := fun _ => .rfl) (hout := fun _ => .rfl)
    (Q' := fun r => Pipeline.RDat.FramePost (cfgs 0) (rdat m) (V m) r ∧ r.2.sem = fun _ => 0)

/-- THE FRAME: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (rdat m) (A_eq m) ((θ_run defs _ _).mono (fun _ h => h.1) (run_main m ρ))) ((θ_run defs _ _).mono (fun _ h => h.2) (run_main m ρ))

end Cert.Kernel.Hand

end
-- ==== Proof.Cells.lean ====
module

public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section
namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 104 = 0 :=
  (fun t => by
    have ht : t.val < 104 := Nat.lt_of_lt_of_eq t.isLt N_0
    have e0 : (grid0.coords t 0).val = t.val / 1 % 104 := Pipeline.Grid.coords_val t 0 (by decide) rfl
    simp only [cond0_0, e0]
    word_cmp
   : ∀ t : Fin grid0.N, cond0_0 (grid0.coords t) ↔ t.val % 104 = 0)

/-- The condition of the body's `scf.if` 1 (`k0_h2`), from the grid coordinates (the skeleton's scalar
    chain substituted). -/
abbrev cond0_1 (i : grid0.Coords) : Prop := (Scalar.cmpi .ne (Scalar.extui (Scalar.ori (Scalar.cmpi .eq (BitVec.ofNat 32 (i 0).val) 0#32) (Scalar.cmpi .eq (BitVec.ofNat 32 (i 0).val) 12#32))) 0#32) = 1#1
/-- It holds at points 0 and 12 only — by arithmetic of the point. -/
theorem hcond0_1 : ∀ t : Fin cfg0.N, cond0_1 (grid0.coords t) ↔ (t.val % 104 = 0 ∨ t.val % 104 = 12) :=
  (fun t => by
    have ht : t.val < 104 := Nat.lt_of_lt_of_eq t.isLt N_0
    have e0 : (grid0.coords t 0).val = t.val / 1 % 104 := Pipeline.Grid.coords_val t 0 (by decide) rfl
    simp only [cond0_1, e0]
    word_cmp
   : ∀ t : Fin grid0.N, cond0_1 (grid0.coords t) ↔ (t.val % 104 = 0 ∨ t.val % 104 = 12))

/-- The condition of the body's `scf.if` 2 (`k0_h3`), from the grid coordinates (the skeleton's scalar
    chain substituted). -/
abbrev cond0_2 (i : grid0.Coords) : Prop := k0_cond3 i = 1#1
/-- It holds at the points before point 12 — decided over the grid. -/
theorem hcond0_2 : ∀ t : Fin cfg0.N, cond0_2 (grid0.coords t) ↔ t.val < 12 :=
  (by decide +kernel : ∀ t : Fin grid0.N, cond0_2 (grid0.coords t) ↔ t.val < 12)

/-- The condition of the body's `scf.if` 3 (`k0_h4`), from the grid coordinates (the skeleton's scalar
    chain substituted). -/
abbrev cond0_3 (i : grid0.Coords) : Prop := k0_cond4 i = 1#1
/-- It holds at point 11 only — by arithmetic of the point. -/
theorem hcond0_3 : ∀ t : Fin cfg0.N, cond0_3 (grid0.coords t) ↔ t.val % 104 = 11 :=
  (fun t => by
    have ht : t.val < 104 := Nat.lt_of_lt_of_eq t.isLt N_0
    have e0 : (grid0.coords t 0).val = t.val / 1 % 104 := Pipeline.Grid.coords_val t 0 (by decide) rfl
    simp only [cond0_3, k0_cond4, e0]
    word_cmp
   : ∀ t : Fin grid0.N, cond0_3 (grid0.coords t) ↔ t.val % 104 = 11)

/-- The condition of the body's `scf.if` 4 (`k0_h5`), from the grid coordinates (the skeleton's scalar
    chain substituted). -/
abbrev cond0_4 (i : grid0.Coords) : Prop := k0_cond5 i = 1#1
/-- It holds at the points from point 12 on — decided over the grid. -/
theorem hcond0_4 : ∀ t : Fin cfg0.N, cond0_4 (grid0.coords t) ↔ 12 ≤ t.val :=
  (by decide +kernel : ∀ t : Fin grid0.N, cond0_4 (grid0.coords t) ↔ 12 ≤ t.val)

/-- The condition of the body's `scf.if` 5 (`k0_h6`), from the grid coordinates (the skeleton's scalar
    chain substituted). -/
abbrev cond0_5 (i : grid0.Coords) : Prop := k0_cond6 i = 1#1
/-- It holds at the last point only — by arithmetic of the point. -/
theorem hcond0_5 : ∀ t : Fin cfg0.N, cond0_5 (grid0.coords t) ↔ t.val % 104 = 103 :=
  (fun t => by
    have ht : t.val < 104 := Nat.lt_of_lt_of_eq t.isLt N_0
    have e0 : (grid0.coords t 0).val = t.val / 1 % 104 := Pipeline.Grid.coords_val t 0 (by decide) rfl
    simp only [cond0_5, k0_cond6, e0]
    word_cmp
   : ∀ t : Fin grid0.N, cond0_5 (grid0.coords t) ↔ t.val % 104 = 103)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4096x1024 .bf16 := win0_0.stage (cfg0.slots t 0)
/-- Window 0's staging memref is whole. -/
abbrev hs0_0 (t : Fin cfg0.N) : (ms0_0 t).IsWhole := hstage0_0 ((cfg0.slots t 0).cast nbuf0_0)
/-- Window 1's staging memref at point `t`. -/
abbrev ms0_1 (t : Fin cfg0.N) : Memref sig .tc .vmem S512x1024 .fp8e4m3 := win0_1.stage (cfg0.slots t 1)
/-- Window 1's staging memref is whole. -/
abbrev hs0_1 (t : Fin cfg0.N) : (ms0_1 t).IsWhole := hstage0_1 ((cfg0.slots t 1).cast nbuf0_1)
/-- Window 2's staging memref at point `t`. -/
abbrev ms0_2 (t : Fin cfg0.N) : Memref sig .tc .vmem S512x1 .f32 := win0_2.stage (cfg0.slots t 2)
/-- Window 2's staging memref is whole. -/
abbrev hs0_2 (t : Fin cfg0.N) : (ms0_2 t).IsWhole := hstage0_2 ((cfg0.slots t 2).cast nbuf0_2)
/-- Window 3's staging memref at point `t`. -/
abbrev ms0_3 (t : Fin cfg0.N) : Memref sig .tc .vmem S480x512 .i8 := win0_3.stage (cfg0.slots t 3)
/-- Window 3's staging memref is whole. -/
abbrev hs0_3 (t : Fin cfg0.N) : (ms0_3 t).IsWhole := hstage0_3 ((cfg0.slots t 3).cast nbuf0_3)
/-- Window 4's staging memref at point `t`. -/
abbrev ms0_4 (t : Fin cfg0.N) : Memref sig .tc .vmem S480x8 .bf16 := win0_4.stage (cfg0.slots t 4)
/-- Window 4's staging memref is whole. -/
abbrev hs0_4 (t : Fin cfg0.N) : (ms0_4 t).IsWhole := hstage0_4 ((cfg0.slots t 4).cast nbuf0_4)
/-- Window 5's staging memref at point `t`. -/
abbrev ms0_5 (t : Fin cfg0.N) : Memref sig .tc .vmem S1x4096 .i32 := win0_5.stage (cfg0.slots t 5)
/-- Window 5's staging memref is whole. -/
abbrev hs0_5 (t : Fin cfg0.N) : (ms0_5 t).IsWhole := hstage0_5 ((cfg0.slots t 5).cast nbuf0_5)
/-- Window 6's staging memref at point `t`. -/
abbrev ms0_6 (t : Fin cfg0.N) : Memref sig .tc .vmem S1x4096 .f32 := win0_6.stage (cfg0.slots t 6)
/-- Window 6's staging memref is whole. -/
abbrev hs0_6 (t : Fin cfg0.N) : (ms0_6 t).IsWhole := hstage0_6 ((cfg0.slots t 6).cast nbuf0_6)
/-- Window 7's staging memref at point `t`. -/
abbrev ms0_7 (t : Fin cfg0.N) : Memref sig .tc .vmem S1x4096 .f32 := win0_7.stage (cfg0.slots t 7)
/-- Window 7's staging memref is whole. -/
abbrev hs0_7 (t : Fin cfg0.N) : (ms0_7 t).IsWhole := hstage0_7 ((cfg0.slots t 7).cast nbuf0_7)
/-- Window 8's staging memref at point `t`. -/
abbrev ms0_8 (t : Fin cfg0.N) : Memref sig .tc .vmem S1x4096 .f32 := win0_8.stage (cfg0.slots t 8)
/-- Window 8's staging memref is whole. -/
abbrev hs0_8 (t : Fin cfg0.N) : (ms0_8 t).IsWhole := hstage0_8 ((cfg0.slots t 8).cast nbuf0_8)
/-- Window 9's staging memref at point `t`. -/
abbrev ms0_9 (t : Fin cfg0.N) : Memref sig .tc .vmem S1x4096 .f32 := win0_9.stage (cfg0.slots t 9)
/-- Window 9's staging memref is whole. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4096x1024 .bf16 := Memref.whole cc0_scratch0
/-- The scratch of unpacked weights. -/
abbrev scM0_1 : Memref sig .tc .vmem S512x1024 .bf16 := Memref.whole cc0_scratch1
/-- The scratch of running maxima. -/
abbrev scM0_2 : Memref sig .tc .vmem S8x4096 .f32 := Memref.whole cc0_scratch2
/-- The scratch of running sums. -/
abbrev scM0_3 : Memref sig .tc .vmem S8x4096 .f32 := Memref.whole cc0_scratch3
/-- The scratch of target scores. -/
abbrev scM0_4 : Memref sig .tc .vmem S8x4096 .f32 := Memref.whole cc0_scratch4
/-- The scratch `arg11` the kernel carries between points, as a view: what it holds is stated through it. -/
abbrev VS0_0 : View sig .tc .vmem S4096x1024 .bf16 := scM0_0.view
/-- The scratch `arg12` the kernel carries between points, as a view: what it holds is stated through it. -/
abbrev VS0_1 : View sig .tc .vmem S512x1024 .bf16 := scM0_1.view
/-- The scratch `arg13` the kernel carries between points, as a view: what it holds is stated through it. -/
abbrev VS0_2 : View sig .tc .vmem S8x4096 .f32 := scM0_2.view
/-- The scratch `arg14` the kernel carries between points, as a view: what it holds is stated through it. -/
abbrev VS0_3 : View sig .tc .vmem S8x4096 .f32 := scM0_3.view
/-- The scratch `arg15` the kernel carries between points, as a view: what it holds is stated through it. -/
abbrev VS0_4 : View sig .tc .vmem S8x4096 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.RunA.lean ====
module

public import proofs.«01_k».proof.Proof.Cells

@[expose] public section

/-! What the kernel's body does at the first point, whatever its numbers. -/

set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1224000 in
/-- The body at point 0: unpack `x`, reset the sums, run the head tile. The lists are the pieces its stores leave in each buffer, last first, and the
    triple says so. -/
noncomputable def runA (hc0 : cond0_0 i) (hc1 : cond0_1 i) (hc2 : cond0_2 i) (hc3 : ¬cond0_3 i) (hc4 : ¬cond0_4 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) :
    Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            (∃ d, owns (c : Thread nD τ) arg11 fullShare d) ∗
            (∃ d, owns (c : Thread nD τ) arg12 fullShare d) ∗
            (∃ d, owns (c : Thread nD τ) arg13 fullShare d) ∗
            (∃ d, owns (c : Thread nD τ) arg14 fullShare d) ∗
            (∃ d, owns (c : Thread nD τ) arg15 fullShare d)
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            (∃ f, arg11.view.loc (c : Thread nD τ) ↦[arg11.view.set]{fullShare} arg11.view.writes (Elt F) f LS0) ∗
            (∃ f, arg12.view.loc (c : Thread nD τ) ↦[arg12.view.set]{fullShare} arg12.view.writes (Elt F) f LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_two_tier_lse_eq_skeleton]; unfold cc0_two_tier_lse_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _; isplitr; · ipureintro; exact harg9.read_unread _
      iexact H8
    isplitl [H9]
    · iexists _, _; isplitr; swap; · iexact H9
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.RunB.lean ====
module

public import proofs.«01_k».proof.Proof.RunA

@[expose] public section

/-! What the kernel's body does at a head tile in the middle, whatever its numbers. -/

set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1200000 in
/-- The body at points 1 to 10: a head tile. The lists are the pieces its stores leave in each buffer, last first, and the
    triple says so. -/
noncomputable def runB (hc0 : ¬cond0_0 i) (hc1 : ¬cond0_1 i) (hc2 : cond0_2 i) (hc3 : ¬cond0_3 i) (hc4 : ¬cond0_4 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) (xs0 : Vec F S4096x1024 .bf16) (xs2 : Vec F S8x4096 .f32) (xs3 : Vec F S8x4096 .f32) (xs4 : Vec F S8x4096 .f32) :
    Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            (∃ d, owns (c : Thread nD τ) arg12 fullShare d) ∗
            owns (c : Thread nD τ) arg13 fullShare xs2 ∗
            owns (c : Thread nD τ) arg14 fullShare xs3 ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            (∃ f, arg12.view.loc (c : Thread nD τ) ↦[arg12.view.set]{fullShare} arg12.view.writes (Elt F) f LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, fun E K => ?run⟩
  case run =>
    simp only [cc0_two_tier_lse_eq_skeleton]; unfold cc0_two_tier_lse_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%fs0, %hfs0, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg11.eq_unread hfs0; obtain rfl := harg13.eq_unread hfs2; obtain rfl := harg14.eq_unread hfs3; obtain rfl := harg15.eq_unread hfs4
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _; isplitr; · ipureintro; exact harg9.read_unread _
      iexact H8
    isplitl [H9]
    · iexists _, _; isplitr; swap; · iexact H9
      ipureintro; rfl
    isplitl [HS0]
    · iexists _; isplitr; · ipureintro; exact harg11.read_unread _
      iexact HS0
    isplitl [HS1]; · iexists _; iexact HS1
    isplitl [HS2]; · iexists _; iexact HS2
    isplitl [HS3]; · iexists _; iexact HS3
    iexists _; iexact HS4

end Cert.KernelIdeal.Hand

end
-- ==== Proof.RunC.lean ====
module

public import proofs.«01_k».proof.Proof.RunB

@[expose] public section

/-! What the kernel's body does at the last head tile, whatever its numbers. -/

set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1200000 in
/-- The body at point 11: the last head tile, which stores the head's log-sum-exp. The lists are the pieces its stores leave in each buffer, last first, and the
    triple says so. -/
noncomputable def runC (hc0 : ¬cond0_0 i) (hc1 : ¬cond0_1 i) (hc2 : cond0_2 i) (hc3 : cond0_3 i) (hc4 : ¬cond0_4 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (xs0 : Vec F S4096x1024 .bf16) (xs2 : Vec F S8x4096 .f32) (xs3 : Vec F S8x4096 .f32) (xs4 : Vec F S8x4096 .f32) :
    Σ' (L8 : List (View.Piece (Elt F) S1x4096 .f32)), Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            (∃ d, owns (c : Thread nD τ) arg9 fullShare d) ∗
            (∃ d, owns (c : Thread nD τ) arg10 fullShare d) ∗
            owns (c : Thread nD τ) arg11 fullShare xs0 ∗
            (∃ d, owns (c : Thread nD τ) arg12 fullShare d) ∗
            owns (c : Thread nD τ) arg13 fullShare xs2 ∗
            owns (c : Thread nD τ) arg14 fullShare xs3 ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            (∃ f, arg9.view.loc (c : Thread nD τ) ↦[arg9.view.set]{fullShare} arg9.view.writes (Elt F) f L8) ∗
            (∃ d, owns (c : Thread nD τ) arg10 fullShare d) ∗
            owns (c : Thread nD τ) arg11 fullShare xs0 ∗
            (∃ f, arg12.view.loc (c : Thread nD τ) ↦[arg12.view.set]{fullShare} arg12.view.writes (Elt F) f LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, ?_, ?_, ?_, fun E K => ?run⟩
  case run =>
    simp only [cc0_two_tier_lse_eq_skeleton]; unfold cc0_two_tier_lse_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0; obtain rfl := harg13.eq_unread hfs2; obtain rfl := harg14.eq_unread hfs3; obtain rfl := harg15.eq_unread hfs4
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]; · iexists _; iexact H8
    isplitl [H9]
    · iexists _, _; isplitr; swap; · iexact H9
      ipureintro; rfl
    isplitl [HS0]
    · iexists _; isplitr; · ipureintro; exact harg11.read_unread _
      iexact HS0
    isplitl [HS1]; · iexists _; iexact HS1
    isplitl [HS2]; · iexists _; iexact HS2
    isplitl [HS3]; · iexists _; iexact HS3
    iexists _; iexact HS4

end Cert.KernelIdeal.Hand

end
-- ==== Proof.HeadPay.lean ====
module

public import proofs.«01_k».proof.Proof.Gen.KernelIdeal.Skeleton
public import Idealize.ShloMosaic.Lib.Pointwise

@[expose] public section

/-! What the operations of a head tile compute, entry by entry. -/

set_option maxRecDepth 16384

noncomputable section
namespace Cert.KernelIdeal.Hand

open Cert.KernelIdeal.Gen Idealize.ShloMosaic

/-- Folding `max` from `-∞` is the supremum. -/
theorem fold_max_bot {ι : Type*} (s : Finset ι) (f : ι → EReal) : s.fold max ⊥ f = s.sup f := rfl

/-- The `f32` pattern of minus infinity. -/
theorem ofBits_bot : Ideal.ofBits .f32 4286578688#32 = (⊥ : EReal) := by
  simp [Ideal.ofBits, Ideal.ieee]

/-- The fill of the running maximum: the most negative finite `f32`. -/
def NEG : EReal := Ideal.ofBits .f32 4286578687#32

/-- The fill is a finite number. -/
theorem NEG_real : ∃ n : ℝ, NEG = (n : EReal) :=
  ⟨-(16777215 * 2 ^ 104), by
    simp [NEG, Ideal.ofBits, Ideal.ieee]⟩

/-- Selecting on an equality test. -/
theorem select_cmpi_eq {α : Type} {n : ℕ} (a b : BitVec n) (x y : α) :
    Scalar.select (IntOp.cmpi .eq a b) x y = if a = b then x else y := by
  have e : (a == b) = decide (a = b) := rfl
  by_cases h : a = b <;> simp [Scalar.select, IntOp.cmpi, e, h]

/-- One score of a head tile: the product of a weight row and a token, times the row's scale. -/
theorem pay117_apply (v20 : FVec Ideal S512x1 .f32) (v28 v30 : Vec Ideal S512x1024 .bf16) (a c : Fin 512) :
    k0_pay117 (F := Ideal) v20 v28 v30 (ix2 a c) = (∑ d : Fin 1024, v30 (ix2 a d) * v28 (ix2 c d)) * v20 (ix2 a 0) := by
  pointwise [k0_pay117]

/-- The scores, grouped by eights. -/
theorem pay118_apply (v20 : FVec Ideal S512x1 .f32) (v28 v30 : Vec Ideal S512x1024 .bf16) (k : Fin 64) (r : Fin 8) (c : Fin 512) :
    k0_pay118 (F := Ideal) v20 v28 v30 (ix3 k r c) = k0_pay117 (F := Ideal) v20 v28 v30 (ix2 ⟨8 * k + r, by omega⟩ c) := by
  pointwise [k0_pay118]
  simp only [Nat.mul_comm]

/-- The new running maximum of a group of rows. -/
theorem pay119_apply (v20 : FVec Ideal S512x1 .f32) (v28 v30 : Vec Ideal S512x1024 .bf16) (v38 : Vec Ideal S8x512 .f32) (r : Fin 8) (c : Fin 512) :
    k0_pay119 (F := Ideal) v20 v28 v30 v38 (ix2 r c) = max (v38 (ix2 r c)) (Finset.univ.sup fun k : Fin 64 => k0_pay117 (F := Ideal) v20 v28 v30 (ix2 ⟨8 * k + r, by omega⟩ c)) := by
  pointwise [k0_pay119, pay118_apply]
  rw [ofBits_bot, fold_max_bot]

/-- The new running sum: the old one rescaled, plus this tile's exponentials. -/
theorem pay120_apply (v20 : FVec Ideal S512x1 .f32) (v28 v30 : Vec Ideal S512x1024 .bf16) (v38 v48 : Vec Ideal S8x512 .f32) (r : Fin 8) (c : Fin 512) :
    k0_pay120 (F := Ideal) v20 v28 v30 v38 v48 (ix2 r c) = v48 (ix2 r c) * Ideal.exp (v38 (ix2 r c) - k0_pay119 (F := Ideal) v20 v28 v30 v38 (ix2 r c)) + ∑ k : Fin 64, Ideal.exp (k0_pay117 (F := Ideal) v20 v28 v30 (ix2 ⟨8 * k + r, by omega⟩ c) - k0_pay119 (F := Ideal) v20 v28 v30 v38 (ix2 r c)) := by
  pointwise [k0_pay120, pay118_apply]

/-- What is stored as running maximum. -/
theorem pay121_apply (v20 : FVec Ideal S512x1 .f32) (v28 v30 : Vec Ideal S512x1024 .bf16) (v38 : Vec Ideal S8x512 .f32)  :
    k0_pay121 (F := Ideal) v20 v28 v30 v38 = k0_pay119 (F := Ideal) v20 v28 v30 v38 := by
  funext j
  pointwise [k0_pay121]

/-- The target, relative to the tile's first row. -/
theorem pay122_apply (a0 : BitVec 32) (v63 : Vec Ideal S1x512 .i32) (a c : Fin 512) :
    k0_pay122 (F := Ideal) a0 v63 (ix2 a c) = v63 (ix2 0 c) - a0 * 512#32 := by
  pointwise [k0_pay122]
  rfl

/-- The new target score: the old one plus the scores of the row that is hit. -/
theorem pay11_apply (v33 : FVec Ideal S512x512 .f32) (v61 v67 : IVec S512x512 32) (v70 : Vec Ideal S8x512 .f32) (r : Fin 8) (c : Fin 512) :
    k0_pay11 (F := Ideal) v33 v61 v67 v70 (ix2 r c) = v70 (ix2 r c) + ∑ k : Fin 64, if v61 (ix2 ⟨8 * k + r, by omega⟩ c) = v67 (ix2 ⟨8 * k + r, by omega⟩ c) then v33 (ix2 ⟨8 * k + r, by omega⟩ c) else 0 := by
  pointwise [k0_pay11]
  simp only [Nat.mul_comm, select_cmpi_eq]

/-- The maximum starts at the fill. -/
theorem pay7_apply (j) : k0_pay7 (F := Ideal) j = NEG := by
  pointwise [k0_pay7, NEG]

/-- The sum starts at zero. -/
theorem pay6_apply (j) : k0_pay6 (F := Ideal) j = 0 := by
  pointwise [k0_pay6]

/-- The target score starts at zero. -/
theorem pay8_apply (j) : k0_pay8 (F := Ideal) j = 0 := by
  pointwise [k0_pay8]

/-- The widening of the head weights keeps their values. -/
theorem pay9_eq (v) : k0_pay9 (F := Ideal) v = v := by
  funext j
  pointwise [k0_pay9]

/-- The reshape of the scales keeps their values. -/
theorem pay10_eq (v) : k0_pay10 (F := Ideal) v = v := by
  funext j
  pointwise [k0_pay10]
/-- Log-sum-exp of the eight running rows. -/
def lseOf (m s : Fin 8 → EReal) : EReal :=
  Finset.univ.sup m + Ideal.log (∑ r, s r * Ideal.exp (m r - Finset.univ.sup m))

/-- The head's log-sum-exp from the eight running rows. -/
theorem pay12_apply (m s : Vec Ideal S8x4096 .f32) (c : Fin 4096) :
    k0_pay12 (F := Ideal) m s (ix2 0 c) = lseOf (fun r => m (ix2 r c)) (fun r => s (ix2 r c)) := by
  pointwise [k0_pay12, lseOf]
  simp only [ofBits_bot, fold_max_bot]

/-- The tail's log-sum-exp from the eight running rows. -/
theorem pay15_apply (m s : Vec Ideal S8x4096 .f32) (c : Fin 4096) :
    k0_pay15 (F := Ideal) m s (ix2 0 c) = lseOf (fun r => m (ix2 r c)) (fun r => s (ix2 r c)) := by
  pointwise [k0_pay15, lseOf]
  simp only [ofBits_bot, fold_max_bot]
/-- The two log-sum-exps combined, the larger factored out. -/
def addLse (a b : EReal) : EReal :=
  max a b + Ideal.log (Ideal.exp (a - max a b) + Ideal.exp (b - max a b))

/-- The two halves combined. -/
theorem pay16_apply (m s : Vec Ideal S8x4096 .f32) (h : Vec Ideal S1x4096 .f32) (c : Fin 4096) :
    k0_pay16 (F := Ideal) m s h (ix2 0 c) = addLse (h (ix2 0 c)) (k0_pay15 (F := Ideal) m s (ix2 0 c)) := by
  pointwise [k0_pay16, addLse]

/-- The log-probability of the target. -/
theorem pay17_apply (m s t : Vec Ideal S8x4096 .f32) (h : Vec Ideal S1x4096 .f32) (c : Fin 4096) :
    k0_pay17 (F := Ideal) m s h t (ix2 0 c) = (∑ r : Fin 8, t (ix2 r c)) - k0_pay16 (F := Ideal) m s h (ix2 0 c) := by
  pointwise [k0_pay17]

end Cert.KernelIdeal.Hand
-- ==== Proof.Blocks.lean ====
module

public import proofs.«01_k».proof.Proof.Gen.KernelIdeal.Skeleton
public import Idealize.ShloMosaic.Lib.Pointwise
public import Idealize.ShloMosaic.Lib.VecWindow

@[expose] public section

/-! Windows of matrices, and updates made block by block. -/

set_option maxRecDepth 16384

noncomputable section
namespace Cert.KernelIdeal.Hand

open Cert.KernelIdeal.Gen Idealize.ShloMosaic

/-- A window of a matrix, entry by entry. -/
theorem window2 {α : Type} {A B a b o0 o1 : ℕ} (x : (⟨2, ![A, B]⟩ : Shape).Idx → α)
    (inb : ∀ k, (![o0, o1] : Fin 2 → ℕ) k + (![a, b] : Fin 2 → ℕ) k ≤ (⟨2, ![A, B]⟩ : Shape).size k) (i : Fin a) (j : Fin b) :
    VecWindow.window (s := ⟨2, ![A, B]⟩) x ![o0, o1] ![a, b] inb (ix2 i j)
      = x (ix2 ⟨o0 + i, lt_of_lt_of_le (Nat.add_lt_add_left i.isLt _) (inb 0)⟩ ⟨o1 + j, lt_of_lt_of_le (Nat.add_lt_add_left j.isLt _) (inb 1)⟩) := by
  refine congrArg x (funext fun k => Fin.ext ?_)
  match k with
  | ⟨0, _⟩ => show o0 + 1 * (i : ℕ) = o0 + i; omega
  | ⟨1, _⟩ => show o1 + 1 * (j : ℕ) = o1 + j; omega

/-- A matrix with a window replaced, entry by entry. -/
theorem put2 {α : Type} {A B a b o0 o1 : ℕ} (x : (⟨2, ![A, B]⟩ : Shape).Idx → α) (w : (⟨2, ![a, b]⟩ : Shape).Idx → α) (i : Fin A) (j : Fin B) :
    VecWindow.put (s := ⟨2, ![A, B]⟩) x ![o0, o1] ![a, b] w (ix2 i j)
      = if h : (o0 ≤ i ∧ (i : ℕ) < o0 + a) ∧ (o1 ≤ j ∧ (j : ℕ) < o1 + b) then
          w (ix2 ⟨i - o0, by omega⟩ ⟨j - o1, by omega⟩) else x (ix2 i j) := by
  unfold VecWindow.put
  by_cases h : (o0 ≤ i ∧ (i : ℕ) < o0 + a) ∧ (o1 ≤ j ∧ (j : ℕ) < o1 + b)
  · have h' : ∀ k : Fin 2, (![o0, o1] : Fin 2 → ℕ) k ≤ (ix2 i j k).val ∧ (ix2 i j k).val < (![o0, o1] : Fin 2 → ℕ) k + (![a, b] : Fin 2 → ℕ) k := by
      intro k
      match k with
      | ⟨0, _⟩ => exact h.1
      | ⟨1, _⟩ => exact h.2
    rw [dif_pos h, dif_pos h']
    refine congrArg w (funext fun k => Fin.ext ?_)
    match k with
    | ⟨0, _⟩ => rfl
    | ⟨1, _⟩ => rfl
  · have h' : ¬ ∀ k : Fin 2, (![o0, o1] : Fin 2 → ℕ) k ≤ (ix2 i j k).val ∧ (ix2 i j k).val < (![o0, o1] : Fin 2 → ℕ) k + (![a, b] : Fin 2 → ℕ) k :=
      fun h' => h ⟨h' 0, h' 1⟩
    rw [dif_neg h, dif_neg h']

/-- A block of 512 columns replaced, inside the block. -/
theorem put_block {α : Type} (x : S8x4096.Idx → α) (w : S8x512.Idx → α) (k : ℕ) (r : Fin 8) (p : Fin 512) (q : Fin 4096)
    (hp : 512 * k + (p : ℕ) = q) : VecWindow.put (s := S8x4096) x ![0, 512 * k] ![8, 512] w (ix2 r q) = w (ix2 r p) := by
  refine (put2 x w r q).trans ?_
  rw [dif_pos ⟨⟨Nat.zero_le _, by omega⟩, by omega, by omega⟩]
  refine congrArg w ?_
  congr 1
  exact Fin.ext (show (q : ℕ) - 512 * k = p by omega)

/-- A block of 512 columns replaced, outside the block. -/
theorem put_block_of_not {α : Type} (x : S8x4096.Idx → α) (w : S8x512.Idx → α) (k : ℕ) (r : Fin 8) (q : Fin 4096)
    (h : ¬(512 * k ≤ (q : ℕ) ∧ (q : ℕ) < 512 * k + 512)) :
    VecWindow.put (s := S8x4096) x ![0, 512 * k] ![8, 512] w (ix2 r q) = x (ix2 r q) := by
  refine (put2 x w r q).trans ?_
  rw [dif_neg (fun h' => h h'.2)]

/-- A block of 512 columns of the running rows. -/
theorem window_block {α : Type} (x : S8x4096.Idx → α) (k : ℕ) (inb) (r : Fin 8) (p : Fin 512) (q : Fin 4096)
    (hp : 512 * k + (p : ℕ) = q) : VecWindow.window (s := S8x4096) x ![0, 512 * k] ![8, 512] inb (ix2 r p) = x (ix2 r q) := by
  refine (window2 x inb r p).trans ?_
  simp only [hp, Nat.zero_add]

/-- A block of 512 targets. -/
theorem window_tgt {α : Type} (x : S1x4096.Idx → α) (k : ℕ) (inb) (p : Fin 512) (q : Fin 4096)
    (hp : 512 * k + (p : ℕ) = q) : VecWindow.window (s := S1x4096) x ![0, 512 * k] ![1, 512] inb (ix2 0 p) = x (ix2 0 q) := by
  refine (window2 x inb 0 p).trans ?_
  simp only [hp, Nat.zero_add]

/-- Eight updates, each of one block of 512 columns and each entry from its own old value, update every entry once. -/
theorem blocks (M : ℕ → Vec Ideal S8x4096 .f32) (g : Fin 8 → Fin 4096 → EReal → EReal)
    (h : ∀ k < 8, ∀ r c, M (k + 1) (ix2 r c) = if 512 * k ≤ (c : ℕ) ∧ (c : ℕ) < 512 * k + 512 then g r c (M k (ix2 r c)) else M k (ix2 r c)) :
    ∀ n ≤ 8, ∀ r c, M n (ix2 r c) = if (c : ℕ) < 512 * n then g r c (M 0 (ix2 r c)) else M 0 (ix2 r c) := by
  intro n
  induction n with
  | zero => intro _ r c; simp
  | succ n ih =>
    intro hn r c
    rw [h n (by omega), ih (by omega)]
    by_cases h1 : (c : ℕ) < 512 * n
    · rw [if_neg (by omega), if_pos h1, if_pos (by omega)]
    · by_cases h2 : (c : ℕ) < 512 * (n + 1)
      · rw [if_pos (by omega), if_neg h1, if_pos h2]
      · rw [if_neg (by omega), if_neg h1, if_neg h2]

end Cert.KernelIdeal.Hand
-- ==== Proof.HeadLoop.lean ====
module

public import proofs.«01_k».proof.Proof.Cells
public import proofs.«01_k».proof.Proof.HeadPay
public import proofs.«01_k».proof.Proof.Blocks

@[expose] public section

/-! What one head tile does to the running rows: eight blocks of 512 tokens each. -/

set_option maxRecDepth 16384

noncomputable section
namespace Cert.KernelIdeal.Hand

open Cert.KernelIdeal.Gen Idealize.ShloMosaic Idealize.ShloMosaic.TcCoe Idealize.SL.Sem Idealize.ShloMosaic.Tactic

/-- One score of a head tile: a weight row times a token, times the row's scale. -/
def headLogit (x : Vec Ideal S4096x1024 .bf16) (w : Vec Ideal S512x1024 .bf16) (s : Vec Ideal S512x1 .f32) (a : Fin 512) (q : Fin 4096) : EReal :=
  (∑ d : Fin 1024, w (ix2 a d) * x (ix2 q d)) * s (ix2 a 0)

/-- The row numbers of a head tile. -/
def headRows : IVec S512x512 32 := iota .tc S512x512 32 [0] iota_S512x512_d0_w32

/-- Each is its row's number. -/
theorem iota_row (a c : Fin 512) : headRows (ix2 a c) = BitVec.ofNat 32 a := by
  pointwise [headRows]

/-- A score computed from a block of tokens is the score of the token. -/
theorem head_score (v19 : Vec Ideal S512x1 .f32) (x : Vec Ideal S4096x1024 .bf16) (w : Vec Ideal S512x1024 .bf16) (k : ℕ)
    (inb) (a p : Fin 512) (q : Fin 4096) (hp : 512 * k + (p : ℕ) = q) :
    k0_pay117 (F := Ideal) (k0_pay10 (F := Ideal) v19) (VecWindow.window (s := S4096x1024) x ![512 * k, 0] ![512, 1024] inb) w (ix2 a p)
      = headLogit x w v19 a q := by
  rw [pay117_apply, pay10_eq]
  simp only [window2, hp, Nat.zero_add]
  rfl

section
variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)
variable (arg0 : BitVec 32) (h3 : k0_cond3 i = 1#1) (v19 : Vec Ideal S512x1 .f32)
  (X1 : BufTy.Contents (Elt Ideal) arg1.view.ty) (X6 : BufTy.Contents (Elt Ideal) arg6.view.ty) (X12 : BufTy.Contents (Elt Ideal) arg12.view.ty)
  (G13 : BufTy.Contents (Elt Ideal) arg13.view.ty) (G14 : BufTy.Contents (Elt Ideal) arg14.view.ty) (G15 : BufTy.Contents (Elt Ideal) arg15.view.ty)

/-- The running maximum after `n` blocks of tokens of a head tile. -/
def headM (n : ℕ) : Vec Ideal S8x4096 .f32 :=
  arg13.view.read (Elt Ideal) (arg13.view.writes (Elt Ideal) G13 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n).1)

/-- The running sum after `n` blocks of tokens of a head tile. -/
def headS (n : ℕ) : Vec Ideal S8x4096 .f32 :=
  arg14.view.read (Elt Ideal) (arg14.view.writes (Elt Ideal) G14 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n).2.1)

/-- The running target score after `n` blocks of tokens of a head tile. -/
def headT (n : ℕ) : Vec Ideal S8x4096 .f32 :=
  arg15.view.read (Elt Ideal) (arg15.view.writes (Elt Ideal) G15 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n).2.2)

/-- A block of tokens lies inside the tokens. -/
theorem inb_head_tok (k : Fin k0_t1_loop.trips) : ∀ a, (![512 * k.val, 0] : Fin 2 → ℕ) a + (![512, 1024] : Fin 2 → ℕ) a ≤ S4096x1024.size a := by
  have hk : k.val < 8 := k.isLt
  intro a
  match a with
  | ⟨0, _⟩ => show 512 * k.val + 512 ≤ 4096; omega
  | ⟨1, _⟩ => show 0 + 1024 ≤ 1024; omega

/-- A block of columns lies inside the running rows. -/
theorem inb_head_sum (k : Fin k0_t1_loop.trips) : ∀ a, (![0, 512 * k.val] : Fin 2 → ℕ) a + (![8, 512] : Fin 2 → ℕ) a ≤ S8x4096.size a := by
  have hk : k.val < 8 := k.isLt
  intro a
  match a with
  | ⟨0, _⟩ => show 0 + 8 ≤ 8; omega
  | ⟨1, _⟩ => show 512 * k.val + 512 ≤ 4096; omega

/-- A block of targets lies inside the targets. -/
theorem inb_head_tgt (k : Fin k0_t1_loop.trips) : ∀ a, (![0, 512 * k.val] : Fin 2 → ℕ) a + (![1, 512] : Fin 2 → ℕ) a ≤ S1x4096.size a := by
  have hk : k.val < 8 := k.isLt
  intro a
  match a with
  | ⟨0, _⟩ => show 0 + 1 ≤ 1; omega
  | ⟨1, _⟩ => show 512 * k.val + 512 ≤ 4096; omega

/-- One block of tokens replaces its columns of the running rows. -/
theorem head_stepM (k : Fin k0_t1_loop.trips) :
    headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 (k.val + 1)
      = VecWindow.put (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val) ![0, 512 * k.val] ![8, 512]
          (k0_pay121 (F := Ideal) (k0_pay10 (F := Ideal) v19) (VecWindow.window (s := S4096x1024) (arg1.view.read (Elt Ideal) X1) ![512 * k.val, 0] ![512, 1024] (inb_head_tok k)) (arg12.view.read (Elt Ideal) X12) (VecWindow.window (s := S8x4096) (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val) ![0, 512 * k.val] ![8, 512] (inb_head_sum k))) := by
  unfold headM
  rw [pb_k0_t1_succ]
  generalize pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val = P
  unfold tripL_k0_t1 trip_k0_t1
  dsimp only [List.singleton_append, List.cons_append, List.nil_append]
  rw [View.read_writes_cons_put _ _ _ _ _ (k0_off2_eq k), View.readAt_full arg12.view, View.readAt_unit arg1.view _ _ (k0_off1_eq k) (inb_head_tok k), View.readAt_unit arg13.view _ _ (k0_off2_eq k) (inb_head_sum k)]

/-- One block of tokens replaces its columns of the running rows. -/
theorem head_stepS (k : Fin k0_t1_loop.trips) :
    headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 (k.val + 1)
      = VecWindow.put (headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val) ![0, 512 * k.val] ![8, 512]
          (k0_pay120 (F := Ideal) (k0_pay10 (F := Ideal) v19) (VecWindow.window (s := S4096x1024) (arg1.view.read (Elt Ideal) X1) ![512 * k.val, 0] ![512, 1024] (inb_head_tok k)) (arg12.view.read (Elt Ideal) X12) (VecWindow.window (s := S8x4096) (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val) ![0, 512 * k.val] ![8, 512] (inb_head_sum k)) (VecWindow.window (s := S8x4096) (headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val) ![0, 512 * k.val] ![8, 512] (inb_head_sum k))) := by
  unfold headM headS
  rw [pb_k0_t1_succ]
  generalize pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val = P
  unfold tripL_k0_t1 trip_k0_t1
  dsimp only [List.singleton_append, List.cons_append, List.nil_append]
  rw [View.read_writes_cons_put _ _ _ _ _ (k0_off2_eq k), View.readAt_full arg12.view, View.readAt_unit arg1.view _ _ (k0_off1_eq k) (inb_head_tok k), View.readAt_unit arg13.view _ _ (k0_off2_eq k) (inb_head_sum k), View.readAt_unit arg14.view _ _ (k0_off2_eq k) (inb_head_sum k)]

/-- One block of tokens replaces its columns of the running rows. -/
theorem head_stepT (k : Fin k0_t1_loop.trips) :
    headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 (k.val + 1)
      = VecWindow.put (headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val) ![0, 512 * k.val] ![8, 512]
          (k0_pay11 (F := Ideal) (k0_pay117 (F := Ideal) (k0_pay10 (F := Ideal) v19) (VecWindow.window (s := S4096x1024) (arg1.view.read (Elt Ideal) X1) ![512 * k.val, 0] ![512, 1024] (inb_head_tok k)) (arg12.view.read (Elt Ideal) X12)) headRows (k0_pay122 (F := Ideal) arg0 (VecWindow.window (s := S1x4096) (arg6.view.read (Elt Ideal) X6) ![0, 512 * k.val] ![1, 512] (inb_head_tgt k))) (VecWindow.window (s := S8x4096) (headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val) ![0, 512 * k.val] ![8, 512] (inb_head_sum k))) := by
  unfold headT
  rw [pb_k0_t1_succ]
  generalize pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k.val = P
  unfold tripL_k0_t1 trip_k0_t1
  dsimp only [List.singleton_append, List.cons_append, List.nil_append]
  unfold trip_k0_t1.sl.r trip_k0_t1.sl.v61 trip_k0_t1.sl.r_1
  rw [View.read_writes_cons_put _ _ _ _ _ (k0_off2_eq k), View.readAt_full arg12.view, View.readAt_unit arg1.view _ _ (k0_off1_eq k) (inb_head_tok k), View.readAt_unit arg15.view _ _ (k0_off2_eq k) (inb_head_sum k), View.readAt_unit arg6.view _ _ (k0_off3_eq k) (inb_head_tgt k)]
  rfl

/-- One block of tokens, entry by entry: inside the block the update, elsewhere nothing. -/
theorem head_entM (k : ℕ) (hk : k < 8) (r : Fin 8) (q : Fin 4096) :
    headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 (k + 1) (ix2 r q)
      = if 512 * k ≤ (q : ℕ) ∧ (q : ℕ) < 512 * k + 512 then
          max (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q)) (Finset.univ.sup fun j : Fin 64 => headLogit (arg1.view.read (Elt Ideal) X1) (arg12.view.read (Elt Ideal) X12) v19 ⟨8 * j + r, by omega⟩ q)
        else headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q) := by
  rw [head_stepM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 ⟨k, hk⟩]
  generalize headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k = Mk
  by_cases h : 512 * k ≤ (q : ℕ) ∧ (q : ℕ) < 512 * k + 512
  · obtain ⟨p, hp⟩ : ∃ p : Fin 512, 512 * k + (p : ℕ) = q := ⟨⟨q - 512 * k, by omega⟩, by simp; omega⟩
    rw [put_block _ _ _ _ _ _ hp, if_pos h, pay121_apply, pay119_apply]
    simp only [window_block _ _ _ _ _ _ hp, head_score (hp := hp)]
  · rw [put_block_of_not _ _ _ _ _ h, if_neg h]

/-- One block of tokens, entry by entry: inside the block the update, elsewhere nothing. -/
theorem head_entS (k : ℕ) (hk : k < 8) (r : Fin 8) (q : Fin 4096) :
    headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 (k + 1) (ix2 r q)
      = if 512 * k ≤ (q : ℕ) ∧ (q : ℕ) < 512 * k + 512 then
          (headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q)) * Ideal.exp (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q) - max (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q)) (Finset.univ.sup fun j : Fin 64 => headLogit (arg1.view.read (Elt Ideal) X1) (arg12.view.read (Elt Ideal) X12) v19 ⟨8 * j + r, by omega⟩ q)) + ∑ j : Fin 64, Ideal.exp (headLogit (arg1.view.read (Elt Ideal) X1) (arg12.view.read (Elt Ideal) X12) v19 ⟨8 * j + r, by omega⟩ q - max (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q)) (Finset.univ.sup fun j : Fin 64 => headLogit (arg1.view.read (Elt Ideal) X1) (arg12.view.read (Elt Ideal) X12) v19 ⟨8 * j + r, by omega⟩ q))
        else headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q) := by
  rw [head_stepS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 ⟨k, hk⟩]
  generalize headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k = Mk
  generalize headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k = Sk
  by_cases h : 512 * k ≤ (q : ℕ) ∧ (q : ℕ) < 512 * k + 512
  · obtain ⟨p, hp⟩ : ∃ p : Fin 512, 512 * k + (p : ℕ) = q := ⟨⟨q - 512 * k, by omega⟩, by simp; omega⟩
    rw [put_block _ _ _ _ _ _ hp, if_pos h, pay120_apply, pay119_apply]
    simp only [window_block _ _ _ _ _ _ hp, head_score (hp := hp)]
  · rw [put_block_of_not _ _ _ _ _ h, if_neg h]

/-- One block of tokens, entry by entry: inside the block the update, elsewhere nothing. -/
theorem head_entT (k : ℕ) (hk : k < 8) (r : Fin 8) (q : Fin 4096) :
    headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 (k + 1) (ix2 r q)
      = if 512 * k ≤ (q : ℕ) ∧ (q : ℕ) < 512 * k + 512 then
          (headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q)) + ∑ j : Fin 64, if BitVec.ofNat 32 (8 * j.val + r.val) = arg6.view.read (Elt Ideal) X6 (ix2 0 q) - arg0 * 512#32 then headLogit (arg1.view.read (Elt Ideal) X1) (arg12.view.read (Elt Ideal) X12) v19 ⟨8 * j + r, by omega⟩ q else 0
        else headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q) := by
  rw [head_stepT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 ⟨k, hk⟩]
  generalize headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k = Tk
  by_cases h : 512 * k ≤ (q : ℕ) ∧ (q : ℕ) < 512 * k + 512
  · obtain ⟨p, hp⟩ : ∃ p : Fin 512, 512 * k + (p : ℕ) = q := ⟨⟨q - 512 * k, by omega⟩, by simp; omega⟩
    rw [put_block _ _ _ _ _ _ hp, if_pos h, pay11_apply]
    simp only [window_block _ _ _ _ _ _ hp, head_score (hp := hp), window_tgt _ _ _ _ _ hp, pay122_apply, iota_row]
  · rw [put_block_of_not _ _ _ _ _ h, if_neg h]

/-- Before its block is reached an entry of the running maximum is the old one. -/
theorem head_oldM (k : ℕ) (hk : k ≤ 8) (r : Fin 8) (q : Fin 4096) (h : 512 * k ≤ (q : ℕ)) :
    headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (ix2 r q) = headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 0 (ix2 r q) := by
  rw [blocks (fun n => headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n) (fun r q z => max (z) (Finset.univ.sup fun j : Fin 64 => headLogit (arg1.view.read (Elt Ideal) X1) (arg12.view.read (Elt Ideal) X12) v19 ⟨8 * j + r, by omega⟩ q))
    (fun k hk r q => head_entM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k hk r q) k hk r q, if_neg (by omega)]

/-- The tile's new running maximum. -/
theorem head_M (r : Fin 8) (q : Fin 4096) :
    headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8 (ix2 r q)
      = max (arg13.view.read (Elt Ideal) G13 (ix2 r q)) (Finset.univ.sup fun j : Fin 64 => headLogit (arg1.view.read (Elt Ideal) X1) (arg12.view.read (Elt Ideal) X12) v19 ⟨8 * j + r, by omega⟩ q) := by
  rw [blocks (fun n => headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n) (fun r q z => max (z) (Finset.univ.sup fun j : Fin 64 => headLogit (arg1.view.read (Elt Ideal) X1) (arg12.view.read (Elt Ideal) X12) v19 ⟨8 * j + r, by omega⟩ q))
    (fun k hk r q => head_entM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k hk r q) 8 le_rfl r q, if_pos (by omega)]
  unfold headM
  rfl

/-- The tile's new running sum. -/
theorem head_S (r : Fin 8) (q : Fin 4096) :
    headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8 (ix2 r q)
      = (arg14.view.read (Elt Ideal) G14 (ix2 r q)) * Ideal.exp (arg13.view.read (Elt Ideal) G13 (ix2 r q) - max (arg13.view.read (Elt Ideal) G13 (ix2 r q)) (Finset.univ.sup fun j : Fin 64 => headLogit (arg1.view.read (Elt Ideal) X1) (arg12.view.read (Elt Ideal) X12) v19 ⟨8 * j + r, by omega⟩ q)) + ∑ j : Fin 64, Ideal.exp (headLogit (arg1.view.read (Elt Ideal) X1) (arg12.view.read (Elt Ideal) X12) v19 ⟨8 * j + r, by omega⟩ q - max (arg13.view.read (Elt Ideal) G13 (ix2 r q)) (Finset.univ.sup fun j : Fin 64 => headLogit (arg1.view.read (Elt Ideal) X1) (arg12.view.read (Elt Ideal) X12) v19 ⟨8 * j + r, by omega⟩ q)) := by
  rw [blocks (fun n => headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n) (fun r q z => (z) * Ideal.exp (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 0 (ix2 r q) - max (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 0 (ix2 r q)) (Finset.univ.sup fun j : Fin 64 => headLogit (arg1.view.read (Elt Ideal) X1) (arg12.view.read (Elt Ideal) X12) v19 ⟨8 * j + r, by omega⟩ q)) + ∑ j : Fin 64, Ideal.exp (headLogit (arg1.view.read (Elt Ideal) X1) (arg12.view.read (Elt Ideal) X12) v19 ⟨8 * j + r, by omega⟩ q - max (headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 0 (ix2 r q)) (Finset.univ.sup fun j : Fin 64 => headLogit (arg1.view.read (Elt Ideal) X1) (arg12.view.read (Elt Ideal) X12) v19 ⟨8 * j + r, by omega⟩ q)))
    (fun k hk r q => ?_) 8 le_rfl r q, if_pos (by omega)]
  · unfold headM headS
    rfl
  · rw [head_entS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k hk r q]
    by_cases h : 512 * k ≤ (q : ℕ) ∧ (q : ℕ) < 512 * k + 512
    · rw [if_pos h, if_pos h, head_oldM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k (by omega) r q h.1]
    · rw [if_neg h, if_neg h]

/-- The tile's new target score. -/
theorem head_T (r : Fin 8) (q : Fin 4096) :
    headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8 (ix2 r q)
      = (arg15.view.read (Elt Ideal) G15 (ix2 r q)) + ∑ j : Fin 64, if BitVec.ofNat 32 (8 * j.val + r.val) = arg6.view.read (Elt Ideal) X6 (ix2 0 q) - arg0 * 512#32 then headLogit (arg1.view.read (Elt Ideal) X1) (arg12.view.read (Elt Ideal) X12) v19 ⟨8 * j + r, by omega⟩ q else 0 := by
  rw [blocks (fun n => headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n) (fun r q z => (z) + ∑ j : Fin 64, if BitVec.ofNat 32 (8 * j.val + r.val) = arg6.view.read (Elt Ideal) X6 (ix2 0 q) - arg0 * 512#32 then headLogit (arg1.view.read (Elt Ideal) X1) (arg12.view.read (Elt Ideal) X12) v19 ⟨8 * j + r, by omega⟩ q else 0)
    (fun k hk r q => head_entT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 k hk r q) 8 le_rfl r q, if_pos (by omega)]
  unfold headT
  rfl

/-- The eight blocks fill the running rows. -/
theorem head_coverM (y : S8x4096.Idx) : ∃ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8).1, y ∈ p.1.set :=
  View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8).1 S8x512.size (by sl_kernel_rfl) y

/-- So what the tile leaves does not depend on what was there before the stores. -/
theorem head_readM (n : ℕ) (hn : n = 8) (f : BufTy.Contents (Elt Ideal) arg13.view.ty) (L : List (View.Piece (Elt Ideal) S8x4096 .f32)) :
    arg13.view.read (Elt Ideal) (arg13.view.writes (Elt Ideal) f ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n).1 ++ L))
      = headM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8 := by
  subst hn
  rw [View.writes_append, View.read_writes_eq_canon _ _ _ (head_coverM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15)]
  exact (View.read_writes_eq_canon _ _ _ (head_coverM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15)).symm

/-- The eight blocks fill the running rows. -/
theorem head_coverS (y : S8x4096.Idx) : ∃ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8).2.1, y ∈ p.1.set :=
  View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8).2.1 S8x512.size (by sl_kernel_rfl) y

/-- So what the tile leaves does not depend on what was there before the stores. -/
theorem head_readS (n : ℕ) (hn : n = 8) (f : BufTy.Contents (Elt Ideal) arg14.view.ty) (L : List (View.Piece (Elt Ideal) S8x4096 .f32)) :
    arg14.view.read (Elt Ideal) (arg14.view.writes (Elt Ideal) f ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n).2.1 ++ L))
      = headS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8 := by
  subst hn
  rw [View.writes_append, View.read_writes_eq_canon _ _ _ (head_coverS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15)]
  exact (View.read_writes_eq_canon _ _ _ (head_coverS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15)).symm

/-- The eight blocks fill the running rows. -/
theorem head_coverT (y : S8x4096.Idx) : ∃ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8).2.2, y ∈ p.1.set :=
  View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8).2.2 S8x512.size (by sl_kernel_rfl) y

/-- So what the tile leaves does not depend on what was there before the stores. -/
theorem head_readT (n : ℕ) (hn : n = 8) (f : BufTy.Contents (Elt Ideal) arg15.view.ty) (L : List (View.Piece (Elt Ideal) S8x4096 .f32)) :
    arg15.view.read (Elt Ideal) (arg15.view.writes (Elt Ideal) f ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 n).2.2 ++ L))
      = headT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15 8 := by
  subst hn
  rw [View.writes_append, View.read_writes_eq_canon _ _ _ (head_coverT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15)]
  exact (View.read_writes_eq_canon _ _ _ (head_coverT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h3 v19 X1 X6 X12 G13 G14 G15)).symm

end

end Cert.KernelIdeal.Hand
-- ==== Proof.ValHead.lean ====
module

public import proofs.«01_k».proof.Proof.RunC
public import proofs.«01_k».proof.Proof.HeadLoop

@[expose] public section

/-! What the body leaves in its running rows at the head tiles, and the head result. -/

set_option maxRecDepth 16384

noncomputable section
namespace Cert.KernelIdeal.Hand

open Cert.KernelIdeal.Gen Idealize.ShloMosaic Idealize.ShloMosaic.TcCoe Idealize.SL.Sem Idealize.ShloMosaic.Tactic

/-- A head tile's new running maximum. -/
def hM (x0 : Vec Ideal S4096x1024 .bf16) (x1 : Vec Ideal S512x1024 .bf16) (x2 : Vec Ideal S512x1 .f32) (m : Fin 8 → Fin 4096 → EReal) (r : Fin 8) (q : Fin 4096) : EReal :=
  max (m r q) (Finset.univ.sup fun j : Fin 64 => headLogit x0 x1 x2 ⟨8 * j + r, by omega⟩ q)

/-- A head tile's new running sum. -/
def hS (x0 : Vec Ideal S4096x1024 .bf16) (x1 : Vec Ideal S512x1024 .bf16) (x2 : Vec Ideal S512x1 .f32) (m s : Fin 8 → Fin 4096 → EReal) (r : Fin 8) (q : Fin 4096) : EReal :=
  s r q * Ideal.exp (m r q - hM x0 x1 x2 m r q) + ∑ j : Fin 64, Ideal.exp (headLogit x0 x1 x2 ⟨8 * j + r, by omega⟩ q - hM x0 x1 x2 m r q)

/-- A head tile's new target score. -/
def hT (x0 : Vec Ideal S4096x1024 .bf16) (x1 : Vec Ideal S512x1024 .bf16) (x2 : Vec Ideal S512x1 .f32) (x5 : Vec Ideal S1x4096 .i32) (a0 : BitVec 32) (t : Fin 8 → Fin 4096 → EReal) (r : Fin 8) (q : Fin 4096) : EReal :=
  t r q + ∑ j : Fin 64, if BitVec.ofNat 32 (8 * j.val + r.val) = x5 (ix2 0 q) - a0 * 512#32 then headLogit x0 x1 x2 ⟨8 * j + r, by omega⟩ q else 0

section
variable {X x0 : Vec Ideal S4096x1024 .bf16} {W x1 : Vec Ideal S512x1024 .bf16} {v x2 : Vec Ideal S512x1 .f32}

/-- The new maximum from the loop's own numbers. -/
theorem hM_of {m0 : EReal} {m : Fin 8 → Fin 4096 → EReal} {r : Fin 8} {q : Fin 4096} (hX : X = x0) (hW : W = x1) (hv : v = x2) (hm : m0 = m r q) :
    max m0 (Finset.univ.sup fun j : Fin 64 => headLogit X W v ⟨8 * j + r, by omega⟩ q) = hM x0 x1 x2 m r q := by
  rw [hX, hW, hv, hm]; rfl

/-- The new sum from the loop's own numbers. -/
theorem hS_of {m0 z0 : EReal} {m z : Fin 8 → Fin 4096 → EReal} {r : Fin 8} {q : Fin 4096} (hX : X = x0) (hW : W = x1) (hv : v = x2) (hm : m0 = m r q) (hz : z0 = z r q) :
    z0 * Ideal.exp (m0 - max m0 (Finset.univ.sup fun j : Fin 64 => headLogit X W v ⟨8 * j + r, by omega⟩ q))
      + (∑ j : Fin 64, Ideal.exp (headLogit X W v ⟨8 * j + r, by omega⟩ q - max m0 (Finset.univ.sup fun j : Fin 64 => headLogit X W v ⟨8 * j + r, by omega⟩ q)))
      = hS x0 x1 x2 m z r q := by
  rw [hX, hW, hv, hm, hz]; rfl

/-- The new target score from the loop's own numbers. -/
theorem hT_of {t0 : EReal} {t : Fin 8 → Fin 4096 → EReal} {a0 : BitVec 32} {y : BitVec 32} {x5 : Vec Ideal S1x4096 .i32} {r : Fin 8} {q : Fin 4096} (hX : X = x0) (hW : W = x1) (hv : v = x2)
    (ht : t0 = t r q) (hy : y = x5 (ix2 0 q)) :
    (t0 + ∑ j : Fin 64, if BitVec.ofNat 32 (8 * j.val + r.val) = y - a0 * 512#32 then headLogit X W v ⟨8 * j + r, by omega⟩ q else 0)
      = hT x0 x1 x2 x5 a0 t r q := by
  rw [hX, hW, hv, ht, hy]; rfl

end

section
variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

/-- The running maximum the body at point 0 leaves. -/
theorem runA_M (hc0 : cond0_0 i) (hc1 : cond0_1 i) (hc2 : cond0_2 i) (hc3 : ¬cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32)
    (f : BufTy.Contents (Elt Ideal) arg13.view.ty) (r : Fin 8) (q : Fin 4096) :
    arg13.view.read (Elt Ideal) (arg13.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x8 ).2.2.1) (ix2 r q)
      = hM x0 x1 x2 (fun _ _ => NEG) r q := by
  unfold runA
  dsimp only
  rw [head_readM (n := Scf.trips 0#32 (Scalar.addi 0#32 8#32) 1#32) (hn := rfl)]
  rw [head_M]
  exact hM_of (m := (fun _ _ => NEG)) (harg1.read_unread _) (by unfold runA.sl.HS1_1; rw [View.read_writes_full, View.readAt_full, harg2.read_unread, pay9_eq]) (by rw [View.readAt_full, harg3.read_unread]) (by unfold runA.sl.HS2_1; rw [View.read_writes_full, pay7_apply])

/-- The running sum the body at point 0 leaves. -/
theorem runA_S (hc0 : cond0_0 i) (hc1 : cond0_1 i) (hc2 : cond0_2 i) (hc3 : ¬cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32)
    (f : BufTy.Contents (Elt Ideal) arg14.view.ty) (r : Fin 8) (q : Fin 4096) :
    arg14.view.read (Elt Ideal) (arg14.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x8 ).2.2.2.1) (ix2 r q)
      = hS x0 x1 x2 (fun _ _ => NEG) (fun _ _ => 0) r q := by
  unfold runA
  dsimp only
  rw [head_readS (n := Scf.trips 0#32 (Scalar.addi 0#32 8#32) 1#32) (hn := rfl)]
  rw [head_S]
  exact hS_of (m := (fun _ _ => NEG)) (z := (fun _ _ => 0)) (harg1.read_unread _) (by unfold runA.sl.HS1_1; rw [View.read_writes_full, View.readAt_full, harg2.read_unread, pay9_eq]) (by rw [View.readAt_full, harg3.read_unread]) (by unfold runA.sl.HS2_1; rw [View.read_writes_full, pay7_apply]) (by unfold runA.sl.HS3_1; rw [View.read_writes_full, pay8_apply])

/-- The running target score the body at point 0 leaves. -/
theorem runA_T (hc0 : cond0_0 i) (hc1 : cond0_1 i) (hc2 : cond0_2 i) (hc3 : ¬cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32)
    (f : BufTy.Contents (Elt Ideal) arg15.view.ty) (r : Fin 8) (q : Fin 4096) :
    arg15.view.read (Elt Ideal) (arg15.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x8 ).2.2.2.2.1) (ix2 r q)
      = hT x0 x1 x2 x5 (BitVec.ofNat 32 (i 0).val) (fun _ _ => 0) r q := by
  unfold runA
  dsimp only
  rw [head_readT (n := Scf.trips 0#32 (Scalar.addi 0#32 8#32) 1#32) (hn := rfl)]
  rw [head_T]
  exact hT_of (t := (fun _ _ => 0)) (harg1.read_unread _) (by unfold runA.sl.HS1_1; rw [View.read_writes_full, View.readAt_full, harg2.read_unread, pay9_eq]) (by rw [View.readAt_full, harg3.read_unread]) (by unfold runA.sl.HS4_1; rw [View.read_writes_full, pay6_apply]) (congrFun (harg6.read_unread _) _)

/-- The running maximum the body at a head tile after the first leaves. -/
theorem runB_M (hc0 : ¬cond0_0 i) (hc1 : ¬cond0_1 i) (hc2 : cond0_2 i) (hc3 : ¬cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs2 : Vec Ideal S8x4096 .f32) (xs3 : Vec Ideal S8x4096 .f32) (xs4 : Vec Ideal S8x4096 .f32)
    (f : BufTy.Contents (Elt Ideal) arg13.view.ty) (r : Fin 8) (q : Fin 4096) :
    arg13.view.read (Elt Ideal) (arg13.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x8 xs0 xs2 xs3 xs4).2.2.1) (ix2 r q)
      = hM x0 x1 x2 (fun r q => xs2 (ix2 r q)) r q := by
  unfold runB
  dsimp only
  refine (congrArg (fun L => arg13.view.read (Elt Ideal) (arg13.view.writes (Elt Ideal) f L) (ix2 r q)) (List.append_nil _).symm).trans ?_
  rw [head_readM (n := Scf.trips 0#32 (Scalar.addi 0#32 8#32) 1#32) (hn := rfl)]
  rw [head_M]
  exact hM_of (m := (fun r q => xs2 (ix2 r q))) (harg1.read_unread _) (by unfold runB.sl.HS1_1; rw [View.read_writes_full, View.readAt_full, harg2.read_unread, pay9_eq]) (by rw [View.readAt_full, harg3.read_unread]) (congrFun (harg13.read_unread _) _)

/-- The running sum the body at a head tile after the first leaves. -/
theorem runB_S (hc0 : ¬cond0_0 i) (hc1 : ¬cond0_1 i) (hc2 : cond0_2 i) (hc3 : ¬cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs2 : Vec Ideal S8x4096 .f32) (xs3 : Vec Ideal S8x4096 .f32) (xs4 : Vec Ideal S8x4096 .f32)
    (f : BufTy.Contents (Elt Ideal) arg14.view.ty) (r : Fin 8) (q : Fin 4096) :
    arg14.view.read (Elt Ideal) (arg14.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x8 xs0 xs2 xs3 xs4).2.2.2.1) (ix2 r q)
      = hS x0 x1 x2 (fun r q => xs2 (ix2 r q)) (fun r q => xs3 (ix2 r q)) r q := by
  unfold runB
  dsimp only
  refine (congrArg (fun L => arg14.view.read (Elt Ideal) (arg14.view.writes (Elt Ideal) f L) (ix2 r q)) (List.append_nil _).symm).trans ?_
  rw [head_readS (n := Scf.trips 0#32 (Scalar.addi 0#32 8#32) 1#32) (hn := rfl)]
  rw [head_S]
  exact hS_of (m := (fun r q => xs2 (ix2 r q))) (z := (fun r q => xs3 (ix2 r q))) (harg1.read_unread _) (by unfold runB.sl.HS1_1; rw [View.read_writes_full, View.readAt_full, harg2.read_unread, pay9_eq]) (by rw [View.readAt_full, harg3.read_unread]) (congrFun (harg13.read_unread _) _) (congrFun (harg14.read_unread _) _)

/-- The running target score the body at a head tile after the first leaves. -/
theorem runB_T (hc0 : ¬cond0_0 i) (hc1 : ¬cond0_1 i) (hc2 : cond0_2 i) (hc3 : ¬cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs2 : Vec Ideal S8x4096 .f32) (xs3 : Vec Ideal S8x4096 .f32) (xs4 : Vec Ideal S8x4096 .f32)
    (f : BufTy.Contents (Elt Ideal) arg15.view.ty) (r : Fin 8) (q : Fin 4096) :
    arg15.view.read (Elt Ideal) (arg15.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x8 xs0 xs2 xs3 xs4).2.2.2.2.1) (ix2 r q)
      = hT x0 x1 x2 x5 (BitVec.ofNat 32 (i 0).val) (fun r q => xs4 (ix2 r q)) r q := by
  unfold runB
  dsimp only
  refine (congrArg (fun L => arg15.view.read (Elt Ideal) (arg15.view.writes (Elt Ideal) f L) (ix2 r q)) (List.append_nil _).symm).trans ?_
  rw [head_readT (n := Scf.trips 0#32 (Scalar.addi 0#32 8#32) 1#32) (hn := rfl)]
  rw [head_T]
  exact hT_of (t := (fun r q => xs4 (ix2 r q))) (harg1.read_unread _) (by unfold runB.sl.HS1_1; rw [View.read_writes_full, View.readAt_full, harg2.read_unread, pay9_eq]) (by rw [View.readAt_full, harg3.read_unread]) (congrFun (harg15.read_unread _) _) (congrFun (harg6.read_unread _) _)

/-- The running maximum the body at the last head tile leaves. -/
theorem runC_M (hc0 : ¬cond0_0 i) (hc1 : ¬cond0_1 i) (hc2 : cond0_2 i) (hc3 : cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32)  (xs0 : Vec Ideal S4096x1024 .bf16) (xs2 : Vec Ideal S8x4096 .f32) (xs3 : Vec Ideal S8x4096 .f32) (xs4 : Vec Ideal S8x4096 .f32)
    (f : BufTy.Contents (Elt Ideal) arg13.view.ty) (r : Fin 8) (q : Fin 4096) :
    arg13.view.read (Elt Ideal) (arg13.view.writes (Elt Ideal) f (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5  xs0 xs2 xs3 xs4).2.2.2.1) (ix2 r q)
      = hM x0 x1 x2 (fun r q => xs2 (ix2 r q)) r q := by
  unfold runC
  dsimp only
  refine (congrArg (fun L => arg13.view.read (Elt Ideal) (arg13.view.writes (Elt Ideal) f L) (ix2 r q)) (List.append_nil _).symm).trans ?_
  rw [head_readM (n := Scf.trips 0#32 (Scalar.addi 0#32 8#32) 1#32) (hn := rfl)]
  rw [head_M]
  exact hM_of (m := (fun r q => xs2 (ix2 r q))) (harg1.read_unread _) (by unfold runC.sl.HS1_1; rw [View.read_writes_full, View.readAt_full, harg2.read_unread, pay9_eq]) (by rw [View.readAt_full, harg3.read_unread]) (congrFun (harg13.read_unread _) _)

/-- The running sum the body at the last head tile leaves. -/
theorem runC_S (hc0 : ¬cond0_0 i) (hc1 : ¬cond0_1 i) (hc2 : cond0_2 i) (hc3 : cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32)  (xs0 : Vec Ideal S4096x1024 .bf16) (xs2 : Vec Ideal S8x4096 .f32) (xs3 : Vec Ideal S8x4096 .f32) (xs4 : Vec Ideal S8x4096 .f32)
    (f : BufTy.Contents (Elt Ideal) arg14.view.ty) (r : Fin 8) (q : Fin 4096) :
    arg14.view.read (Elt Ideal) (arg14.view.writes (Elt Ideal) f (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5  xs0 xs2 xs3 xs4).2.2.2.2.1) (ix2 r q)
      = hS x0 x1 x2 (fun r q => xs2 (ix2 r q)) (fun r q => xs3 (ix2 r q)) r q := by
  unfold runC
  dsimp only
  refine (congrArg (fun L => arg14.view.read (Elt Ideal) (arg14.view.writes (Elt Ideal) f L) (ix2 r q)) (List.append_nil _).symm).trans ?_
  rw [head_readS (n := Scf.trips 0#32 (Scalar.addi 0#32 8#32) 1#32) (hn := rfl)]
  rw [head_S]
  exact hS_of (m := (fun r q => xs2 (ix2 r q))) (z := (fun r q => xs3 (ix2 r q))) (harg1.read_unread _) (by unfold runC.sl.HS1_1; rw [View.read_writes_full, View.readAt_full, harg2.read_unread, pay9_eq]) (by rw [View.readAt_full, harg3.read_unread]) (congrFun (harg13.read_unread _) _) (congrFun (harg14.read_unread _) _)

/-- The running target score the body at the last head tile leaves. -/
theorem runC_T (hc0 : ¬cond0_0 i) (hc1 : ¬cond0_1 i) (hc2 : cond0_2 i) (hc3 : cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32)  (xs0 : Vec Ideal S4096x1024 .bf16) (xs2 : Vec Ideal S8x4096 .f32) (xs3 : Vec Ideal S8x4096 .f32) (xs4 : Vec Ideal S8x4096 .f32)
    (f : BufTy.Contents (Elt Ideal) arg15.view.ty) (r : Fin 8) (q : Fin 4096) :
    arg15.view.read (Elt Ideal) (arg15.view.writes (Elt Ideal) f (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5  xs0 xs2 xs3 xs4).2.2.2.2.2.1) (ix2 r q)
      = hT x0 x1 x2 x5 (BitVec.ofNat 32 (i 0).val) (fun r q => xs4 (ix2 r q)) r q := by
  unfold runC
  dsimp only
  refine (congrArg (fun L => arg15.view.read (Elt Ideal) (arg15.view.writes (Elt Ideal) f L) (ix2 r q)) (List.append_nil _).symm).trans ?_
  rw [head_readT (n := Scf.trips 0#32 (Scalar.addi 0#32 8#32) 1#32) (hn := rfl)]
  rw [head_T]
  exact hT_of (t := (fun r q => xs4 (ix2 r q))) (harg1.read_unread _) (by unfold runC.sl.HS1_1; rw [View.read_writes_full, View.readAt_full, harg2.read_unread, pay9_eq]) (by rw [View.readAt_full, harg3.read_unread]) (congrFun (harg15.read_unread _) _) (congrFun (harg6.read_unread _) _)

/-- The head's log-sum-exp, stored at the last head tile. -/
theorem runC_out (hc0 : ¬cond0_0 i) (hc1 : ¬cond0_1 i) (hc2 : cond0_2 i) (hc3 : cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32)  (xs0 : Vec Ideal S4096x1024 .bf16) (xs2 : Vec Ideal S8x4096 .f32) (xs3 : Vec Ideal S8x4096 .f32) (xs4 : Vec Ideal S8x4096 .f32)
    (f : BufTy.Contents (Elt Ideal) arg9.view.ty) (q : Fin 4096) :
    arg9.view.read (Elt Ideal) (arg9.view.writes (Elt Ideal) f (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5  xs0 xs2 xs3 xs4).1) (ix2 0 q)
      = lseOf (fun r => hM x0 x1 x2 (fun r q => xs2 (ix2 r q)) r q) (fun r => hS x0 x1 x2 (fun r q => xs2 (ix2 r q)) (fun r q => xs3 (ix2 r q)) r q) := by
  rw [show (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5  xs0 xs2 xs3 xs4).1 = [⟨Rect.unit ![0, 0] ![1, 4096] inb_S1x4096_S1x4096_0_0, k0_pay12 (F := Ideal)
      (arg13.view.read (Elt Ideal) (arg13.view.writes (Elt Ideal) (harg13.unread xs2) (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5  xs0 xs2 xs3 xs4).2.2.2.1))
      (arg14.view.read (Elt Ideal) (arg14.view.writes (Elt Ideal) (harg14.unread xs3) (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5  xs0 xs2 xs3 xs4).2.2.2.2.1))⟩] from ?_]
  · rw [View.read_writes_full, pay12_apply]
    simp only [runC_M, runC_S]
  · unfold runC
    dsimp only
    unfold runC.sl.v25 runC.sl.v26
    rw [View.readAt_full arg13.view, View.readAt_full arg14.view]

end

end Cert.KernelIdeal.Hand
-- ==== Proof.RunD.lean ====
module

public import proofs.«01_k».proof.Proof.RunC

@[expose] public section

/-! What the kernel's body does at the first tail tile, whatever its numbers. -/

set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1200000 in
/-- The body at point 12: reset the running maxima and sums, run a tail tile. The lists are the pieces its stores leave in each buffer, last first, and the
    triple says so. -/
noncomputable def runD (hc0 : ¬cond0_0 i) (hc1 : cond0_1 i) (hc2 : ¬cond0_2 i) (hc4 : cond0_4 i) (hc5 : ¬cond0_5 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) (xs0 : Vec F S4096x1024 .bf16) (xs1 : Vec F S512x1024 .bf16) (xs4 : Vec F S8x4096 .f32) :
    Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            owns (c : Thread nD τ) arg12 fullShare xs1 ∗
            (∃ d, owns (c : Thread nD τ) arg13 fullShare d) ∗
            (∃ d, owns (c : Thread nD τ) arg14 fullShare d) ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗ (arg12.view.loc (c : Thread nD τ) ↦[arg12.view.set]{fullShare} arg12.view.writes (Elt F) (harg12.unread xs1) LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, fun E K => ?run⟩
  case run =>
    simp only [cc0_two_tier_lse_eq_skeleton]; unfold cc0_two_tier_lse_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%fs0, %hfs0, HS0⟩, ⟨%fs1, %hfs1, HS1⟩, ⟨%ds2, %fs2, -, HS2⟩, ⟨%ds3, %fs3, -, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg11.eq_unread hfs0; obtain rfl := harg12.eq_unread hfs1; obtain rfl := harg15.eq_unread hfs4
    sl_exec (disch := first | sl_exact hc0 | sl_exact hc1 | sl_exact hc2 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _; isplitr; · ipureintro; exact harg9.read_unread _
      iexact H8
    isplitl [H9]
    · iexists _, _; isplitr; swap; · iexact H9
      ipureintro; rfl
    isplitl [HS0]
    · iexists _; isplitr; · ipureintro; exact harg11.read_unread _
      iexact HS0
    isplitl [HS1]; · iexact HS1
    isplitl [HS2]; · iexists _; iexact HS2
    isplitl [HS3]; · iexists _; iexact HS3
    iexists _; iexact HS4

end Cert.KernelIdeal.Hand

end
-- ==== Proof.RunE.lean ====
module

public import proofs.«01_k».proof.Proof.RunD

@[expose] public section

/-! What the kernel's body does at a tail tile in the middle, whatever its numbers. -/

set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1600000 in
/-- The body at points 13 to 102: a tail tile. The lists are the pieces its stores leave in each buffer, last first, and the
    triple says so. -/
noncomputable def runE (hc0 : ¬cond0_0 i) (hc1 : ¬cond0_1 i) (hc2 : ¬cond0_2 i) (hc4 : cond0_4 i) (hc5 : ¬cond0_5 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) (xs0 : Vec F S4096x1024 .bf16) (xs1 : Vec F S512x1024 .bf16) (xs2 : Vec F S8x4096 .f32) (xs3 : Vec F S8x4096 .f32) (xs4 : Vec F S8x4096 .f32) :
    Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            owns (c : Thread nD τ) arg12 fullShare xs1 ∗
            owns (c : Thread nD τ) arg13 fullShare xs2 ∗
            owns (c : Thread nD τ) arg14 fullShare xs3 ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗ (arg12.view.loc (c : Thread nD τ) ↦[arg12.view.set]{fullShare} arg12.view.writes (Elt F) (harg12.unread xs1) LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, fun E K => ?run⟩
  case run =>
    simp only [cc0_two_tier_lse_eq_skeleton]; unfold cc0_two_tier_lse_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg11.eq_unread hfs0; obtain rfl := harg12.eq_unread hfs1; obtain rfl := harg13.eq_unread hfs2; obtain rfl := harg14.eq_unread hfs3; obtain rfl := harg15.eq_unread hfs4
    sl_exec (disch := first | sl_exact hc0 | sl_exact hc1 | sl_exact hc2 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _; isplitr; · ipureintro; exact harg9.read_unread _
      iexact H8
    isplitl [H9]
    · iexists _, _; isplitr; swap; · iexact H9
      ipureintro; rfl
    isplitl [HS0]
    · iexists _; isplitr; · ipureintro; exact harg11.read_unread _
      iexact HS0
    isplitl [HS1]; · iexact HS1
    isplitl [HS2]; · iexists _; iexact HS2
    isplitl [HS3]; · iexists _; iexact HS3
    iexists _; iexact HS4

end Cert.KernelIdeal.Hand

end
-- ==== Proof.RunF.lean ====
module

public import proofs.«01_k».proof.Proof.RunE

@[expose] public section

/-! What the kernel's body does at the last point, whatever its numbers. -/

set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

set_option maxHeartbeats 1600000 in
/-- The body at point 103: the last tail tile, which stores the results. The lists are the pieces its stores leave in each buffer, last first, and the
    triple says so. -/
noncomputable def runF (hc0 : ¬cond0_0 i) (hc1 : ¬cond0_1 i) (hc2 : ¬cond0_2 i) (hc4 : cond0_4 i) (hc5 : cond0_5 i)
    (x0 : Vec F S4096x1024 .bf16) (x1 : Vec F S512x1024 .fp8e4m3) (x2 : Vec F S512x1 .f32) (x3 : Vec F S480x512 .i8) (x4 : Vec F S480x8 .bf16) (x5 : Vec F S1x4096 .i32) (x8 : Vec F S1x4096 .f32) (xs0 : Vec F S4096x1024 .bf16) (xs1 : Vec F S512x1024 .bf16) (xs2 : Vec F S8x4096 .f32) (xs3 : Vec F S8x4096 .f32) (xs4 : Vec F S8x4096 .f32) :
    Σ' (L6 : List (View.Piece (Elt F) S1x4096 .f32)), Σ' (L7 : List (View.Piece (Elt F) S1x4096 .f32)), Σ' (L9 : List (View.Piece (Elt F) S1x4096 .f32)), Σ' (LS0 : List (View.Piece (Elt F) S4096x1024 .bf16)), Σ' (LS1 : List (View.Piece (Elt F) S512x1024 .bf16)), Σ' (LS2 : List (View.Piece (Elt F) S8x4096 .f32)), Σ' (LS3 : List (View.Piece (Elt F) S8x4096 .f32)), { LS4 : List (View.Piece (Elt F) S8x4096 .f32) //
      ∀ (E : Set ℕ) (K : PUnit → sProp 𝕄),
        iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ d, owns (c : Thread nD τ) arg7 fullShare d) ∗
            (∃ d, owns (c : Thread nD τ) arg8 fullShare d) ∗
            owns (c : Thread nD τ) arg9 fullShare x8 ∗
            (∃ d, owns (c : Thread nD τ) arg10 fullShare d) ∗
            owns (c : Thread nD τ) arg11 fullShare xs0 ∗
            owns (c : Thread nD τ) arg12 fullShare xs1 ∗
            owns (c : Thread nD τ) arg13 fullShare xs2 ∗
            owns (c : Thread nD τ) arg14 fullShare xs3 ∗
            owns (c : Thread nD τ) arg15 fullShare xs4
            ∗ (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            (∃ f, arg7.view.loc (c : Thread nD τ) ↦[arg7.view.set]{fullShare} arg7.view.writes (Elt F) f L6) ∗
            (∃ f, arg8.view.loc (c : Thread nD τ) ↦[arg8.view.set]{fullShare} arg8.view.writes (Elt F) f L7) ∗
            owns (c : Thread nD τ) arg9 fullShare x8 ∗
            (∃ f, arg10.view.loc (c : Thread nD τ) ↦[arg10.view.set]{fullShare} arg10.view.writes (Elt F) f L9) ∗
            owns (c : Thread nD τ) arg11 fullShare xs0 ∗ (arg12.view.loc (c : Thread nD τ) ↦[arg12.view.set]{fullShare} arg12.view.writes (Elt F) (harg12.unread xs1) LS1) ∗
            (∃ f, arg13.view.loc (c : Thread nD τ) ↦[arg13.view.set]{fullShare} arg13.view.writes (Elt F) f LS2) ∗
            (∃ f, arg14.view.loc (c : Thread nD τ) ↦[arg14.view.set]{fullShare} arg14.view.writes (Elt F) f LS3) ∗
            (∃ f, arg15.view.loc (c : Thread nD τ) ↦[arg15.view.set]{fullShare} arg15.view.writes (Elt F) f LS4)) -∗ K ⟨⟩))
          ⊢ wp frame (wpE (defs₀ (F := F)) Variants.none c none) E (cc0_two_tier_lse i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], ?_, ?_, ?_, ?_, fun E K => ?run⟩
  case run =>
    simp only [cc0_two_tier_lse_eq_skeleton]; unfold cc0_two_tier_lse_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg11.eq_unread hfs0; obtain rfl := harg12.eq_unread hfs1; obtain rfl := harg13.eq_unread hfs2; obtain rfl := harg14.eq_unread hfs3; obtain rfl := harg15.eq_unread hfs4
    sl_exec (disch := first | sl_exact hc0 | sl_exact hc1 | sl_exact hc2 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]; · iexists _; iexact H9
    isplitl [HS0]
    · iexists _; isplitr; · ipureintro; exact harg11.read_unread _
      iexact HS0
    isplitl [HS1]; · iexact HS1
    isplitl [HS2]; · iexists _; iexact HS2
    isplitl [HS3]; · iexists _; iexact HS3
    iexists _; iexact HS4

end Cert.KernelIdeal.Hand

end
-- ==== Proof.TailPay.lean ====
module

public import proofs.«01_k».proof.Proof.HeadPay

@[expose] public section

/-! What the operations of a tail tile compute, entry by entry. -/

set_option maxRecDepth 16384

noncomputable section
namespace Cert.KernelIdeal.Hand

open Cert.KernelIdeal.Gen Idealize.ShloMosaic

/-- A lane below 64 takes the first scale, the others the second. -/
theorem lane_select (l : Fin 128) (x y : EReal) :
    Scalar.select (IntOp.cmpi .slt (BitVec.ofNat 32 l) 64#32) x y = if (l : ℕ) < 64 then x else y := by
  have h : ∀ l : Fin 128, IntOp.cmpi .slt (BitVec.ofNat 32 l) 64#32 = if (l : ℕ) < 64 then 1#1 else 0#1 := by
    decide +kernel
  rw [h l]
  split <;> rfl

/-- A four-bit code as a signed integer. -/
def signed4 (n : ℕ) : ℤ := if n % 16 < 8 then (n % 16 : ℕ) else (n % 16 : ℕ) - 16
/-- The low four bits of a byte, signed. -/
def nibLo (b : BitVec 8) : EReal := ((signed4 b.toNat : ℝ) : EReal)
/-- The high four bits of a byte, signed. -/
def nibHi (b : BitVec 8) : EReal := ((signed4 (b.toNat / 16) : ℝ) : EReal)

/-- A byte is one of 256. -/
theorem bits8 (b : BitVec 8) : ∃ n : Fin 256, b = BitVec.ofNat 8 n := ⟨⟨b.toNat, b.isLt⟩, by simp⟩

/-- Shifting up by 28 and back leaves the low four bits, signed. -/
theorem nibLo_shift (b : BitVec 8) :
    (FloatOps.sitofp .f32 (IntOp.shrsi ArithUnit.vector (IntOp.shli ArithUnit.vector (BitVec.setWidth 32 b) 28#32) 28#32) : Ideal .f32) = nibLo b := by
  have h : ∀ n : Fin 256, (IntOp.shrsi ArithUnit.vector (IntOp.shli ArithUnit.vector (BitVec.setWidth 32 (BitVec.ofNat 8 n)) 28#32) 28#32).toInt = signed4 (BitVec.ofNat 8 n).toNat := by
    decide +kernel
  obtain ⟨n, rfl⟩ := bits8 b
  exact congrArg (fun z : ℤ => ((z : ℝ) : EReal)) (h n)

/-- Shifting up by 24 and down by 28 leaves the high four bits, signed. -/
theorem nibHi_shift (b : BitVec 8) :
    (FloatOps.sitofp .f32 (IntOp.shrsi ArithUnit.vector (IntOp.shli ArithUnit.vector (BitVec.setWidth 32 b) 24#32) 28#32) : Ideal .f32) = nibHi b := by
  have h : ∀ n : Fin 256, (IntOp.shrsi ArithUnit.vector (IntOp.shli ArithUnit.vector (BitVec.setWidth 32 (BitVec.ofNat 8 n)) 24#32) 28#32).toInt = signed4 ((BitVec.ofNat 8 n).toNat / 16) := by
    decide +kernel
  obtain ⟨n, rfl⟩ := bits8 b
  exact congrArg (fun z : ℤ => ((z : ℝ) : EReal)) (h n)

/-- The unpacked low codes. -/
theorem pay131_apply (v14 : Vec Ideal S480x512 .i8) (r : Fin 480) (l : Fin 512) :
    k0_pay131 (F := Ideal) v14 (ix2 r l) = nibLo (v14 (ix2 r l)) := by
  pointwise [k0_pay131, k0_pay129]
  exact nibLo_shift _
/-- The unpacked high codes. -/
theorem pay137_apply (v14 : Vec Ideal S480x512 .i8) (r : Fin 480) (l : Fin 512) :
    k0_pay137 (F := Ideal) (k0_pay130 (F := Ideal) v14) (ix2 r l) = nibHi (v14 (ix2 r l)) := by
  pointwise [k0_pay137, k0_pay130, k0_pay129]
  exact nibHi_shift _

/-- The scale of a lane of a chunk, as the lane chooses between its chunk's two columns. -/
theorem scale_select (s : Vec Ideal S480x8 .bf16) (r : Fin 480) (o : ℕ) (l : Fin 128) (ho : o % 128 = 0) (h : o + 128 ≤ 512) :
    Scalar.select (IntOp.cmpi .slt (BitVec.ofNat 32 l) 64#32) (s (ix2 r ⟨o / 64, by omega⟩)) (s (ix2 r ⟨o / 64 + 1, by omega⟩))
      = s (ix2 r ⟨(o + l) / 64, by omega⟩) := by
  rw [lane_select]
  split
  · congr 2; apply Fin.ext; simp only; omega
  · congr 2; apply Fin.ext; simp only; omega

/-- The first chunk of the low codes, scaled. -/
theorem pay132_apply (v14 : Vec Ideal S480x512 .i8) (v24 : Vec Ideal S480x8 .bf16) (r : Fin 480) (l : Fin 128) :
    k0_pay132 (F := Ideal) v14 v24 (ix2 r l) = k0_pay131 (F := Ideal) v14 (ix2 r ⟨0 + l, by omega⟩) * v24 (ix2 r ⟨(0 + l) / 64, by omega⟩) := by
  rw [← scale_select v24 r 0 l (by norm_num) (by norm_num)]
  pointwise [k0_pay132]
/-- The second chunk of the low codes, scaled. -/
theorem pay133_apply (v14 : Vec Ideal S480x512 .i8) (v24 : Vec Ideal S480x8 .bf16) (r : Fin 480) (l : Fin 128) :
    k0_pay134 (F := Ideal) (k0_pay133 (F := Ideal) v14 v24) (ix2 r l) = k0_pay131 (F := Ideal) v14 (ix2 r ⟨128 + l, by omega⟩) * v24 (ix2 r ⟨(128 + l) / 64, by omega⟩) := by
  rw [← scale_select v24 r 128 l (by norm_num) (by norm_num)]
  pointwise [k0_pay133, k0_pay134]
/-- The third chunk of the low codes, scaled. -/
theorem pay135_apply (v : FVec Ideal S480x512 .bf16) (v24 : Vec Ideal S480x8 .bf16) (r : Fin 480) (l : Fin 128) :
    k0_pay135 (F := Ideal) v24 v (ix2 r l) = v (ix2 r ⟨256 + l, by omega⟩) * v24 (ix2 r ⟨(256 + l) / 64, by omega⟩) := by
  rw [← scale_select v24 r 256 l (by norm_num) (by norm_num)]
  pointwise [k0_pay135]
/-- The fourth chunk of the low codes, scaled. -/
theorem pay136_apply (v : FVec Ideal S480x512 .bf16) (v24 : Vec Ideal S480x8 .bf16) (r : Fin 480) (l : Fin 128) :
    k0_pay136 (F := Ideal) v24 v (ix2 r l) = v (ix2 r ⟨384 + l, by omega⟩) * v24 (ix2 r ⟨(384 + l) / 64, by omega⟩) := by
  rw [← scale_select v24 r 384 l (by norm_num) (by norm_num)]
  pointwise [k0_pay136]
/-- The first chunk of the high codes, scaled. -/
theorem pay141_apply (v : FVec Ideal S480x512 .bf16) (v24 : Vec Ideal S480x8 .bf16) (r : Fin 480) (l : Fin 128) :
    k0_pay141 (F := Ideal) v k0_pay138 (k0_pay139 (F := Ideal) v24) (k0_pay140 (F := Ideal) v24) (ix2 r l) = v (ix2 r ⟨0 + l, by omega⟩) * v24 (ix2 r ⟨(0 + l) / 64, by omega⟩) := by
  rw [← scale_select v24 r 0 l (by norm_num) (by norm_num)]
  pointwise [k0_pay138, k0_pay139, k0_pay140, k0_pay141]
/-- The second chunk of the high codes, scaled. -/
theorem pay142_apply (v : FVec Ideal S480x512 .bf16) (v24 : Vec Ideal S480x8 .bf16) (r : Fin 480) (l : Fin 128) :
    k0_pay142 (F := Ideal) v24 v (ix2 r l) = v (ix2 r ⟨128 + l, by omega⟩) * v24 (ix2 r ⟨(128 + l) / 64, by omega⟩) := by
  rw [← scale_select v24 r 128 l (by norm_num) (by norm_num)]
  pointwise [k0_pay142]
/-- The third chunk of the high codes, scaled. -/
theorem pay143_apply (v : FVec Ideal S480x512 .bf16) (v24 : Vec Ideal S480x8 .bf16) (r : Fin 480) (l : Fin 128) :
    k0_pay143 (F := Ideal) v24 v (ix2 r l) = v (ix2 r ⟨256 + l, by omega⟩) * v24 (ix2 r ⟨(256 + l) / 64, by omega⟩) := by
  rw [← scale_select v24 r 256 l (by norm_num) (by norm_num)]
  pointwise [k0_pay143]
/-- The fourth chunk of the high codes, scaled. -/
theorem pay13_apply (v : FVec Ideal S480x512 .bf16) (v24 : Vec Ideal S480x8 .bf16) (r : Fin 480) (l : Fin 128) :
    k0_pay13 (F := Ideal) v24 v (iota .tc S480x128 32 [1] iota_S480x128_d1_w32) (broadcast S480x128 64#32) (ix2 r l) = v (ix2 r ⟨384 + l, by omega⟩) * v24 (ix2 r ⟨(384 + l) / 64, by omega⟩) := by
  rw [← scale_select v24 r 384 l (by norm_num) (by norm_num)]
  pointwise [k0_pay13]

/-- A tail tile's logits as sums over the channels. -/
theorem pay123_apply (v180 : Vec Ideal S512x1024 .bf16) (v181 : Vec Ideal S480x1024 .bf16) (a : Fin 480) (c : Fin 512) :
    k0_pay123 (F := Ideal) v180 v181 (ix2 a c) = ∑ d : Fin 1024, v181 (ix2 a d) * v180 (ix2 c d) := by
  pointwise [k0_pay123]
/-- The target counted from the tail tile's first row. -/
theorem pay128_apply (a0 : BitVec 32) (v214 : Vec Ideal S1x512 .i32) (c : Fin 512) :
    k0_pay128 (F := Ideal) a0 v214 (ix2 0 c) = v214 (ix2 0 c) - (6144#32 + (a0 - 12#32) * 480#32) := by
  pointwise [k0_pay128]
  rfl

/-- Which channel of a group of 256 the column `b` of the reordered group holds: the even ones first. -/
def evenOdd (b : ℕ) : ℕ := if b < 128 then 2 * b else 2 * (b - 128) + 1
/-- The 0/1 matrix that puts the even channels first. -/
theorem pay18_apply (a b : Fin 256) : k0_pay18 (F := Ideal) (ix2 a b) = if (a : ℕ) = evenOdd b then 1 else 0 := by
  pointwise [k0_pay18]
  have h : ∀ b : Fin 256, Scalar.select (IntOp.cmpi CmpIPredicate.slt (BitVec.ofNat 32 ↑b) 128#32)
            (IntOp.muli (2#32) (BitVec.ofNat 32 ↑b))
            (IntOp.addi (IntOp.muli (2#32) (IntOp.subi (BitVec.ofNat 32 ↑b) 128#32)) 1#32) = BitVec.ofNat 32 (evenOdd b) := by
    decide +kernel
  have hb : ∀ b : Fin 256, evenOdd b < 256 := by decide +kernel
  have e : IntOp.cmpi CmpIPredicate.eq (BitVec.ofNat 32 (a : ℕ)) (BitVec.ofNat 32 (evenOdd b)) = if (a : ℕ) = evenOdd b then 1#1 else 0#1 := by
    have hi : (BitVec.ofNat 32 (a : ℕ) = BitVec.ofNat 32 (evenOdd b)) ↔ (a : ℕ) = evenOdd b := by
      constructor
      · intro h
        have := congrArg BitVec.toNat h
        have := hb b
        simp only [BitVec.toNat_ofNat] at *
        omega
      · intro h; rw [h]
    show BitVec.ofBool (decide (_ = _)) = _
    by_cases h : (a : ℕ) = evenOdd b
    · rw [if_pos h, decide_eq_true (hi.2 h)]; rfl
    · rw [if_neg h, decide_eq_false (fun h' => h (hi.1 h'))]; rfl
  rw [h b, e]
  split
  · exact (congrArg (fun z : ℤ => ((z : ℝ) : EReal)) (by decide : (BitVec.setWidth 32 1#1).toInt = 1)).trans (by simp)
  · exact (congrArg (fun z : ℤ => ((z : ℝ) : EReal)) (by decide : (BitVec.setWidth 32 0#1).toInt = 0)).trans (by simp)
/-- A group of 256 channels times the reordering matrix is the reordered group. -/
theorem pay3_apply (x : Vec Ideal S512x256 .bf16) (a : Fin 512) (b : Fin 256) :
    k0_pay3 (F := Ideal) (k0_pay18 (F := Ideal)) x (ix2 a b) = x (ix2 a ⟨evenOdd b, by unfold evenOdd; split <;> omega⟩) := by
  pointwise [k0_pay3]
  have hb : evenOdd b < 256 := by unfold evenOdd; split <;> omega
  rw [Finset.sum_eq_single (⟨evenOdd b, hb⟩ : Fin 256)]
  · rw [pay18_apply, if_pos rfl, mul_one]
  · intro k _ hk
    rw [pay18_apply, if_neg, mul_zero]
    intro h; exact hk (Fin.ext h)
  · intro h; exact absurd (Finset.mem_univ _) h

/-- The tail scores, grouped by eights. -/
theorem pay124_apply (v28 : Vec Ideal S512x1024 .bf16) (v30 : Vec Ideal S480x1024 .bf16) (k : Fin 60) (r : Fin 8) (c : Fin 512) :
    k0_pay124 (F := Ideal) v28 v30 (ix3 k r c) = k0_pay123 (F := Ideal) v28 v30 (ix2 ⟨8 * k + r, by omega⟩ c) := by
  pointwise [k0_pay124]
  simp only [Nat.mul_comm]

/-- The new running maximum of a group of rows. -/
theorem pay125_apply (v28 : Vec Ideal S512x1024 .bf16) (v30 : Vec Ideal S480x1024 .bf16) (v38 : Vec Ideal S8x512 .f32) (r : Fin 8) (c : Fin 512) :
    k0_pay125 (F := Ideal) v28 v30 v38 (ix2 r c) = max (v38 (ix2 r c)) (Finset.univ.sup fun k : Fin 60 => k0_pay123 (F := Ideal) v28 v30 (ix2 ⟨8 * k + r, by omega⟩ c)) := by
  pointwise [k0_pay125, pay124_apply]
  rw [ofBits_bot, fold_max_bot]

/-- The new running sum: the old one rescaled, plus this tile's exponentials. -/
theorem pay126_apply (v28 : Vec Ideal S512x1024 .bf16) (v30 : Vec Ideal S480x1024 .bf16) (v38 v48 : Vec Ideal S8x512 .f32) (r : Fin 8) (c : Fin 512) :
    k0_pay126 (F := Ideal) v28 v30 v38 v48 (ix2 r c) = v48 (ix2 r c) * Ideal.exp (v38 (ix2 r c) - k0_pay125 (F := Ideal) v28 v30 v38 (ix2 r c)) + ∑ k : Fin 60, Ideal.exp (k0_pay123 (F := Ideal) v28 v30 (ix2 ⟨8 * k + r, by omega⟩ c) - k0_pay125 (F := Ideal) v28 v30 v38 (ix2 r c)) := by
  pointwise [k0_pay126, pay124_apply]

/-- What is stored as running maximum. -/
theorem pay127_apply (v28 : Vec Ideal S512x1024 .bf16) (v30 : Vec Ideal S480x1024 .bf16) (v38 : Vec Ideal S8x512 .f32) :
    k0_pay127 (F := Ideal) v28 v30 v38 = k0_pay125 (F := Ideal) v28 v30 v38 := by
  funext j
  pointwise [k0_pay127]

/-- The new target score: the old one plus the scores of the row that is hit. -/
theorem pay14_apply (v33 : FVec Ideal S480x512 .f32) (v61 : IVec S480x512 32) (v67 : IVec S1x512 32) (v70 : Vec Ideal S8x512 .f32) (r : Fin 8) (c : Fin 512) :
    k0_pay14 (F := Ideal) v33 v61 v67 v70 (ix2 r c) = v70 (ix2 r c) + ∑ k : Fin 60, if v61 (ix2 ⟨8 * k + r, by omega⟩ c) = v67 (ix2 0 c) then v33 (ix2 ⟨8 * k + r, by omega⟩ c) else 0 := by
  pointwise [k0_pay14]
  simp only [Nat.mul_comm, select_cmpi_eq]

end Cert.KernelIdeal.Hand
-- ==== Proof.TailLoop.lean ====
module

public import proofs.«01_k».proof.Proof.Cells
public import proofs.«01_k».proof.Proof.TailPay
public import proofs.«01_k».proof.Proof.Blocks

@[expose] public section

/-! What one tail tile does to the running rows: eight blocks of 512 tokens each. -/

set_option maxRecDepth 16384

noncomputable section
namespace Cert.KernelIdeal.Hand

open Cert.KernelIdeal.Gen Idealize.ShloMosaic Idealize.ShloMosaic.TcCoe Idealize.SL.Sem Idealize.ShloMosaic.Tactic

/-- One score of a tail tile: a weight row times a token. -/
def tailLogit (x : Vec Ideal S4096x1024 .bf16) (w : Vec Ideal S512x1024 .bf16) (a : Fin 480) (q : Fin 4096) : EReal :=
  ∑ d : Fin 1024, w (ix2 ⟨a, by omega⟩ d) * x (ix2 q d)

/-- The row numbers of a tail tile. -/
def tailRows : IVec S480x512 32 := iota .tc S480x512 32 [0] iota_S480x512_d0_w32

/-- Each is its row's number. -/
theorem iota_row_tail (a : Fin 480) (c : Fin 512) : tailRows (ix2 a c) = BitVec.ofNat 32 a := by
  pointwise [tailRows]

/-- A score computed from a block of tokens is the score of the token. -/
theorem tail_score (x : Vec Ideal S4096x1024 .bf16) (w : Vec Ideal S512x1024 .bf16) (k : ℕ)
    (inb) (a : Fin 480) (p : Fin 512) (q : Fin 4096) (hp : 512 * k + (p : ℕ) = q) :
    k0_pay123 (F := Ideal) (VecWindow.window (s := S4096x1024) x ![512 * k, 0] ![512, 1024] inb)
        (VecWindow.window (s := S512x1024) w ![0, 0] ![480, 1024] inb_S512x1024_S480x1024_0_0) (ix2 a p)
      = tailLogit x w a q := by
  rw [pay123_apply]
  simp only [window2, hp, Nat.zero_add]
  rfl

section
variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)
variable (arg0 : BitVec 32) (h5 : k0_cond5 i = 1#1)
  (X11 : BufTy.Contents (Elt Ideal) arg11.view.ty) (X6 : BufTy.Contents (Elt Ideal) arg6.view.ty) (X12 : BufTy.Contents (Elt Ideal) arg12.view.ty)
  (G13 : BufTy.Contents (Elt Ideal) arg13.view.ty) (G14 : BufTy.Contents (Elt Ideal) arg14.view.ty) (G15 : BufTy.Contents (Elt Ideal) arg15.view.ty)

/-- The running maximum after `n` blocks of tokens of a tail tile. -/
def tailM (n : ℕ) : Vec Ideal S8x4096 .f32 :=
  arg13.view.read (Elt Ideal) (arg13.view.writes (Elt Ideal) G13 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 n).1)

/-- The running sum after `n` blocks of tokens of a tail tile. -/
def tailS (n : ℕ) : Vec Ideal S8x4096 .f32 :=
  arg14.view.read (Elt Ideal) (arg14.view.writes (Elt Ideal) G14 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 n).2.1)

/-- The running target score after `n` blocks of tokens of a tail tile. -/
def tailT (n : ℕ) : Vec Ideal S8x4096 .f32 :=
  arg15.view.read (Elt Ideal) (arg15.view.writes (Elt Ideal) G15 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 n).2.2)

/-- A block of tokens lies inside the tokens. -/
theorem inb_tail_tok (k : Fin k0_t2_loop.trips) : ∀ a, (![512 * k.val, 0] : Fin 2 → ℕ) a + (![512, 1024] : Fin 2 → ℕ) a ≤ S4096x1024.size a := by
  have hk : k.val < 8 := k.isLt
  intro a
  match a with
  | ⟨0, _⟩ => show 512 * k.val + 512 ≤ 4096; omega
  | ⟨1, _⟩ => show 0 + 1024 ≤ 1024; omega

/-- A block of columns lies inside the running rows. -/
theorem inb_tail_sum (k : Fin k0_t2_loop.trips) : ∀ a, (![0, 512 * k.val] : Fin 2 → ℕ) a + (![8, 512] : Fin 2 → ℕ) a ≤ S8x4096.size a := by
  have hk : k.val < 8 := k.isLt
  intro a
  match a with
  | ⟨0, _⟩ => show 0 + 8 ≤ 8; omega
  | ⟨1, _⟩ => show 512 * k.val + 512 ≤ 4096; omega

/-- A block of targets lies inside the targets. -/
theorem inb_tail_tgt (k : Fin k0_t2_loop.trips) : ∀ a, (![0, 512 * k.val] : Fin 2 → ℕ) a + (![1, 512] : Fin 2 → ℕ) a ≤ S1x4096.size a := by
  have hk : k.val < 8 := k.isLt
  intro a
  match a with
  | ⟨0, _⟩ => show 0 + 1 ≤ 1; omega
  | ⟨1, _⟩ => show 512 * k.val + 512 ≤ 4096; omega

/-- One block of tokens replaces its columns of the running rows. -/
theorem tail_stepM (k : Fin k0_t2_loop.trips) :
    tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 (k.val + 1)
      = VecWindow.put (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k.val) ![0, 512 * k.val] ![8, 512]
          (k0_pay127 (F := Ideal)  (VecWindow.window (s := S4096x1024) (arg11.view.read (Elt Ideal) X11) ![512 * k.val, 0] ![512, 1024] (inb_tail_tok k)) (VecWindow.window (s := S512x1024) (arg12.view.read (Elt Ideal) X12) ![0, 0] ![480, 1024] inb_S512x1024_S480x1024_0_0) (VecWindow.window (s := S8x4096) (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k.val) ![0, 512 * k.val] ![8, 512] (inb_tail_sum k))) := by
  unfold tailM
  rw [pb_k0_t2_succ]
  generalize pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 k.val = P
  unfold tripL_k0_t2 trip_k0_t2
  dsimp only [List.singleton_append, List.cons_append, List.nil_append]
  rw [View.read_writes_cons_put _ _ _ _ _ (k0_off5_eq k), View.readAt_unit arg12.view _ _ (rfl : (![0, 0] : Fin 2 → ℕ) = ![0, 0]) inb_S512x1024_S480x1024_0_0, View.readAt_unit arg11.view _ _ (k0_off4_eq k) (inb_tail_tok k), View.readAt_unit arg13.view _ _ (k0_off5_eq k) (inb_tail_sum k)]

/-- One block of tokens replaces its columns of the running rows. -/
theorem tail_stepS (k : Fin k0_t2_loop.trips) :
    tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 (k.val + 1)
      = VecWindow.put (tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k.val) ![0, 512 * k.val] ![8, 512]
          (k0_pay126 (F := Ideal)  (VecWindow.window (s := S4096x1024) (arg11.view.read (Elt Ideal) X11) ![512 * k.val, 0] ![512, 1024] (inb_tail_tok k)) (VecWindow.window (s := S512x1024) (arg12.view.read (Elt Ideal) X12) ![0, 0] ![480, 1024] inb_S512x1024_S480x1024_0_0) (VecWindow.window (s := S8x4096) (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k.val) ![0, 512 * k.val] ![8, 512] (inb_tail_sum k)) (VecWindow.window (s := S8x4096) (tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k.val) ![0, 512 * k.val] ![8, 512] (inb_tail_sum k))) := by
  unfold tailM tailS
  rw [pb_k0_t2_succ]
  generalize pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 k.val = P
  unfold tripL_k0_t2 trip_k0_t2
  dsimp only [List.singleton_append, List.cons_append, List.nil_append]
  rw [View.read_writes_cons_put _ _ _ _ _ (k0_off5_eq k), View.readAt_unit arg12.view _ _ (rfl : (![0, 0] : Fin 2 → ℕ) = ![0, 0]) inb_S512x1024_S480x1024_0_0, View.readAt_unit arg11.view _ _ (k0_off4_eq k) (inb_tail_tok k), View.readAt_unit arg13.view _ _ (k0_off5_eq k) (inb_tail_sum k), View.readAt_unit arg14.view _ _ (k0_off5_eq k) (inb_tail_sum k)]

/-- One block of tokens replaces its columns of the running rows. -/
theorem tail_stepT (k : Fin k0_t2_loop.trips) :
    tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 (k.val + 1)
      = VecWindow.put (tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k.val) ![0, 512 * k.val] ![8, 512]
          (k0_pay14 (F := Ideal) (k0_pay123 (F := Ideal)  (VecWindow.window (s := S4096x1024) (arg11.view.read (Elt Ideal) X11) ![512 * k.val, 0] ![512, 1024] (inb_tail_tok k)) (VecWindow.window (s := S512x1024) (arg12.view.read (Elt Ideal) X12) ![0, 0] ![480, 1024] inb_S512x1024_S480x1024_0_0)) tailRows (k0_pay128 (F := Ideal) arg0 (VecWindow.window (s := S1x4096) (arg6.view.read (Elt Ideal) X6) ![0, 512 * k.val] ![1, 512] (inb_tail_tgt k))) (VecWindow.window (s := S8x4096) (tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k.val) ![0, 512 * k.val] ![8, 512] (inb_tail_sum k))) := by
  unfold tailT
  rw [pb_k0_t2_succ]
  generalize pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 k.val = P
  unfold tripL_k0_t2 trip_k0_t2
  dsimp only [List.singleton_append, List.cons_append, List.nil_append]
  unfold trip_k0_t2.sl.r trip_k0_t2.sl.v212 trip_k0_t2.sl.r_1
  rw [View.read_writes_cons_put _ _ _ _ _ (k0_off5_eq k), View.readAt_unit arg12.view _ _ (rfl : (![0, 0] : Fin 2 → ℕ) = ![0, 0]) inb_S512x1024_S480x1024_0_0, View.readAt_unit arg11.view _ _ (k0_off4_eq k) (inb_tail_tok k), View.readAt_unit arg15.view _ _ (k0_off5_eq k) (inb_tail_sum k), View.readAt_unit arg6.view _ _ (k0_off6_eq k) (inb_tail_tgt k)]
  rfl

/-- One block of tokens, entry by entry: inside the block the update, elsewhere nothing. -/
theorem tail_entM (k : ℕ) (hk : k < 8) (r : Fin 8) (q : Fin 4096) :
    tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 (k + 1) (ix2 r q)
      = if 512 * k ≤ (q : ℕ) ∧ (q : ℕ) < 512 * k + 512 then
          max (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q)) (Finset.univ.sup fun j : Fin 60 => tailLogit (arg11.view.read (Elt Ideal) X11) (arg12.view.read (Elt Ideal) X12)  ⟨8 * j + r, by omega⟩ q)
        else tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q) := by
  rw [tail_stepM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 ⟨k, hk⟩]
  generalize tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k = Mk
  by_cases h : 512 * k ≤ (q : ℕ) ∧ (q : ℕ) < 512 * k + 512
  · obtain ⟨p, hp⟩ : ∃ p : Fin 512, 512 * k + (p : ℕ) = q := ⟨⟨q - 512 * k, by omega⟩, by simp; omega⟩
    rw [put_block _ _ _ _ _ _ hp, if_pos h, pay127_apply, pay125_apply]
    simp only [window_block _ _ _ _ _ _ hp, tail_score (hp := hp)]
  · rw [put_block_of_not _ _ _ _ _ h, if_neg h]

/-- One block of tokens, entry by entry: inside the block the update, elsewhere nothing. -/
theorem tail_entS (k : ℕ) (hk : k < 8) (r : Fin 8) (q : Fin 4096) :
    tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 (k + 1) (ix2 r q)
      = if 512 * k ≤ (q : ℕ) ∧ (q : ℕ) < 512 * k + 512 then
          (tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q)) * Ideal.exp (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q) - max (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q)) (Finset.univ.sup fun j : Fin 60 => tailLogit (arg11.view.read (Elt Ideal) X11) (arg12.view.read (Elt Ideal) X12)  ⟨8 * j + r, by omega⟩ q)) + ∑ j : Fin 60, Ideal.exp (tailLogit (arg11.view.read (Elt Ideal) X11) (arg12.view.read (Elt Ideal) X12)  ⟨8 * j + r, by omega⟩ q - max (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q)) (Finset.univ.sup fun j : Fin 60 => tailLogit (arg11.view.read (Elt Ideal) X11) (arg12.view.read (Elt Ideal) X12)  ⟨8 * j + r, by omega⟩ q))
        else tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q) := by
  rw [tail_stepS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 ⟨k, hk⟩]
  generalize tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k = Mk
  generalize tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k = Sk
  by_cases h : 512 * k ≤ (q : ℕ) ∧ (q : ℕ) < 512 * k + 512
  · obtain ⟨p, hp⟩ : ∃ p : Fin 512, 512 * k + (p : ℕ) = q := ⟨⟨q - 512 * k, by omega⟩, by simp; omega⟩
    rw [put_block _ _ _ _ _ _ hp, if_pos h, pay126_apply, pay125_apply]
    simp only [window_block _ _ _ _ _ _ hp, tail_score (hp := hp)]
  · rw [put_block_of_not _ _ _ _ _ h, if_neg h]

/-- One block of tokens, entry by entry: inside the block the update, elsewhere nothing. -/
theorem tail_entT (k : ℕ) (hk : k < 8) (r : Fin 8) (q : Fin 4096) :
    tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 (k + 1) (ix2 r q)
      = if 512 * k ≤ (q : ℕ) ∧ (q : ℕ) < 512 * k + 512 then
          (tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q)) + ∑ j : Fin 60, if BitVec.ofNat 32 (8 * j.val + r.val) = arg6.view.read (Elt Ideal) X6 (ix2 0 q) - (6144#32 + (arg0 - 12#32) * 480#32) then tailLogit (arg11.view.read (Elt Ideal) X11) (arg12.view.read (Elt Ideal) X12)  ⟨8 * j + r, by omega⟩ q else 0
        else tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q) := by
  rw [tail_stepT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 ⟨k, hk⟩]
  generalize tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k = Tk
  by_cases h : 512 * k ≤ (q : ℕ) ∧ (q : ℕ) < 512 * k + 512
  · obtain ⟨p, hp⟩ : ∃ p : Fin 512, 512 * k + (p : ℕ) = q := ⟨⟨q - 512 * k, by omega⟩, by simp; omega⟩
    rw [put_block _ _ _ _ _ _ hp, if_pos h, pay14_apply]
    simp only [window_block _ _ _ _ _ _ hp, tail_score (hp := hp), window_tgt _ _ _ _ _ hp, pay128_apply, iota_row_tail]
  · rw [put_block_of_not _ _ _ _ _ h, if_neg h]

/-- Before its block is reached an entry of the running maximum is the old one. -/
theorem tail_oldM (k : ℕ) (hk : k ≤ 8) (r : Fin 8) (q : Fin 4096) (h : 512 * k ≤ (q : ℕ)) :
    tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (ix2 r q) = tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 0 (ix2 r q) := by
  rw [blocks (fun n => tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 n) (fun r q z => max (z) (Finset.univ.sup fun j : Fin 60 => tailLogit (arg11.view.read (Elt Ideal) X11) (arg12.view.read (Elt Ideal) X12)  ⟨8 * j + r, by omega⟩ q))
    (fun k hk r q => tail_entM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k hk r q) k hk r q, if_neg (by omega)]

/-- The tile's new running maximum. -/
theorem tail_M (r : Fin 8) (q : Fin 4096) :
    tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 8 (ix2 r q)
      = max (arg13.view.read (Elt Ideal) G13 (ix2 r q)) (Finset.univ.sup fun j : Fin 60 => tailLogit (arg11.view.read (Elt Ideal) X11) (arg12.view.read (Elt Ideal) X12)  ⟨8 * j + r, by omega⟩ q) := by
  rw [blocks (fun n => tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 n) (fun r q z => max (z) (Finset.univ.sup fun j : Fin 60 => tailLogit (arg11.view.read (Elt Ideal) X11) (arg12.view.read (Elt Ideal) X12)  ⟨8 * j + r, by omega⟩ q))
    (fun k hk r q => tail_entM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k hk r q) 8 le_rfl r q, if_pos (by omega)]
  unfold tailM
  rfl

/-- The tile's new running sum. -/
theorem tail_S (r : Fin 8) (q : Fin 4096) :
    tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 8 (ix2 r q)
      = (arg14.view.read (Elt Ideal) G14 (ix2 r q)) * Ideal.exp (arg13.view.read (Elt Ideal) G13 (ix2 r q) - max (arg13.view.read (Elt Ideal) G13 (ix2 r q)) (Finset.univ.sup fun j : Fin 60 => tailLogit (arg11.view.read (Elt Ideal) X11) (arg12.view.read (Elt Ideal) X12)  ⟨8 * j + r, by omega⟩ q)) + ∑ j : Fin 60, Ideal.exp (tailLogit (arg11.view.read (Elt Ideal) X11) (arg12.view.read (Elt Ideal) X12)  ⟨8 * j + r, by omega⟩ q - max (arg13.view.read (Elt Ideal) G13 (ix2 r q)) (Finset.univ.sup fun j : Fin 60 => tailLogit (arg11.view.read (Elt Ideal) X11) (arg12.view.read (Elt Ideal) X12)  ⟨8 * j + r, by omega⟩ q)) := by
  rw [blocks (fun n => tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 n) (fun r q z => (z) * Ideal.exp (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 0 (ix2 r q) - max (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 0 (ix2 r q)) (Finset.univ.sup fun j : Fin 60 => tailLogit (arg11.view.read (Elt Ideal) X11) (arg12.view.read (Elt Ideal) X12)  ⟨8 * j + r, by omega⟩ q)) + ∑ j : Fin 60, Ideal.exp (tailLogit (arg11.view.read (Elt Ideal) X11) (arg12.view.read (Elt Ideal) X12)  ⟨8 * j + r, by omega⟩ q - max (tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 0 (ix2 r q)) (Finset.univ.sup fun j : Fin 60 => tailLogit (arg11.view.read (Elt Ideal) X11) (arg12.view.read (Elt Ideal) X12)  ⟨8 * j + r, by omega⟩ q)))
    (fun k hk r q => ?_) 8 le_rfl r q, if_pos (by omega)]
  · unfold tailM tailS
    rfl
  · rw [tail_entS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k hk r q]
    by_cases h : 512 * k ≤ (q : ℕ) ∧ (q : ℕ) < 512 * k + 512
    · rw [if_pos h, if_pos h, tail_oldM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k (by omega) r q h.1]
    · rw [if_neg h, if_neg h]

/-- The tile's new target score. -/
theorem tail_T (r : Fin 8) (q : Fin 4096) :
    tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 8 (ix2 r q)
      = (arg15.view.read (Elt Ideal) G15 (ix2 r q)) + ∑ j : Fin 60, if BitVec.ofNat 32 (8 * j.val + r.val) = arg6.view.read (Elt Ideal) X6 (ix2 0 q) - (6144#32 + (arg0 - 12#32) * 480#32) then tailLogit (arg11.view.read (Elt Ideal) X11) (arg12.view.read (Elt Ideal) X12)  ⟨8 * j + r, by omega⟩ q else 0 := by
  rw [blocks (fun n => tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 n) (fun r q z => (z) + ∑ j : Fin 60, if BitVec.ofNat 32 (8 * j.val + r.val) = arg6.view.read (Elt Ideal) X6 (ix2 0 q) - (6144#32 + (arg0 - 12#32) * 480#32) then tailLogit (arg11.view.read (Elt Ideal) X11) (arg12.view.read (Elt Ideal) X12)  ⟨8 * j + r, by omega⟩ q else 0)
    (fun k hk r q => tail_entT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 k hk r q) 8 le_rfl r q, if_pos (by omega)]
  unfold tailT
  rfl

/-- The eight blocks fill the running rows. -/
theorem tail_coverM (y : S8x4096.Idx) : ∃ p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 8).1, y ∈ p.1.set :=
  View.cover_of_tiledL (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 8).1 S8x512.size (by sl_kernel_rfl) y

/-- So what the tile leaves does not depend on what was there before the stores. -/
theorem tail_readM (n : ℕ) (hn : n = 8) (f : BufTy.Contents (Elt Ideal) arg13.view.ty) (L : List (View.Piece (Elt Ideal) S8x4096 .f32)) :
    arg13.view.read (Elt Ideal) (arg13.view.writes (Elt Ideal) f ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 n).1 ++ L))
      = tailM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 8 := by
  subst hn
  rw [View.writes_append, View.read_writes_eq_canon _ _ _ (tail_coverM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15)]
  exact (View.read_writes_eq_canon _ _ _ (tail_coverM c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15)).symm

/-- The eight blocks fill the running rows. -/
theorem tail_coverS (y : S8x4096.Idx) : ∃ p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 8).2.1, y ∈ p.1.set :=
  View.cover_of_tiledL (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 8).2.1 S8x512.size (by sl_kernel_rfl) y

/-- So what the tile leaves does not depend on what was there before the stores. -/
theorem tail_readS (n : ℕ) (hn : n = 8) (f : BufTy.Contents (Elt Ideal) arg14.view.ty) (L : List (View.Piece (Elt Ideal) S8x4096 .f32)) :
    arg14.view.read (Elt Ideal) (arg14.view.writes (Elt Ideal) f ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 n).2.1 ++ L))
      = tailS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 8 := by
  subst hn
  rw [View.writes_append, View.read_writes_eq_canon _ _ _ (tail_coverS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15)]
  exact (View.read_writes_eq_canon _ _ _ (tail_coverS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15)).symm

/-- The eight blocks fill the running rows. -/
theorem tail_coverT (y : S8x4096.Idx) : ∃ p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 8).2.2, y ∈ p.1.set :=
  View.cover_of_tiledL (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 8).2.2 S8x512.size (by sl_kernel_rfl) y

/-- So what the tile leaves does not depend on what was there before the stores. -/
theorem tail_readT (n : ℕ) (hn : n = 8) (f : BufTy.Contents (Elt Ideal) arg15.view.ty) (L : List (View.Piece (Elt Ideal) S8x4096 .f32)) :
    arg15.view.read (Elt Ideal) (arg15.view.writes (Elt Ideal) f ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X6 X11 X12 G13 G14 G15 n).2.2 ++ L))
      = tailT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15 8 := by
  subst hn
  rw [View.writes_append, View.read_writes_eq_canon _ _ _ (tail_coverT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15)]
  exact (View.read_writes_eq_canon _ _ _ (tail_coverT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h5  X11 X6 X12 G13 G14 G15)).symm

end

end Cert.KernelIdeal.Hand
-- ==== Proof.ValTail.lean ====
module

public import proofs.«01_k».proof.Proof.RunF
public import proofs.«01_k».proof.Proof.TailLoop

@[expose] public section

/-! What the body leaves in its running rows at the tail tiles, and the results stored at the last point. -/

set_option maxRecDepth 16384

noncomputable section
namespace Cert.KernelIdeal.Hand

open Cert.KernelIdeal.Gen Idealize.ShloMosaic Idealize.ShloMosaic.TcCoe Idealize.SL.Sem Idealize.ShloMosaic.Tactic

/-- The weight a tail tile uses: a four-bit code (low halves first), times the scale of its group of 64. -/
def tailW (b : Vec Ideal S480x512 .i8) (s : Vec Ideal S480x8 .bf16) (a : Fin 480) (d : Fin 1024) : EReal :=
  (if h : (d : ℕ) < 512 then nibLo (b (ix2 a ⟨d, h⟩)) else nibHi (b (ix2 a ⟨d - 512, by omega⟩)))
    * s (ix2 a ⟨(d : ℕ) % 512 / 64, by omega⟩)

/-- The eight stores that unpack a tail tile's weights, last first. -/
abbrev tailPieces (b : Vec Ideal S480x512 .i8) (s : Vec Ideal S480x8 .bf16) : List (View.Piece (Elt Ideal) S512x1024 .bf16) :=
  [⟨Rect.unit ![0, 896] ![480, 128] inb_S512x1024_S480x128_0_896, k0_pay13 (F := Ideal) s (k0_pay137 (F := Ideal) (k0_pay130 (F := Ideal) b)) (iota .tc S480x128 32 [1] iota_S480x128_d1_w32) (k0_pay144)⟩,
   ⟨Rect.unit ![0, 768] ![480, 128] inb_S512x1024_S480x128_0_768, k0_pay143 (F := Ideal) s (k0_pay137 (F := Ideal) (k0_pay130 (F := Ideal) b))⟩,
   ⟨Rect.unit ![0, 640] ![480, 128] inb_S512x1024_S480x128_0_640, k0_pay142 (F := Ideal) s (k0_pay137 (F := Ideal) (k0_pay130 (F := Ideal) b))⟩,
   ⟨Rect.unit ![0, 512] ![480, 128] inb_S512x1024_S480x128_0_512, k0_pay141 (F := Ideal) (k0_pay137 (F := Ideal) (k0_pay130 (F := Ideal) b)) k0_pay138 (k0_pay139 (F := Ideal) s) (k0_pay140 (F := Ideal) s)⟩,
   ⟨Rect.unit ![0, 384] ![480, 128] inb_S512x1024_S480x128_0_384, k0_pay136 (F := Ideal) s (k0_pay131 (F := Ideal) b)⟩,
   ⟨Rect.unit ![0, 256] ![480, 128] inb_S512x1024_S480x128_0_256, k0_pay135 (F := Ideal) s (k0_pay131 (F := Ideal) b)⟩,
   ⟨Rect.unit ![0, 128] ![480, 128] inb_S512x1024_S480x128_0_128, k0_pay134 (F := Ideal) (k0_pay133 (F := Ideal) b s)⟩,
   ⟨Rect.unit ![0, 0] ![480, 128] inb_S512x1024_S480x128_0_0, k0_pay132 (F := Ideal) b s⟩]

/-- A chunk of 128 weights of the low halves. -/
theorem tailW_lo (b : Vec Ideal S480x512 .i8) (s : Vec Ideal S480x8 .bf16) (a : Fin 480) (o : ℕ) (l : Fin 128) (d : Fin 1024) (ho : o + 128 ≤ 512) (hd : (d : ℕ) = o + l) :
    nibLo (b (ix2 a ⟨o + l, by omega⟩)) * s (ix2 a ⟨(o + l) / 64, by omega⟩) = tailW b s a d := by
  have h1 : (d : ℕ) < 512 := by omega
  have h2 : (d : ℕ) % 512 = o + l := by omega
  obtain ⟨d, _⟩ := d
  obtain rfl : d = o + l := hd
  simp only [tailW, dif_pos h1, h2]

/-- A chunk of 128 weights of the high halves. -/
theorem tailW_hi (b : Vec Ideal S480x512 .i8) (s : Vec Ideal S480x8 .bf16) (a : Fin 480) (o : ℕ) (l : Fin 128) (d : Fin 1024) (ho : o + 128 ≤ 512) (hd : (d : ℕ) = 512 + o + l) :
    nibHi (b (ix2 a ⟨o + l, by omega⟩)) * s (ix2 a ⟨(o + l) / 64, by omega⟩) = tailW b s a d := by
  have h1 : ¬(d : ℕ) < 512 := by omega
  have h2 : (d : ℕ) % 512 = o + l := by omega
  have h3 : (d : ℕ) - 512 = o + l := by omega
  simp only [tailW, dif_neg h1, h2, h3]

/-- A piece of 128 columns of the unpacked weights, read inside and outside the piece. -/
theorem put_chunk (x : Vec Ideal S512x1024 .bf16) (w : Vec Ideal S480x128 .bf16) (o : ℕ) (a : Fin 480) (d : Fin 1024) (z : EReal)
    (hin : ∀ l : Fin 128, (d : ℕ) = o + l → w (ix2 a l) = z) (hout : ((d : ℕ) < o ∨ o + 128 ≤ d) → x (ix2 ⟨a, by omega⟩ d) = z) :
    VecWindow.put (s := S512x1024) x ![0, o] ![480, 128] w (ix2 ⟨a, by omega⟩ d) = z := by
  refine (put2 x w _ d).trans ?_
  by_cases h : o ≤ (d : ℕ) ∧ (d : ℕ) < o + 128
  · rw [dif_pos ⟨⟨Nat.zero_le _, by simp⟩, h⟩]
    exact hin ⟨d - o, by omega⟩ (by simp; omega)
  · rw [dif_neg (fun h' => h h'.2)]
    exact hout (by omega)

/-- The unpacked weights after the eight stores. -/
theorem tail_weights (arg12 : Memref sig .tc .vmem S512x1024 .bf16) (f : BufTy.Contents (Elt Ideal) arg12.view.ty)
    (b : Vec Ideal S480x512 .i8) (s : Vec Ideal S480x8 .bf16) (a : Fin 480) (d : Fin 1024) :
    arg12.view.read (Elt Ideal) (arg12.view.writes (Elt Ideal) f (tailPieces b s)) (ix2 ⟨a, by omega⟩ d) = tailW b s a d := by
  unfold tailPieces
  iterate 8 rw [View.read_writes_cons_put _ _ _ _ _ rfl]
  refine put_chunk _ _ 896 a d _ (fun l hl => (pay13_apply _ s a l).trans ?_) fun h0 => ?_
  · rw [pay137_apply]; exact tailW_hi b s a 384 l d (by norm_num) (by omega)
  refine put_chunk _ _ 768 a d _ (fun l hl => (pay143_apply _ s a l).trans ?_) fun h768 => ?_
  · rw [pay137_apply]; exact tailW_hi b s a 256 l d (by norm_num) (by omega)
  refine put_chunk _ _ 640 a d _ (fun l hl => (pay142_apply _ s a l).trans ?_) fun h640 => ?_
  · rw [pay137_apply]; exact tailW_hi b s a 128 l d (by norm_num) (by omega)
  refine put_chunk _ _ 512 a d _ (fun l hl => (pay141_apply _ s a l).trans ?_) fun h512 => ?_
  · rw [pay137_apply]; exact tailW_hi b s a 0 l d (by norm_num) (by omega)
  refine put_chunk _ _ 384 a d _ (fun l hl => (pay136_apply _ s a l).trans ?_) fun h384 => ?_
  · rw [pay131_apply]; exact tailW_lo b s a 384 l d (by norm_num) (by omega)
  refine put_chunk _ _ 256 a d _ (fun l hl => (pay135_apply _ s a l).trans ?_) fun h256 => ?_
  · rw [pay131_apply]; exact tailW_lo b s a 256 l d (by norm_num) (by omega)
  refine put_chunk _ _ 128 a d _ (fun l hl => (pay133_apply b s a l).trans ?_) fun h128 => ?_
  · rw [pay131_apply]; exact tailW_lo b s a 128 l d (by norm_num) (by omega)
  refine put_chunk _ _ 0 a d _ (fun l hl => (pay132_apply b s a l).trans ?_) fun h0 => ?_
  · rw [pay131_apply]; exact tailW_lo b s a 0 l d (by norm_num) (by omega)
  omega

/-- One score of a tail tile: the unpacked weights times a reordered token. -/
def tailSc (xd : Vec Ideal S4096x1024 .bf16) (b : Vec Ideal S480x512 .i8) (s : Vec Ideal S480x8 .bf16) (a : Fin 480) (q : Fin 4096) : EReal :=
  ∑ d : Fin 1024, tailW b s a d * xd (ix2 q d)

/-- The unpacked weights, the tile's data read from its windows. -/
theorem tail_weights_of (arg12 : Memref sig .tc .vmem S512x1024 .bf16) (f : BufTy.Contents (Elt Ideal) arg12.view.ty)
    (b' : Vec Ideal S480x512 .i8) (s' : Vec Ideal S480x8 .bf16) {b : Vec Ideal S480x512 .i8} {s : Vec Ideal S480x8 .bf16} (hb : b' = b) (hs : s' = s) (a : Fin 480) (d : Fin 1024) :
    arg12.view.read (Elt Ideal) (arg12.view.writes (Elt Ideal) f (tailPieces b' s')) (ix2 ⟨a, by omega⟩ d) = tailW b s a d := by
  subst hb hs
  exact tail_weights arg12 f b' s' a d

/-- The scores computed from the unpacked weights. -/
theorem tail_logit {X xd : Vec Ideal S4096x1024 .bf16} {W : Vec Ideal S512x1024 .bf16} {b : Vec Ideal S480x512 .i8} {s : Vec Ideal S480x8 .bf16}
    (hX : X = xd) (hW : ∀ (a : Fin 480) (d : Fin 1024), W (ix2 ⟨a, by omega⟩ d) = tailW b s a d) : tailLogit X W = tailSc xd b s := by
  subst hX
  funext a q
  exact Finset.sum_congr rfl fun d _ => congrArg (· * X (ix2 q d)) (hW a d)

/-- A tail tile's new running maximum. -/
def tM (xd : Vec Ideal S4096x1024 .bf16) (b : Vec Ideal S480x512 .i8) (s : Vec Ideal S480x8 .bf16) (m : Fin 8 → Fin 4096 → EReal) (r : Fin 8) (q : Fin 4096) : EReal :=
  max (m r q) (Finset.univ.sup fun j : Fin 60 => tailSc xd b s ⟨8 * j + r, by omega⟩ q)

/-- A tail tile's new running sum. -/
def tS (xd : Vec Ideal S4096x1024 .bf16) (b : Vec Ideal S480x512 .i8) (s : Vec Ideal S480x8 .bf16) (m z : Fin 8 → Fin 4096 → EReal) (r : Fin 8) (q : Fin 4096) : EReal :=
  z r q * Ideal.exp (m r q - tM xd b s m r q) + ∑ j : Fin 60, Ideal.exp (tailSc xd b s ⟨8 * j + r, by omega⟩ q - tM xd b s m r q)

/-- A tail tile's new target score. -/
def tT (xd : Vec Ideal S4096x1024 .bf16) (b : Vec Ideal S480x512 .i8) (s : Vec Ideal S480x8 .bf16) (x5 : Vec Ideal S1x4096 .i32) (a0 : BitVec 32) (t : Fin 8 → Fin 4096 → EReal) (r : Fin 8) (q : Fin 4096) : EReal :=
  t r q + ∑ j : Fin 60, if BitVec.ofNat 32 (8 * j.val + r.val) = x5 (ix2 0 q) - (6144#32 + (a0 - 12#32) * 480#32) then tailSc xd b s ⟨8 * j + r, by omega⟩ q else 0

section
variable {X xd : Vec Ideal S4096x1024 .bf16} {W : Vec Ideal S512x1024 .bf16} {b : Vec Ideal S480x512 .i8} {s : Vec Ideal S480x8 .bf16}

/-- The new maximum from the loop's own numbers. -/
theorem tM_of {m0 : EReal} {m : Fin 8 → Fin 4096 → EReal} {r : Fin 8} {q : Fin 4096} (hX : X = xd)
    (hW : ∀ (a : Fin 480) (d : Fin 1024), W (ix2 ⟨a, by omega⟩ d) = tailW b s a d) (hm : m0 = m r q) :
    max m0 (Finset.univ.sup fun j : Fin 60 => tailLogit X W ⟨8 * j + r, by omega⟩ q) = tM xd b s m r q := by
  rw [tail_logit hX hW, hm]; rfl

/-- The new sum from the loop's own numbers. -/
theorem tS_of {m0 z0 : EReal} {m z : Fin 8 → Fin 4096 → EReal} {r : Fin 8} {q : Fin 4096} (hX : X = xd)
    (hW : ∀ (a : Fin 480) (d : Fin 1024), W (ix2 ⟨a, by omega⟩ d) = tailW b s a d) (hm : m0 = m r q) (hz : z0 = z r q) :
    z0 * Ideal.exp (m0 - max m0 (Finset.univ.sup fun j : Fin 60 => tailLogit X W ⟨8 * j + r, by omega⟩ q))
      + (∑ j : Fin 60, Ideal.exp (tailLogit X W ⟨8 * j + r, by omega⟩ q - max m0 (Finset.univ.sup fun j : Fin 60 => tailLogit X W ⟨8 * j + r, by omega⟩ q)))
      = tS xd b s m z r q := by
  rw [tail_logit hX hW, hm, hz]; rfl

/-- The new target score from the loop's own numbers. -/
theorem tT_of {t0 : EReal} {t : Fin 8 → Fin 4096 → EReal} {a0 : BitVec 32} {y : BitVec 32} {x5 : Vec Ideal S1x4096 .i32} {r : Fin 8} {q : Fin 4096} (hX : X = xd)
    (hW : ∀ (a : Fin 480) (d : Fin 1024), W (ix2 ⟨a, by omega⟩ d) = tailW b s a d) (ht : t0 = t r q) (hy : y = x5 (ix2 0 q)) :
    (t0 + ∑ j : Fin 60, if BitVec.ofNat 32 (8 * j.val + r.val) = y - (6144#32 + (a0 - 12#32) * 480#32) then tailLogit X W ⟨8 * j + r, by omega⟩ q else 0)
      = tT xd b s x5 a0 t r q := by
  rw [tail_logit hX hW, ht, hy]; rfl

end

section
variable {M S T : Vec Ideal S8x4096 .f32} {x8 : Vec Ideal S1x4096 .f32} {m s t : Fin 8 → EReal} {q : Fin 4096}

/-- The combined rows of the running maximum and sum. -/
theorem pay15_of (hM : ∀ r, M (ix2 r q) = m r) (hS : ∀ r, S (ix2 r q) = s r) :
    k0_pay15 (F := Ideal) M S (ix2 0 q) = lseOf (fun r => m r) (fun r => s r) := by
  rw [pay15_apply]; simp only [hM, hS]

/-- The two log-sum-exps combined. -/
theorem pay16_of (hM : ∀ r, M (ix2 r q) = m r) (hS : ∀ r, S (ix2 r q) = s r) :
    k0_pay16 (F := Ideal) M S x8 (ix2 0 q) = addLse (x8 (ix2 0 q)) (lseOf (fun r => m r) (fun r => s r)) := by
  rw [pay16_apply]; simp only [pay15_apply, hM, hS]

/-- The target score minus the combined log-sum-exp. -/
theorem pay17_of (hM : ∀ r, M (ix2 r q) = m r) (hS : ∀ r, S (ix2 r q) = s r) (hT : ∀ r, T (ix2 r q) = t r) :
    k0_pay17 (F := Ideal) M S x8 T (ix2 0 q) = (∑ r, t r) - addLse (x8 (ix2 0 q)) (lseOf (fun r => m r) (fun r => s r)) := by
  rw [pay17_apply]; simp only [pay16_apply, pay15_apply, hM, hS, hT]

end

section
variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

/-- The running maximum the body at the first tail tile leaves. -/
theorem runD_M (hc0 : ¬cond0_0 i) (hc1 : cond0_1 i) (hc2 : ¬cond0_2 i) (hc4 : cond0_4 i) (hc5 : ¬cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs4 : Vec Ideal S8x4096 .f32)
    (f : BufTy.Contents (Elt Ideal) arg13.view.ty) (r : Fin 8) (q : Fin 4096) :
    arg13.view.read (Elt Ideal) (arg13.view.writes (Elt Ideal) f (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs4).2.2.1) (ix2 r q)
      = tM xs0 x3 x4 (fun _ _ => NEG) r q := by
  unfold runD
  dsimp only
  rw [tail_readM (n := Scf.trips 0#32 (Scalar.addi 0#32 8#32) 1#32) (hn := rfl), tail_M]
  exact tM_of (m := (fun _ _ => NEG)) (harg11.read_unread _) (tail_weights_of arg12 _ _ _ (by rw [View.readAt_full, harg4.read_unread]) (by unfold runD.sl.r_1; rw [View.readAt_full, harg5.read_unread])) (by unfold runD.sl.HS2_1; rw [View.read_writes_full, pay7_apply])

/-- The running sum the body at the first tail tile leaves. -/
theorem runD_S (hc0 : ¬cond0_0 i) (hc1 : cond0_1 i) (hc2 : ¬cond0_2 i) (hc4 : cond0_4 i) (hc5 : ¬cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs4 : Vec Ideal S8x4096 .f32)
    (f : BufTy.Contents (Elt Ideal) arg14.view.ty) (r : Fin 8) (q : Fin 4096) :
    arg14.view.read (Elt Ideal) (arg14.view.writes (Elt Ideal) f (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs4).2.2.2.1) (ix2 r q)
      = tS xs0 x3 x4 (fun _ _ => NEG) (fun _ _ => 0) r q := by
  unfold runD
  dsimp only
  rw [tail_readS (n := Scf.trips 0#32 (Scalar.addi 0#32 8#32) 1#32) (hn := rfl), tail_S]
  exact tS_of (m := (fun _ _ => NEG)) (z := (fun _ _ => 0)) (harg11.read_unread _) (tail_weights_of arg12 _ _ _ (by rw [View.readAt_full, harg4.read_unread]) (by unfold runD.sl.r_1; rw [View.readAt_full, harg5.read_unread])) (by unfold runD.sl.HS2_1; rw [View.read_writes_full, pay7_apply]) (by unfold runD.sl.HS3_1; rw [View.read_writes_full, pay8_apply])

/-- The running target score the body at the first tail tile leaves. -/
theorem runD_T (hc0 : ¬cond0_0 i) (hc1 : cond0_1 i) (hc2 : ¬cond0_2 i) (hc4 : cond0_4 i) (hc5 : ¬cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs4 : Vec Ideal S8x4096 .f32)
    (f : BufTy.Contents (Elt Ideal) arg15.view.ty) (r : Fin 8) (q : Fin 4096) :
    arg15.view.read (Elt Ideal) (arg15.view.writes (Elt Ideal) f (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs4).2.2.2.2.1) (ix2 r q)
      = tT xs0 x3 x4 x5 (BitVec.ofNat 32 (i 0).val) (fun r q => xs4 (ix2 r q)) r q := by
  unfold runD
  dsimp only
  refine (congrArg (fun L => arg15.view.read (Elt Ideal) (arg15.view.writes (Elt Ideal) f L) (ix2 r q)) (List.append_nil _).symm).trans ?_
  rw [tail_readT (n := Scf.trips 0#32 (Scalar.addi 0#32 8#32) 1#32) (hn := rfl), tail_T]
  exact tT_of (t := (fun r q => xs4 (ix2 r q))) (harg11.read_unread _) (tail_weights_of arg12 _ _ _ (by rw [View.readAt_full, harg4.read_unread]) (by unfold runD.sl.r_1; rw [View.readAt_full, harg5.read_unread])) (congrFun (harg15.read_unread _) _) (congrFun (harg6.read_unread _) _)

/-- The running maximum the body at a tail tile in between leaves. -/
theorem runE_M (hc0 : ¬cond0_0 i) (hc1 : ¬cond0_1 i) (hc2 : ¬cond0_2 i) (hc4 : cond0_4 i) (hc5 : ¬cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs2 : Vec Ideal S8x4096 .f32) (xs3 : Vec Ideal S8x4096 .f32) (xs4 : Vec Ideal S8x4096 .f32)
    (f : BufTy.Contents (Elt Ideal) arg13.view.ty) (r : Fin 8) (q : Fin 4096) :
    arg13.view.read (Elt Ideal) (arg13.view.writes (Elt Ideal) f (runE (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.1) (ix2 r q)
      = tM xs0 x3 x4 (fun r q => xs2 (ix2 r q)) r q := by
  unfold runE
  dsimp only
  refine (congrArg (fun L => arg13.view.read (Elt Ideal) (arg13.view.writes (Elt Ideal) f L) (ix2 r q)) (List.append_nil _).symm).trans ?_
  rw [tail_readM (n := Scf.trips 0#32 (Scalar.addi 0#32 8#32) 1#32) (hn := rfl), tail_M]
  exact tM_of (m := (fun r q => xs2 (ix2 r q))) (harg11.read_unread _) (tail_weights_of arg12 _ _ _ (by rw [View.readAt_full, harg4.read_unread]) (by unfold runE.sl.r_1; rw [View.readAt_full, harg5.read_unread])) (congrFun (harg13.read_unread _) _)

/-- The running sum the body at a tail tile in between leaves. -/
theorem runE_S (hc0 : ¬cond0_0 i) (hc1 : ¬cond0_1 i) (hc2 : ¬cond0_2 i) (hc4 : cond0_4 i) (hc5 : ¬cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs2 : Vec Ideal S8x4096 .f32) (xs3 : Vec Ideal S8x4096 .f32) (xs4 : Vec Ideal S8x4096 .f32)
    (f : BufTy.Contents (Elt Ideal) arg14.view.ty) (r : Fin 8) (q : Fin 4096) :
    arg14.view.read (Elt Ideal) (arg14.view.writes (Elt Ideal) f (runE (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.1) (ix2 r q)
      = tS xs0 x3 x4 (fun r q => xs2 (ix2 r q)) (fun r q => xs3 (ix2 r q)) r q := by
  unfold runE
  dsimp only
  refine (congrArg (fun L => arg14.view.read (Elt Ideal) (arg14.view.writes (Elt Ideal) f L) (ix2 r q)) (List.append_nil _).symm).trans ?_
  rw [tail_readS (n := Scf.trips 0#32 (Scalar.addi 0#32 8#32) 1#32) (hn := rfl), tail_S]
  exact tS_of (m := (fun r q => xs2 (ix2 r q))) (z := (fun r q => xs3 (ix2 r q))) (harg11.read_unread _) (tail_weights_of arg12 _ _ _ (by rw [View.readAt_full, harg4.read_unread]) (by unfold runE.sl.r_1; rw [View.readAt_full, harg5.read_unread])) (congrFun (harg13.read_unread _) _) (congrFun (harg14.read_unread _) _)

/-- The running target score the body at a tail tile in between leaves. -/
theorem runE_T (hc0 : ¬cond0_0 i) (hc1 : ¬cond0_1 i) (hc2 : ¬cond0_2 i) (hc4 : cond0_4 i) (hc5 : ¬cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs2 : Vec Ideal S8x4096 .f32) (xs3 : Vec Ideal S8x4096 .f32) (xs4 : Vec Ideal S8x4096 .f32)
    (f : BufTy.Contents (Elt Ideal) arg15.view.ty) (r : Fin 8) (q : Fin 4096) :
    arg15.view.read (Elt Ideal) (arg15.view.writes (Elt Ideal) f (runE (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.1) (ix2 r q)
      = tT xs0 x3 x4 x5 (BitVec.ofNat 32 (i 0).val) (fun r q => xs4 (ix2 r q)) r q := by
  unfold runE
  dsimp only
  refine (congrArg (fun L => arg15.view.read (Elt Ideal) (arg15.view.writes (Elt Ideal) f L) (ix2 r q)) (List.append_nil _).symm).trans ?_
  rw [tail_readT (n := Scf.trips 0#32 (Scalar.addi 0#32 8#32) 1#32) (hn := rfl), tail_T]
  exact tT_of (t := (fun r q => xs4 (ix2 r q))) (harg11.read_unread _) (tail_weights_of arg12 _ _ _ (by rw [View.readAt_full, harg4.read_unread]) (by unfold runE.sl.r_1; rw [View.readAt_full, harg5.read_unread])) (congrFun (harg15.read_unread _) _) (congrFun (harg6.read_unread _) _)

/-- The running maximum the body at the last tail tile leaves. -/
theorem runF_M (hc0 : ¬cond0_0 i) (hc1 : ¬cond0_1 i) (hc2 : ¬cond0_2 i) (hc4 : cond0_4 i) (hc5 : cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs2 : Vec Ideal S8x4096 .f32) (xs3 : Vec Ideal S8x4096 .f32) (xs4 : Vec Ideal S8x4096 .f32)
    (f : BufTy.Contents (Elt Ideal) arg13.view.ty) (r : Fin 8) (q : Fin 4096) :
    arg13.view.read (Elt Ideal) (arg13.view.writes (Elt Ideal) f (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.1) (ix2 r q)
      = tM xs0 x3 x4 (fun r q => xs2 (ix2 r q)) r q := by
  unfold runF
  dsimp only
  refine (congrArg (fun L => arg13.view.read (Elt Ideal) (arg13.view.writes (Elt Ideal) f L) (ix2 r q)) (List.append_nil _).symm).trans ?_
  rw [tail_readM (n := Scf.trips 0#32 (Scalar.addi 0#32 8#32) 1#32) (hn := rfl), tail_M]
  exact tM_of (m := (fun r q => xs2 (ix2 r q))) (harg11.read_unread _) (tail_weights_of arg12 _ _ _ (by rw [View.readAt_full, harg4.read_unread]) (by unfold runF.sl.r_1; rw [View.readAt_full, harg5.read_unread])) (congrFun (harg13.read_unread _) _)

/-- The running sum the body at the last tail tile leaves. -/
theorem runF_S (hc0 : ¬cond0_0 i) (hc1 : ¬cond0_1 i) (hc2 : ¬cond0_2 i) (hc4 : cond0_4 i) (hc5 : cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs2 : Vec Ideal S8x4096 .f32) (xs3 : Vec Ideal S8x4096 .f32) (xs4 : Vec Ideal S8x4096 .f32)
    (f : BufTy.Contents (Elt Ideal) arg14.view.ty) (r : Fin 8) (q : Fin 4096) :
    arg14.view.read (Elt Ideal) (arg14.view.writes (Elt Ideal) f (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.2.1) (ix2 r q)
      = tS xs0 x3 x4 (fun r q => xs2 (ix2 r q)) (fun r q => xs3 (ix2 r q)) r q := by
  unfold runF
  dsimp only
  refine (congrArg (fun L => arg14.view.read (Elt Ideal) (arg14.view.writes (Elt Ideal) f L) (ix2 r q)) (List.append_nil _).symm).trans ?_
  rw [tail_readS (n := Scf.trips 0#32 (Scalar.addi 0#32 8#32) 1#32) (hn := rfl), tail_S]
  exact tS_of (m := (fun r q => xs2 (ix2 r q))) (z := (fun r q => xs3 (ix2 r q))) (harg11.read_unread _) (tail_weights_of arg12 _ _ _ (by rw [View.readAt_full, harg4.read_unread]) (by unfold runF.sl.r_1; rw [View.readAt_full, harg5.read_unread])) (congrFun (harg13.read_unread _) _) (congrFun (harg14.read_unread _) _)

/-- The running target score the body at the last tail tile leaves. -/
theorem runF_T (hc0 : ¬cond0_0 i) (hc1 : ¬cond0_1 i) (hc2 : ¬cond0_2 i) (hc4 : cond0_4 i) (hc5 : cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs2 : Vec Ideal S8x4096 .f32) (xs3 : Vec Ideal S8x4096 .f32) (xs4 : Vec Ideal S8x4096 .f32)
    (f : BufTy.Contents (Elt Ideal) arg15.view.ty) (r : Fin 8) (q : Fin 4096) :
    arg15.view.read (Elt Ideal) (arg15.view.writes (Elt Ideal) f (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.2.2.1) (ix2 r q)
      = tT xs0 x3 x4 x5 (BitVec.ofNat 32 (i 0).val) (fun r q => xs4 (ix2 r q)) r q := by
  unfold runF
  dsimp only
  refine (congrArg (fun L => arg15.view.read (Elt Ideal) (arg15.view.writes (Elt Ideal) f L) (ix2 r q)) (List.append_nil _).symm).trans ?_
  rw [tail_readT (n := Scf.trips 0#32 (Scalar.addi 0#32 8#32) 1#32) (hn := rfl), tail_T]
  exact tT_of (t := (fun r q => xs4 (ix2 r q))) (harg11.read_unread _) (tail_weights_of arg12 _ _ _ (by rw [View.readAt_full, harg4.read_unread]) (by unfold runF.sl.r_1; rw [View.readAt_full, harg5.read_unread])) (congrFun (harg15.read_unread _) _) (congrFun (harg6.read_unread _) _)

/-- The tail's log-sum-exp, stored at the last point. -/
theorem runF_tail (hc0 : ¬cond0_0 i) (hc1 : ¬cond0_1 i) (hc2 : ¬cond0_2 i) (hc4 : cond0_4 i) (hc5 : cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs2 : Vec Ideal S8x4096 .f32) (xs3 : Vec Ideal S8x4096 .f32) (xs4 : Vec Ideal S8x4096 .f32)
    (f : BufTy.Contents (Elt Ideal) arg10.view.ty) (q : Fin 4096) :
    arg10.view.read (Elt Ideal) (arg10.view.writes (Elt Ideal) f (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.1) (ix2 0 q)
      = lseOf (fun r => tM xs0 x3 x4 (fun r q => xs2 (ix2 r q)) r q) (fun r => tS xs0 x3 x4 (fun r q => xs2 (ix2 r q)) (fun r q => xs3 (ix2 r q)) r q) := by
  have e : (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.1 = [⟨Rect.unit ![0, 0] ![1, 4096] inb_S1x4096_S1x4096_0_0, k0_pay15 (F := Ideal) (arg13.view.read (Elt Ideal) (arg13.view.writes (Elt Ideal) (harg13.unread xs2) (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.1)) (arg14.view.read (Elt Ideal) (arg14.view.writes (Elt Ideal) (harg14.unread xs3) (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.2.1)) ⟩] := by
    unfold runF
    dsimp only
    unfold runF.sl.v177 runF.sl.v178
    rw [View.readAt_full arg13.view, View.readAt_full arg14.view]
  rw [e, View.read_writes_full]
  exact pay15_of (fun r => by rw [runF_M]) (fun r => by rw [runF_S])

/-- The two log-sum-exps combined, stored at the last point. -/
theorem runF_logz (hc0 : ¬cond0_0 i) (hc1 : ¬cond0_1 i) (hc2 : ¬cond0_2 i) (hc4 : cond0_4 i) (hc5 : cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs2 : Vec Ideal S8x4096 .f32) (xs3 : Vec Ideal S8x4096 .f32) (xs4 : Vec Ideal S8x4096 .f32)
    (f : BufTy.Contents (Elt Ideal) arg7.view.ty) (q : Fin 4096) :
    arg7.view.read (Elt Ideal) (arg7.view.writes (Elt Ideal) f (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).1) (ix2 0 q)
      = addLse (x8 (ix2 0 q)) (lseOf (fun r => tM xs0 x3 x4 (fun r q => xs2 (ix2 r q)) r q) (fun r => tS xs0 x3 x4 (fun r q => xs2 (ix2 r q)) (fun r q => xs3 (ix2 r q)) r q)) := by
  have e : (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).1 = [⟨Rect.unit ![0, 0] ![1, 4096] inb_S1x4096_S1x4096_0_0, k0_pay16 (F := Ideal) (arg13.view.read (Elt Ideal) (arg13.view.writes (Elt Ideal) (harg13.unread xs2) (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.1)) (arg14.view.read (Elt Ideal) (arg14.view.writes (Elt Ideal) (harg14.unread xs3) (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.2.1)) x8⟩] := by
    unfold runF
    dsimp only
    unfold runF.sl.v177 runF.sl.v178
    rw [View.readAt_full arg13.view, View.readAt_full arg14.view, View.readAt_full arg9.view, harg9.read_unread]
  rw [e, View.read_writes_full]
  exact pay16_of (fun r => by rw [runF_M]) (fun r => by rw [runF_S])

/-- The log-probability of the target, stored at the last point. -/
theorem runF_logp (hc0 : ¬cond0_0 i) (hc1 : ¬cond0_1 i) (hc2 : ¬cond0_2 i) (hc4 : cond0_4 i) (hc5 : cond0_5 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32) (xs0 : Vec Ideal S4096x1024 .bf16) (xs1 : Vec Ideal S512x1024 .bf16) (xs2 : Vec Ideal S8x4096 .f32) (xs3 : Vec Ideal S8x4096 .f32) (xs4 : Vec Ideal S8x4096 .f32)
    (f : BufTy.Contents (Elt Ideal) arg8.view.ty) (q : Fin 4096) :
    arg8.view.read (Elt Ideal) (arg8.view.writes (Elt Ideal) f (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.1) (ix2 0 q)
      = (∑ r : Fin 8, tT xs0 x3 x4 x5 (BitVec.ofNat 32 (i 0).val) (fun r q => xs4 (ix2 r q)) r q) - addLse (x8 (ix2 0 q)) (lseOf (fun r => tM xs0 x3 x4 (fun r q => xs2 (ix2 r q)) r q) (fun r => tS xs0 x3 x4 (fun r q => xs2 (ix2 r q)) (fun r q => xs3 (ix2 r q)) r q)) := by
  have e : (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.1 = [⟨Rect.unit ![0, 0] ![1, 4096] inb_S1x4096_S1x4096_0_0, k0_pay17 (F := Ideal) (arg13.view.read (Elt Ideal) (arg13.view.writes (Elt Ideal) (harg13.unread xs2) (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.1)) (arg14.view.read (Elt Ideal) (arg14.view.writes (Elt Ideal) (harg14.unread xs3) (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.2.1)) x8 (arg15.view.read (Elt Ideal) (arg15.view.writes (Elt Ideal) (harg15.unread xs4) (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc4 hc5 x0 x1 x2 x3 x4 x5 x8 xs0 xs1 xs2 xs3 xs4).2.2.2.2.2.2.2.1))⟩] := by
    unfold runF
    dsimp only
    unfold runF.sl.v177 runF.sl.v178 runF.sl.v201
    rw [View.readAt_full arg13.view, View.readAt_full arg14.view, View.readAt_full arg15.view, View.readAt_full arg9.view, harg9.read_unread]
  rw [e, View.read_writes_full]
  exact pay17_of (fun r => by rw [runF_M]) (fun r => by rw [runF_S]) (fun r => by rw [runF_T])

end

end Cert.KernelIdeal.Hand
-- ==== Proof.Xd.lean ====
module

public import proofs.«01_k».proof.Proof.RunA
public import proofs.«01_k».proof.Proof.TailPay
public import proofs.«01_k».proof.Proof.Blocks
public import Idealize.ShloMosaic.Lib.Pipeline.ReadBack

@[expose] public section

/-! The reordered tokens the first point stores. -/

set_option maxRecDepth 16384

noncomputable section
namespace Cert.KernelIdeal.Hand

open Cert.KernelIdeal.Gen Idealize.ShloMosaic Idealize.ShloMosaic.TcCoe Idealize.SL.Sem Idealize.ShloMosaic.Tactic

/-- Where a reordered channel comes from: even channels first, then odd ones. -/
def xPerm (d : Fin 1024) : Fin 1024 := ⟨if (d : ℕ) < 512 then 2 * d else 2 * (d - 512) + 1, by split <;> omega⟩

/-- The tokens with their channels reordered. -/
def xdOf (x0 : Vec Ideal S4096x1024 .bf16) : Vec Ideal S4096x1024 .bf16 := fun y => x0 (ix2 (y 0) (xPerm (y 1)))

/-- The reordered tokens at an entry. -/
theorem xdOf_at (x0 : Vec Ideal S4096x1024 .bf16) (y : S4096x1024.Idx) (a : Fin 4096) (b : Fin 1024) (h0 : (y 0 : ℕ) = a) (h1 : (xPerm (y 1) : ℕ) = b) :
    x0 (ix2 a b) = xdOf x0 y := by
  obtain rfl : y 0 = a := Fin.ext h0
  obtain rfl : xPerm (y 1) = b := Fin.ext h1
  rfl

/-- Pieces that agree with one array leave that array, where they cover. -/
theorem read_pieces {sp : Space} {s : Shape} {e : EltTy} (v : View sig .tc sp s e) (f : v.ty.Contents (Elt Ideal)) (G : s.Idx → Elt Ideal e) (y : s.Idx) :
    ∀ L : List (View.Piece (Elt Ideal) s e), View.PiecesOf G L → (∃ p ∈ L, y ∈ p.1.set) →
      v.read (Elt Ideal) (v.writes (Elt Ideal) f L) y = G y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP.1 x
    · have hy' : y ∉ Finset.univ.map p.1.emb := by rwa [Rect.map_emb_univ]
      rw [View.writes_cons, View.read_slice_write_of_not_mem p.1 _ _ _ hy']
      refine read_pieces v f G y L hP.2 ?_
      obtain ⟨q, hq, hyq⟩ := h
      rcases List.mem_cons.mp hq with rfl | hq'
      · exact absurd hyq hy
      · exact ⟨q, hq', hyq⟩

/-- A reordered block of 256 channels, read from the tokens. -/
theorem xd_block (arg1 : Memref sig .tc .vmem S4096x1024 .bf16) (harg1 : arg1.IsWhole) (x0 : Vec Ideal S4096x1024 .bf16) (a o : ℕ)
    (inb' : ∀ k, (![a, 2 * o] : Fin 2 → ℕ) k + (![512, 256] : Fin 2 → ℕ) k ≤ S4096x1024.size k) (r : Fin 512) (b : Fin 256) (ha : a + 512 ≤ 4096) (ho : o + 128 ≤ 512) :
    k0_pay3 (F := Ideal) (k0_pay18 (F := Ideal)) (arg1.view.readAt (Elt Ideal) (Rect.unit (s := S4096x1024) ![a, 2 * o] ![512, 256] inb').toLoadRect (harg1.unread x0)) (ix2 r b)
      = x0 (ix2 ⟨a + r, by omega⟩ ⟨2 * o + evenOdd b, by unfold evenOdd; split <;> omega⟩) := by
  rw [pay3_apply, View.readAt_unit arg1.view _ _ (rfl : (![a, 2 * o] : Fin 2 → ℕ) = ![a, 2 * o]) inb', harg1.read_unread]
  exact window2 x0 _ _ _

/-- An even half of a block, stored at its place. -/
theorem xd_lo (arg1 : Memref sig .tc .vmem S4096x1024 .bf16) (harg1 : arg1.IsWhole) (x0 : Vec Ideal S4096x1024 .bf16) (a o : ℕ) (ha : a + 512 ≤ 4096) (ho : o + 128 ≤ 512)
    (inb : ∀ k, (![a, o] : Fin 2 → ℕ) k + (![512, 128] : Fin 2 → ℕ) k ≤ S4096x1024.size k)
    (inb' : ∀ k, (![a, 2 * o] : Fin 2 → ℕ) k + (![512, 256] : Fin 2 → ℕ) k ≤ S4096x1024.size k) (x : S512x128.Idx) :
    k0_pay4 (F := Ideal) (k0_pay18 (F := Ideal)) (arg1.view.readAt (Elt Ideal) (Rect.unit (s := S4096x1024) ![a, 2 * o] ![512, 256] inb').toLoadRect (harg1.unread x0)) x
      = xdOf x0 ((Rect.unit (s := S4096x1024) ![a, o] ![512, 128] inb).emb x) := by
  obtain ⟨r, l, rfl⟩ : ∃ (r : Fin 512) (l : Fin 128), x = ix2 r l := ⟨x 0, x 1, by funext k; match k with | 0 => rfl | 1 => rfl⟩
  pointwise [k0_pay4]
  rw [xd_block arg1 harg1 x0 a o inb' _ _ ha ho]
  refine xdOf_at x0 _ _ _ (by show a + 1 * (r : ℕ) = a + r; omega) (by
      show (if o + 1 * (l : ℕ) < 512 then 2 * (o + 1 * (l : ℕ)) else 2 * (o + 1 * (l : ℕ) - 512) + 1) = 2 * o + evenOdd (l : ℕ)
      rw [if_pos (by omega)]; unfold evenOdd; rw [if_pos (by omega)]; omega)

/-- An odd half of a block, stored at its place. -/
theorem xd_hi (arg1 : Memref sig .tc .vmem S4096x1024 .bf16) (harg1 : arg1.IsWhole) (x0 : Vec Ideal S4096x1024 .bf16) (a o : ℕ) (ha : a + 512 ≤ 4096) (ho : o + 128 ≤ 512)
    (inb : ∀ k, (![a, 512 + o] : Fin 2 → ℕ) k + (![512, 128] : Fin 2 → ℕ) k ≤ S4096x1024.size k)
    (inb' : ∀ k, (![a, 2 * o] : Fin 2 → ℕ) k + (![512, 256] : Fin 2 → ℕ) k ≤ S4096x1024.size k) (x : S512x128.Idx) :
    k0_pay5 (F := Ideal) (k0_pay18 (F := Ideal)) (arg1.view.readAt (Elt Ideal) (Rect.unit (s := S4096x1024) ![a, 2 * o] ![512, 256] inb').toLoadRect (harg1.unread x0)) x
      = xdOf x0 ((Rect.unit (s := S4096x1024) ![a, 512 + o] ![512, 128] inb).emb x) := by
  obtain ⟨r, l, rfl⟩ : ∃ (r : Fin 512) (l : Fin 128), x = ix2 r l := ⟨x 0, x 1, by funext k; match k with | 0 => rfl | 1 => rfl⟩
  pointwise [k0_pay5]
  rw [xd_block arg1 harg1 x0 a o inb' _ _ ha ho]
  refine xdOf_at x0 _ _ _ (by show a + 1 * (r : ℕ) = a + r; omega) (by
      show (if 512 + o + 1 * (l : ℕ) < 512 then 2 * (512 + o + 1 * (l : ℕ)) else 2 * (512 + o + 1 * (l : ℕ) - 512) + 1) = 2 * o + evenOdd (128 + (l : ℕ))
      rw [if_neg (by omega)]; unfold evenOdd; rw [if_neg (by omega)]; omega)

section
variable (c : Dev nD)
  (i : grid0.Coords)
  (arg1 : Memref sig .tc .vmem S4096x1024 .bf16) (harg1 : arg1.IsWhole)
  (arg2 : Memref sig .tc .vmem S512x1024 .fp8e4m3) (harg2 : arg2.IsWhole)
  (arg3 : Memref sig .tc .vmem S512x1 .f32) (harg3 : arg3.IsWhole)
  (arg4 : Memref sig .tc .vmem S480x512 .i8) (harg4 : arg4.IsWhole)
  (arg5 : Memref sig .tc .vmem S480x8 .bf16) (harg5 : arg5.IsWhole)
  (arg6 : Memref sig .tc .vmem S1x4096 .i32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S4096x1024 .bf16) (harg11 : arg11.IsWhole)
  (arg12 : Memref sig .tc .vmem S512x1024 .bf16) (harg12 : arg12.IsWhole)
  (arg13 : Memref sig .tc .vmem S8x4096 .f32) (harg13 : arg13.IsWhole)
  (arg14 : Memref sig .tc .vmem S8x4096 .f32) (harg14 : arg14.IsWhole)
  (arg15 : Memref sig .tc .vmem S8x4096 .f32) (harg15 : arg15.IsWhole)

/-- The sixty-four stores of the first point agree with the reordered tokens. -/
theorem xd_pieces (x0 : Vec Ideal S4096x1024 .bf16) : View.PiecesOf (xdOf x0) (runA.sl.HS0_64 (F := Ideal) c arg1 harg1 x0) :=
  ⟨xd_hi arg1 harg1 x0 3584 384 (by norm_num) (by norm_num) inb_S4096x1024_S512x128_3584_896 inb_S4096x1024_S512x256_3584_768,
   xd_lo arg1 harg1 x0 3584 384 (by norm_num) (by norm_num) inb_S4096x1024_S512x128_3584_384 inb_S4096x1024_S512x256_3584_768,
   xd_hi arg1 harg1 x0 3584 256 (by norm_num) (by norm_num) inb_S4096x1024_S512x128_3584_768 inb_S4096x1024_S512x256_3584_512,
   xd_lo arg1 harg1 x0 3584 256 (by norm_num) (by norm_num) inb_S4096x1024_S512x128_3584_256 inb_S4096x1024_S512x256_3584_512,
   xd_hi arg1 harg1 x0 3584 128 (by norm_num) (by norm_num) inb_S4096x1024_S512x128_3584_640 inb_S4096x1024_S512x256_3584_256,
   xd_lo arg1 harg1 x0 3584 128 (by norm_num) (by norm_num) inb_S4096x1024_S512x128_3584_128 inb_S4096x1024_S512x256_3584_256,
   xd_hi arg1 harg1 x0 3584 0 (by norm_num) (by norm_num) inb_S4096x1024_S512x128_3584_512 inb_S4096x1024_S512x256_3584_0,
   xd_lo arg1 harg1 x0 3584 0 (by norm_num) (by norm_num) inb_S4096x1024_S512x128_3584_0 inb_S4096x1024_S512x256_3584_0,
   xd_hi arg1 harg1 x0 3072 384 (by norm_num) (by norm_num) inb_S4096x1024_S512x128_3072_896 inb_S4096x1024_S512x256_3072_768,
   xd_lo arg1 harg1 x0 3072 384 (by norm_num) (by norm_num) inb_S4096x1024_S512x128_3072_384 inb_S4096x1024_S512x256_3072_768,
   xd_hi arg1 harg1 x0 3072 256 (by norm_num) (by norm_num) inb_S4096x1024_S512x128_3072_768 inb_S4096x1024_S512x256_3072_512,
   xd_lo arg1 harg1 x0 3072 256 (by norm_num) (by norm_num) inb_S4096x1024_S512x128_3072_256 inb_S4096x1024_S512x256_3072_512,
   xd_hi arg1 harg1 x0 3072 128 (by norm_num) (by norm_num) inb_S4096x1024_S512x128_3072_640 inb_S4096x1024_S512x256_3072_256,
   xd_lo arg1 harg1 x0 3072 128 (by norm_num) (by norm_num) inb_S4096x1024_S512x128_3072_128 inb_S4096x1024_S512x256_3072_256,
   xd_hi arg1 harg1 x0 3072 0 (by norm_num) (by norm_num) inb_S4096x1024_S512x128_3072_512 inb_S4096x1024_S512x256_3072_0,
   xd_lo arg1 harg1 x0 3072 0 (by norm_num) (by norm_num) inb_S4096x1024_S512x128_3072_0 inb_S4096x1024_S512x256_3072_0,
   xd_hi arg1 harg1 x0 2560 384 (by norm_num) (by norm_num) inb_S4096x1024_S512x128_2560_896 inb_S4096x1024_S512x256_2560_768,
   xd_lo arg1 harg1 x0 2560 384 (by norm_num) (by norm_num) inb_S4096x1024_S512x128_2560_384 inb_S4096x1024_S512x256_2560_768,
   xd_hi arg1 harg1 x0 2560 256 (by norm_num) (by norm_num) inb_S4096x1024_S512x128_2560_768 inb_S4096x1024_S512x256_2560_512,
   xd_lo arg1 harg1 x0 2560 256 (by norm_num) (by norm_num) inb_S4096x1024_S512x128_2560_256 inb_S4096x1024_S512x256_2560_512,
   xd_hi arg1 harg1 x0 2560 128 (by norm_num) (by norm_num) inb_S4096x1024_S512x128_2560_640 inb_S4096x1024_S512x256_2560_256,
   xd_lo arg1 harg1 x0 2560 128 (by norm_num) (by norm_num) inb_S4096x1024_S512x128_2560_128 inb_S4096x1024_S512x256_2560_256,
   xd_hi arg1 harg1 x0 2560 0 (by norm_num) (by norm_num) inb_S4096x1024_S512x128_2560_512 inb_S4096x1024_S512x256_2560_0,
   xd_lo arg1 harg1 x0 2560 0 (by norm_num) (by norm_num) inb_S4096x1024_S512x128_2560_0 inb_S4096x1024_S512x256_2560_0,
   xd_hi arg1 harg1 x0 2048 384 (by norm_num) (by norm_num) inb_S4096x1024_S512x128_2048_896 inb_S4096x1024_S512x256_2048_768,
   xd_lo arg1 harg1 x0 2048 384 (by norm_num) (by norm_num) inb_S4096x1024_S512x128_2048_384 inb_S4096x1024_S512x256_2048_768,
   xd_hi arg1 harg1 x0 2048 256 (by norm_num) (by norm_num) inb_S4096x1024_S512x128_2048_768 inb_S4096x1024_S512x256_2048_512,
   xd_lo arg1 harg1 x0 2048 256 (by norm_num) (by norm_num) inb_S4096x1024_S512x128_2048_256 inb_S4096x1024_S512x256_2048_512,
   xd_hi arg1 harg1 x0 2048 128 (by norm_num) (by norm_num) inb_S4096x1024_S512x128_2048_640 inb_S4096x1024_S512x256_2048_256,
   xd_lo arg1 harg1 x0 2048 128 (by norm_num) (by norm_num) inb_S4096x1024_S512x128_2048_128 inb_S4096x1024_S512x256_2048_256,
   xd_hi arg1 harg1 x0 2048 0 (by norm_num) (by norm_num) inb_S4096x1024_S512x128_2048_512 inb_S4096x1024_S512x256_2048_0,
   xd_lo arg1 harg1 x0 2048 0 (by norm_num) (by norm_num) inb_S4096x1024_S512x128_2048_0 inb_S4096x1024_S512x256_2048_0,
   xd_hi arg1 harg1 x0 1536 384 (by norm_num) (by norm_num) inb_S4096x1024_S512x128_1536_896 inb_S4096x1024_S512x256_1536_768,
   xd_lo arg1 harg1 x0 1536 384 (by norm_num) (by norm_num) inb_S4096x1024_S512x128_1536_384 inb_S4096x1024_S512x256_1536_768,
   xd_hi arg1 harg1 x0 1536 256 (by norm_num) (by norm_num) inb_S4096x1024_S512x128_1536_768 inb_S4096x1024_S512x256_1536_512,
   xd_lo arg1 harg1 x0 1536 256 (by norm_num) (by norm_num) inb_S4096x1024_S512x128_1536_256 inb_S4096x1024_S512x256_1536_512,
   xd_hi arg1 harg1 x0 1536 128 (by norm_num) (by norm_num) inb_S4096x1024_S512x128_1536_640 inb_S4096x1024_S512x256_1536_256,
   xd_lo arg1 harg1 x0 1536 128 (by norm_num) (by norm_num) inb_S4096x1024_S512x128_1536_128 inb_S4096x1024_S512x256_1536_256,
   xd_hi arg1 harg1 x0 1536 0 (by norm_num) (by norm_num) inb_S4096x1024_S512x128_1536_512 inb_S4096x1024_S512x256_1536_0,
   xd_lo arg1 harg1 x0 1536 0 (by norm_num) (by norm_num) inb_S4096x1024_S512x128_1536_0 inb_S4096x1024_S512x256_1536_0,
   xd_hi arg1 harg1 x0 1024 384 (by norm_num) (by norm_num) inb_S4096x1024_S512x128_1024_896 inb_S4096x1024_S512x256_1024_768,
   xd_lo arg1 harg1 x0 1024 384 (by norm_num) (by norm_num) inb_S4096x1024_S512x128_1024_384 inb_S4096x1024_S512x256_1024_768,
   xd_hi arg1 harg1 x0 1024 256 (by norm_num) (by norm_num) inb_S4096x1024_S512x128_1024_768 inb_S4096x1024_S512x256_1024_512,
   xd_lo arg1 harg1 x0 1024 256 (by norm_num) (by norm_num) inb_S4096x1024_S512x128_1024_256 inb_S4096x1024_S512x256_1024_512,
   xd_hi arg1 harg1 x0 1024 128 (by norm_num) (by norm_num) inb_S4096x1024_S512x128_1024_640 inb_S4096x1024_S512x256_1024_256,
   xd_lo arg1 harg1 x0 1024 128 (by norm_num) (by norm_num) inb_S4096x1024_S512x128_1024_128 inb_S4096x1024_S512x256_1024_256,
   xd_hi arg1 harg1 x0 1024 0 (by norm_num) (by norm_num) inb_S4096x1024_S512x128_1024_512 inb_S4096x1024_S512x256_1024_0,
   xd_lo arg1 harg1 x0 1024 0 (by norm_num) (by norm_num) inb_S4096x1024_S512x128_1024_0 inb_S4096x1024_S512x256_1024_0,
   xd_hi arg1 harg1 x0 512 384 (by norm_num) (by norm_num) inb_S4096x1024_S512x128_512_896 inb_S4096x1024_S512x256_512_768,
   xd_lo arg1 harg1 x0 512 384 (by norm_num) (by norm_num) inb_S4096x1024_S512x128_512_384 inb_S4096x1024_S512x256_512_768,
   xd_hi arg1 harg1 x0 512 256 (by norm_num) (by norm_num) inb_S4096x1024_S512x128_512_768 inb_S4096x1024_S512x256_512_512,
   xd_lo arg1 harg1 x0 512 256 (by norm_num) (by norm_num) inb_S4096x1024_S512x128_512_256 inb_S4096x1024_S512x256_512_512,
   xd_hi arg1 harg1 x0 512 128 (by norm_num) (by norm_num) inb_S4096x1024_S512x128_512_640 inb_S4096x1024_S512x256_512_256,
   xd_lo arg1 harg1 x0 512 128 (by norm_num) (by norm_num) inb_S4096x1024_S512x128_512_128 inb_S4096x1024_S512x256_512_256,
   xd_hi arg1 harg1 x0 512 0 (by norm_num) (by norm_num) inb_S4096x1024_S512x128_512_512 inb_S4096x1024_S512x256_512_0,
   xd_lo arg1 harg1 x0 512 0 (by norm_num) (by norm_num) inb_S4096x1024_S512x128_512_0 inb_S4096x1024_S512x256_512_0,
   xd_hi arg1 harg1 x0 0 384 (by norm_num) (by norm_num) inb_S4096x1024_S512x128_0_896 inb_S4096x1024_S512x256_0_768,
   xd_lo arg1 harg1 x0 0 384 (by norm_num) (by norm_num) inb_S4096x1024_S512x128_0_384 inb_S4096x1024_S512x256_0_768,
   xd_hi arg1 harg1 x0 0 256 (by norm_num) (by norm_num) inb_S4096x1024_S512x128_0_768 inb_S4096x1024_S512x256_0_512,
   xd_lo arg1 harg1 x0 0 256 (by norm_num) (by norm_num) inb_S4096x1024_S512x128_0_256 inb_S4096x1024_S512x256_0_512,
   xd_hi arg1 harg1 x0 0 128 (by norm_num) (by norm_num) inb_S4096x1024_S512x128_0_640 inb_S4096x1024_S512x256_0_256,
   xd_lo arg1 harg1 x0 0 128 (by norm_num) (by norm_num) inb_S4096x1024_S512x128_0_128 inb_S4096x1024_S512x256_0_256,
   xd_hi arg1 harg1 x0 0 0 (by norm_num) (by norm_num) inb_S4096x1024_S512x128_0_512 inb_S4096x1024_S512x256_0_0,
   xd_lo arg1 harg1 x0 0 0 (by norm_num) (by norm_num) inb_S4096x1024_S512x128_0_0 inb_S4096x1024_S512x256_0_0, trivial⟩

/-- The first point stores the reordered tokens. -/
theorem runA_X (hc0 : cond0_0 i) (hc1 : cond0_1 i) (hc2 : cond0_2 i) (hc3 : ¬cond0_3 i) (hc4 : ¬cond0_4 i) (x0 : Vec Ideal S4096x1024 .bf16) (x1 : Vec Ideal S512x1024 .fp8e4m3) (x2 : Vec Ideal S512x1 .f32) (x3 : Vec Ideal S480x512 .i8) (x4 : Vec Ideal S480x8 .bf16) (x5 : Vec Ideal S1x4096 .i32) (x8 : Vec Ideal S1x4096 .f32)
    (f : BufTy.Contents (Elt Ideal) arg11.view.ty) :
    arg11.view.read (Elt Ideal) (arg11.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x8).1) = xdOf x0 := by
  funext y
  refine read_pieces arg11.view f (xdOf x0) y _ (xd_pieces c arg1 harg1 x0) ?_
  exact View.cover_of_tiledL (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x8).1 S512x128.size (by sl_kernel_rfl) y
end

end Cert.KernelIdeal.Hand
-- ==== Proof.WinBlocks.lean ====
module

public import proofs.«01_k».proof.Proof.ValHead
public import proofs.«01_k».proof.Proof.ValTail
public import proofs.«01_k».proof.Proof.Xd

@[expose] public section

/-! What each input window holds at a grid point, at coordinates of the launched arrays. -/

set_option maxRecDepth 16384

noncomputable section
namespace Cert.KernelIdeal.Hand

open Cert.KernelIdeal.Gen Idealize.ShloMosaic Idealize.ShloMosaic.TcCoe

variable (m : (ℓ : Loc nD τ sig) → Buf (Elt Ideal) ℓ)

/-- The tokens the region finds. -/
def aX (c : Dev nD) : Vec Ideal S4096x1024 .bf16 := V m c main_v0
/-- The head weights the region finds. -/
def aW (c : Dev nD) : Vec Ideal S6144x1024 .bf16 := V m c main_arg1
/-- The head scales the region finds. -/
def aS (c : Dev nD) : Vec Ideal S6144x1 .f32 := V m c main_v1
/-- The packed tail weights the region finds. -/
def aB (c : Dev nD) : Vec Ideal S44160x512 .i8 := V m c main_arg3
/-- The tail scales the region finds. -/
def aQ (c : Dev nD) : Vec Ideal S44160x8 .bf16 := V m c main_arg4
/-- The targets the region finds. -/
def aY (c : Dev nD) : Vec Ideal S1x4096 .i32 := V m c main_v2

/-- The block numbers of the six input windows. -/
theorem index0 : ∀ t : Fin cfg0.N, win0_0.index t 0 = 0 ∧ win0_0.index t 1 = 0 := by decide +kernel
/-- Window 1's block numbers. -/
theorem index1 : ∀ t : Fin cfg0.N, win0_1.index t 0 = min t.val 11 ∧ win0_1.index t 1 = 0 := by decide +kernel
/-- Window 2's block numbers. -/
theorem index2 : ∀ t : Fin cfg0.N, win0_2.index t 0 = min t.val 11 ∧ win0_2.index t 1 = 0 := by decide +kernel
/-- Window 3's block numbers. -/
theorem index3 : ∀ t : Fin cfg0.N, win0_3.index t 0 = t.val - 12 ∧ win0_3.index t 1 = 0 := by decide +kernel
/-- Window 4's block numbers. -/
theorem index4 : ∀ t : Fin cfg0.N, win0_4.index t 0 = t.val - 12 ∧ win0_4.index t 1 = 0 := by decide +kernel
/-- Window 5's block numbers. -/
theorem index5 : ∀ t : Fin cfg0.N, win0_5.index t 0 = 0 ∧ win0_5.index t 1 = 0 := by decide +kernel

/-- The tokens' window is the whole array. -/
theorem iblk_0 (c : Dev nD) (t : Fin cfg0.N) : (iblk m c 0 t : Vec Ideal S4096x1024 .bf16) = aX m c := by
  have hi := index0 t
  funext j
  unfold iblk aX
  rw [View.read_apply]
  show V m c main_v0 _ = V m c main_v0 _
  congr 1
  funext a
  apply Fin.ext
  match a with
  | ⟨0, _⟩ => show win0_0.index t 0 * 4096 + 1 * (j 0).val = (j 0).val; rw [hi.1]; omega
  | ⟨1, _⟩ => show win0_0.index t 1 * 1024 + 1 * (j 1).val = (j 1).val; rw [hi.2]; omega

/-- The targets' window is the whole array. -/
theorem iblk_5 (c : Dev nD) (t : Fin cfg0.N) : (iblk m c 5 t : Vec Ideal S1x4096 .i32) = aY m c := by
  have hi := index5 t
  funext j
  unfold iblk aY
  rw [View.read_apply]
  show V m c main_v2 _ = V m c main_v2 _
  congr 1
  funext a
  apply Fin.ext
  match a with
  | ⟨0, _⟩ => show win0_5.index t 0 * 1 + 1 * (j 0).val = (j 0).val; rw [hi.1]; omega
  | ⟨1, _⟩ => show win0_5.index t 1 * 4096 + 1 * (j 1).val = (j 1).val; rw [hi.2]; omega

/-- The head weights' window, in the head's points. -/
theorem iblk_1 (c : Dev nD) (t : Fin cfg0.N) (ht : t.val < 12) (a : Fin 512) (d : Fin 1024) :
    (iblk m c 1 t : Vec Ideal S512x1024 .bf16) (ix2 a d) = aW m c (ix2 ⟨512 * t.val + a, by omega⟩ d) := by
  have hi := index1 t
  unfold iblk aW
  rw [View.read_apply]
  show V m c main_arg1 _ = V m c main_arg1 _
  congr 1
  funext k
  apply Fin.ext
  match k with
  | ⟨0, _⟩ => show win0_1.index t 0 * 512 + 1 * a.val = 512 * t.val + a.val; rw [hi.1]; omega
  | ⟨1, _⟩ => show win0_1.index t 1 * 1024 + 1 * d.val = d.val; rw [hi.2]; omega

/-- The head scales' window, in the head's points. -/
theorem iblk_2 (c : Dev nD) (t : Fin cfg0.N) (ht : t.val < 12) (a : Fin 512) :
    (iblk m c 2 t : Vec Ideal S512x1 .f32) (ix2 a 0) = aS m c (ix2 ⟨512 * t.val + a, by omega⟩ 0) := by
  have hi := index2 t
  unfold iblk aS
  rw [View.read_apply]
  show V m c main_v1 _ = V m c main_v1 _
  congr 1
  funext k
  apply Fin.ext
  match k with
  | ⟨0, _⟩ => show win0_2.index t 0 * 512 + 1 * a.val = 512 * t.val + a.val; rw [hi.1]; omega
  | ⟨1, _⟩ => show win0_2.index t 1 * 1 + 1 * 0 = 0; rw [hi.2]

/-- The packed tail weights' window, in the tail's points. -/
theorem iblk_3 (c : Dev nD) (t : Fin cfg0.N) (ht : t.val < 104) (a : Fin 480) (d : Fin 512) :
    (iblk m c 3 t : Vec Ideal S480x512 .i8) (ix2 a d) = aB m c (ix2 ⟨480 * (t.val - 12) + a, by omega⟩ d) := by
  have hi := index3 t
  unfold iblk aB
  rw [View.read_apply]
  show V m c main_arg3 _ = V m c main_arg3 _
  congr 1
  funext k
  apply Fin.ext
  match k with
  | ⟨0, _⟩ => show win0_3.index t 0 * 480 + 1 * a.val = 480 * (t.val - 12) + a.val; rw [hi.1]; omega
  | ⟨1, _⟩ => show win0_3.index t 1 * 512 + 1 * d.val = d.val; rw [hi.2]; omega

/-- The tail scales' window, in the tail's points. -/
theorem iblk_4 (c : Dev nD) (t : Fin cfg0.N) (ht : t.val < 104) (a : Fin 480) (g : Fin 8) :
    (iblk m c 4 t : Vec Ideal S480x8 .bf16) (ix2 a g) = aQ m c (ix2 ⟨480 * (t.val - 12) + a, by omega⟩ g) := by
  have hi := index4 t
  unfold iblk aQ
  rw [View.read_apply]
  show V m c main_arg4 _ = V m c main_arg4 _
  congr 1
  funext k
  apply Fin.ext
  match k with
  | ⟨0, _⟩ => show win0_4.index t 0 * 480 + 1 * a.val = 480 * (t.val - 12) + a.val; rw [hi.1]; omega
  | ⟨1, _⟩ => show win0_4.index t 1 * 8 + 1 * g.val = g.val; rw [hi.2]; omega

end Cert.KernelIdeal.Hand

end
-- ==== Proof.Lse.lean ====
module

public import Idealize.ShloMosaic.Lib.Pointwise

@[expose] public section

/-! Log-sum-exp over the extended reals: rescaling a running sum, and shifting by a finite number. -/

set_option maxRecDepth 16384

noncomputable section
namespace Cert.KernelIdeal.Hand

open Idealize.ShloMosaic

namespace LSE
/-- The exponential is never negative. -/
theorem exp_nonneg (x : EReal) : 0 ≤ Ideal.exp x := by
  induction x with
  | bot => simp
  | top => simp
  | coe r => simp only [Ideal.exp_coe]; exact_mod_cast (Real.exp_pos r).le

/-- one term rescaled -/
theorem exp_step {z m m' : EReal} (h1 : z ≤ m) (h2 : m ≤ m') (hb : m ≠ ⊥) :
    Ideal.exp (z - m) * Ideal.exp (m - m') = Ideal.exp (z - m') := by
  induction m' with
  | bot => exact absurd (le_bot_iff.mp h2) hb
  | top => simp
  | coe c =>
    induction m with
    | bot => exact absurd rfl hb
    | top => simp at h2
    | coe b =>
      induction z with
      | bot => simp
      | top => simp at h1
      | coe a =>
        rw [← EReal.coe_sub, ← EReal.coe_sub, ← EReal.coe_sub]
        simp only [Ideal.exp_coe]
        rw [← EReal.coe_mul, ← Real.exp_add]
        congr 2; ring
/-- A sum of non-negative terms times a factor is the sum of the products. -/
theorem sum_mul {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a (by simp)) (Finset.sum_nonneg fun i hi => hf i (by simp [hi])), ih fun i hi => hf i (by simp [hi])]
/-- Raising the maximum rescales the sum of the exponentials. -/
theorem sum_step {ι : Type*} (s : Finset ι) (z : ι → EReal) {m m' : EReal} (h1 : ∀ i ∈ s, z i ≤ m) (h2 : m ≤ m') (hb : m ≠ ⊥) :
    (∑ i ∈ s, Ideal.exp (z i - m)) * Ideal.exp (m - m') = ∑ i ∈ s, Ideal.exp (z i - m') := by
  rw [sum_mul _ _ fun i _ => exp_nonneg _]
  exact Finset.sum_congr rfl fun i hi => exp_step (h1 i hi) h2 hb

/-- shift of LSE from `mx = max (NEG) M` -/
theorem lse_shift {ι : Type*} (s : Finset ι) (hs : s.Nonempty) (z : ι → EReal) (M : EReal) (hM : M = s.sup z) (n : ℝ) :
    max (n : EReal) M + Ideal.log (∑ i ∈ s, Ideal.exp (z i - max (n : EReal) M))
      = M + Ideal.log (∑ i ∈ s, Ideal.exp (z i - M)) := by
  subst hM
  rcases le_total (n : EReal) (s.sup z) with h | h
  · rw [max_eq_right h]
  rw [max_eq_left h]
  induction hm : s.sup z with
  | top => rw [hm] at h; simp at h
  | bot =>
    have hz : ∀ i ∈ s, z i = ⊥ := fun i hi => le_bot_iff.mp (hm ▸ Finset.le_sup hi)
    have : ∑ i ∈ s, Ideal.exp (z i - (n:EReal)) = 0 := Finset.sum_eq_zero fun i hi => by rw [hz i hi]; simp
    rw [this]
    have : Ideal.log 0 = ⊥ := by have := Ideal.log_coe (r := 0); simpa using this
    rw [this]; simp
  | coe b =>
    have hz : ∀ i ∈ s, z i ≤ (b : EReal) := fun i hi => hm ▸ Finset.le_sup hi
    have hbn : (b : EReal) ≤ n := hm ▸ h
    have e : ∑ i ∈ s, Ideal.exp (z i - (n:EReal)) = (∑ i ∈ s, Ideal.exp (z i - (b:EReal))) * Ideal.exp ((b:EReal) - n) :=
      (sum_step s z hz hbn (EReal.coe_ne_bot b)).symm
    obtain ⟨i₀, hi₀, hi₀'⟩ : ∃ i ∈ s, z i = (b : EReal) := by
      obtain ⟨i, hi, h'⟩ := Finset.exists_mem_eq_sup s hs z
      exact ⟨i, hi, by rw [← h', hm]⟩
    -- the sum over z - b is a real ≥ 1
    have hreal : ∃ S : ℝ, 0 < S ∧ ∑ i ∈ s, Ideal.exp (z i - (b:EReal)) = (S : EReal) := by
      have hr : ∀ i, i ∈ s → ∃ r : ℝ, 0 ≤ r ∧ Ideal.exp (z i - (b:EReal)) = (r : EReal) := by
        intro i hi
        have := hz i hi
        induction hzi : z i with
        | bot => exact ⟨0, le_rfl, by simp⟩
        | top => rw [hzi] at this; simp at this
        | coe a => exact ⟨Real.exp (a - b), (Real.exp_pos _).le, by rw [← EReal.coe_sub, Ideal.exp_coe]⟩
      choose! r hr0 hr1 using hr
      refine ⟨∑ i ∈ s, r i, ?_, ?_⟩
      · refine Finset.sum_pos' (fun i hi => hr0 i hi) ⟨i₀, hi₀, ?_⟩
        have := hr1 i₀ hi₀
        rw [hi₀', ← EReal.coe_sub, sub_self, Ideal.exp_coe, Real.exp_zero] at this
        have : (1:ℝ) = r i₀ := by exact_mod_cast this
        linarith
      · rw [Finset.sum_congr rfl hr1]
        exact (map_sum (⟨⟨fun x : ℝ => (x : EReal), EReal.coe_zero⟩, EReal.coe_add⟩ : ℝ →+ EReal) r s).symm
    obtain ⟨S, hS, hS'⟩ := hreal
    rw [e, hS', ← EReal.coe_sub, Ideal.exp_coe, ← EReal.coe_mul, Ideal.log_coe, Ideal.log_coe,
      if_neg (not_le.mpr (mul_pos hS (Real.exp_pos _))), if_neg (not_le.mpr hS), ← EReal.coe_add, ← EReal.coe_add,
      Real.log_mul hS.ne' (Real.exp_pos _).ne', Real.log_exp]
    congr 1; ring
end LSE

end Cert.KernelIdeal.Hand
-- ==== Proof.Rows.lean ====
module

public import proofs.«01_k».proof.Proof.Lse
public import proofs.«01_k».proof.Proof.HeadPay

@[expose] public section

/-! The running rows as closed forms over all scores seen so far. -/

set_option maxRecDepth 16384

noncomputable section
namespace Cert.KernelIdeal.Hand

open Cert.KernelIdeal.Gen Idealize.ShloMosaic

/-- The running maximum of a row's first `K` scores, started at the fill. -/
def rowM (L : ℕ → EReal) (K : ℕ) : EReal := max NEG ((Finset.range K).sup L)

/-- The running sum of a row's first `K` scores, against their running maximum. -/
def rowS (L : ℕ → EReal) (K : ℕ) : EReal := ∑ k ∈ Finset.range K, Ideal.exp (L k - rowM L K)

/-- The sum of those of a row's first `K` scores that are hit. -/
def rowT (hit : ℕ → Prop) [DecidablePred hit] (L : ℕ → EReal) (K : ℕ) : EReal := ∑ k ∈ Finset.range K, if hit k then L k else 0

/-- The running maximum is never minus infinity. -/
theorem rowM_ne_bot (L : ℕ → EReal) (K : ℕ) : rowM L K ≠ ⊥ := by
  obtain ⟨n, hn⟩ := NEG_real
  intro h
  have h' : NEG ≤ ⊥ := h ▸ le_max_left _ _
  rw [hn] at h'
  exact absurd (le_bot_iff.mp h') (EReal.coe_ne_bot n)

/-- A supremum over the first `K + c` numbers, split. -/
theorem sup_range_add (L : ℕ → EReal) (K c : ℕ) :
    (Finset.range (K + c)).sup L = max ((Finset.range K).sup L) (Finset.univ.sup fun j : Fin c => L (K + j)) := by
  refine le_antisymm (Finset.sup_le fun k hk => ?_) (max_le (Finset.sup_mono (by intro k; simp; omega)) (Finset.sup_le fun j _ => ?_))
  · rcases Nat.lt_or_ge k K with h | h
    · exact le_max_of_le_left (Finset.le_sup (f := L) (Finset.mem_range.mpr h))
    · have hk' : k - K < c := by have := Finset.mem_range.mp hk; omega
      have e := Finset.le_sup (f := fun j : Fin c => L (K + j)) (Finset.mem_univ ⟨k - K, hk'⟩)
      have e' : K + (k - K) = k := by omega
      simp only [e'] at e
      exact le_max_of_le_right e
  · exact Finset.le_sup (f := L) (Finset.mem_range.mpr (by omega))

/-- A tile raises the running maximum by its scores. -/
theorem rowM_add (L : ℕ → EReal) (K c : ℕ) :
    rowM L (K + c) = max (rowM L K) (Finset.univ.sup fun j : Fin c => L (K + j)) := by
  rw [rowM, rowM, sup_range_add, max_assoc]

/-- A tile rescales the running sum and adds its exponentials. -/
theorem rowS_add (L : ℕ → EReal) (K c : ℕ) :
    rowS L (K + c) = rowS L K * Ideal.exp (rowM L K - rowM L (K + c)) + ∑ j : Fin c, Ideal.exp (L (K + j) - rowM L (K + c)) := by
  have h : rowM L K ≤ rowM L (K + c) := by rw [rowM_add]; exact le_max_left _ _
  rw [rowS, rowS, LSE.sum_step (m := rowM L K) _ _ (fun k hk => le_max_of_le_right (Finset.le_sup (f := L) hk)) h (rowM_ne_bot L K),
    Finset.sum_range_add, Finset.sum_range (fun x => Ideal.exp (L (K + x) - rowM L (K + c)))]

/-- A tile adds the scores that are hit. -/
theorem rowT_add (hit : ℕ → Prop) [DecidablePred hit] (L : ℕ → EReal) (K c : ℕ) :
    rowT hit L (K + c) = rowT hit L K + ∑ j : Fin c, if hit (K + j) then L (K + j) else 0 := by
  rw [rowT, rowT, Finset.sum_range_add, Finset.sum_range (fun x => if hit (K + x) then L (K + x) else 0)]

/-- Eight interleaved rows are all the numbers: a sum. -/
theorem sum_eight (f : ℕ → EReal) (K : ℕ) :
    ∑ r : Fin 8, ∑ k ∈ Finset.range K, f (8 * k + r) = ∑ v ∈ Finset.range (8 * K), f v := by
  rw [Finset.sum_comm]
  induction K with
  | zero => simp
  | succ K ih =>
    rw [Finset.sum_range_succ, ih, show 8 * (K + 1) = 8 * K + 8 by omega, Finset.sum_range_add, Finset.sum_range (fun x => f (8 * K + x))]

/-- Eight interleaved rows are all the numbers: a supremum. -/
theorem sup_eight (f : ℕ → EReal) (K : ℕ) :
    (Finset.univ.sup fun r : Fin 8 => (Finset.range K).sup fun k => f (8 * k + r)) = (Finset.range (8 * K)).sup f := by
  refine le_antisymm (Finset.sup_le fun r _ => Finset.sup_le fun k hk => Finset.le_sup (f := f) ?_) (Finset.sup_le fun v hv => ?_)
  · have := Finset.mem_range.mp hk
    exact Finset.mem_range.mpr (by omega)
  · have hv := Finset.mem_range.mp hv
    have e := Finset.le_sup (f := fun r : Fin 8 => (Finset.range K).sup fun k => f (8 * k + r)) (Finset.mem_univ ⟨v % 8, by omega⟩)
    have e2 := Finset.le_sup (f := fun k => f (8 * k + v % 8)) (Finset.mem_range.mpr (show v / 8 < K by omega))
    have e3 : 8 * (v / 8) + v % 8 = v := by omega
    simp only [e3] at e2
    exact e2.trans e

/-- The log-sum-exp of the first `N` numbers. -/
def lse (f : ℕ → EReal) (N : ℕ) : EReal :=
  (Finset.range N).sup f + Ideal.log (∑ v ∈ Finset.range N, Ideal.exp (f v - (Finset.range N).sup f))

/-- The eight running rows give the log-sum-exp of all the scores. -/
theorem lseOf_rows (f : ℕ → EReal) (K : ℕ) (hK : 0 < K) :
    lseOf (fun r : Fin 8 => rowM (fun k => f (8 * k + r)) K) (fun r => rowS (fun k => f (8 * k + r)) K) = lse f (8 * K) := by
  have hsup : (Finset.univ.sup fun r : Fin 8 => rowM (fun k => f (8 * k + r)) K) = max NEG ((Finset.range (8 * K)).sup f) := by
    simp only [rowM]
    rw [← sup_eight]
    refine le_antisymm (Finset.sup_le fun r _ => max_le (le_max_left _ _) (le_max_of_le_right (Finset.le_sup (f := fun r : Fin 8 => (Finset.range K).sup fun k => f (8 * k + r)) (Finset.mem_univ r)))) (max_le ?_ ?_)
    · exact le_trans (le_max_left _ _) (Finset.le_sup (f := fun r : Fin 8 => max NEG ((Finset.range K).sup fun k => f (8 * k + r))) (Finset.mem_univ 0))
    · exact Finset.sup_mono_fun fun r _ => le_max_right _ _
  have hs : ∀ r : Fin 8, rowS (fun k => f (8 * k + r)) K * Ideal.exp (rowM (fun k => f (8 * k + r)) K - max NEG ((Finset.range (8 * K)).sup f))
      = ∑ k ∈ Finset.range K, Ideal.exp (f (8 * k + r) - max NEG ((Finset.range (8 * K)).sup f)) := by
    intro r
    refine LSE.sum_step _ _ (fun k hk => ?_) ?_ (rowM_ne_bot _ K)
    · exact le_max_of_le_right (Finset.le_sup (f := fun k => f (8 * k + r)) hk)
    · rw [← hsup]
      exact Finset.le_sup (f := fun r : Fin 8 => rowM (fun k => f (8 * k + r)) K) (Finset.mem_univ r)
  rw [lseOf, hsup, Finset.sum_congr rfl fun r _ => hs r, sum_eight (fun v => Ideal.exp (f v - max NEG ((Finset.range (8 * K)).sup f))) K, lse]
  obtain ⟨n, hn⟩ := NEG_real
  rw [hn]
  exact LSE.lse_shift _ ⟨0, Finset.mem_range.mpr (by omega)⟩ f _ rfl n

end Cert.KernelIdeal.Hand
-- ==== Proof.Inv.lean ====
module

public import proofs.«01_k».proof.Proof.WinBlocks
public import proofs.«01_k».proof.Proof.Rows

@[expose] public section

/-! What the running rows hold after each grid point, as closed forms of the launched arrays. -/

set_option maxRecDepth 16384

noncomputable section
namespace Cert.KernelIdeal.Hand

open Cert.KernelIdeal.Gen Idealize.ShloMosaic

/-- The head score of vocabulary row `v` and token `q`. -/
def HL (X : Vec Ideal S4096x1024 .bf16) (W : Vec Ideal S6144x1024 .bf16) (S : Vec Ideal S6144x1 .f32) (q : Fin 4096) (v : ℕ) : EReal :=
  if h : v < 6144 then (∑ d : Fin 1024, W (ix2 ⟨v, h⟩ d) * X (ix2 q d)) * S (ix2 ⟨v, h⟩ 0) else 0

/-- The weight of tail row `v` at de-interleaved channel `d`. -/
def tailWt (B : Vec Ideal S44160x512 .i8) (Q : Vec Ideal S44160x8 .bf16) (v : Fin 44160) (d : Fin 1024) : EReal :=
  (if h : (d : ℕ) < 512 then nibLo (B (ix2 v ⟨d, h⟩)) else nibHi (B (ix2 v ⟨d - 512, by omega⟩)))
    * Q (ix2 v ⟨(d : ℕ) % 512 / 64, by omega⟩)

/-- The tail score of tail row `v` and token `q`. -/
def TL (X : Vec Ideal S4096x1024 .bf16) (B : Vec Ideal S44160x512 .i8) (Q : Vec Ideal S44160x8 .bf16) (q : Fin 4096) (v : ℕ) : EReal :=
  if h : v < 44160 then ∑ d : Fin 1024, tailWt B Q ⟨v, h⟩ d * X (ix2 q (xPerm d)) else 0

section
variable {X : Vec Ideal S4096x1024 .bf16} {W : Vec Ideal S6144x1024 .bf16} {S : Vec Ideal S6144x1 .f32}
variable {B : Vec Ideal S44160x512 .i8} {Q : Vec Ideal S44160x8 .bf16}

/-- A head tile's scores are the head's. -/
theorem headLogit_eq {w : Vec Ideal S512x1024 .bf16} {s : Vec Ideal S512x1 .f32} (t : ℕ) (ht : t < 12)
    (hw : ∀ (a : Fin 512) (d : Fin 1024), w (ix2 a d) = W (ix2 ⟨512 * t + a, by omega⟩ d))
    (hs : ∀ a : Fin 512, s (ix2 a 0) = S (ix2 ⟨512 * t + a, by omega⟩ 0)) (a : Fin 512) (q : Fin 4096) :
    headLogit X w s a q = HL X W S q (512 * t + a) := by
  rw [headLogit, HL, dif_pos (by omega), hs]
  simp only [hw]

/-- A tail tile's scores are the tail's. -/
theorem tailSc_eq {b : Vec Ideal S480x512 .i8} {s : Vec Ideal S480x8 .bf16} (t : ℕ) (ht : t < 92)
    (hb : ∀ (a : Fin 480) (d : Fin 512), b (ix2 a d) = B (ix2 ⟨480 * t + a, by omega⟩ d))
    (hs : ∀ (a : Fin 480) (g : Fin 8), s (ix2 a g) = Q (ix2 ⟨480 * t + a, by omega⟩ g)) (a : Fin 480) (q : Fin 4096) :
    tailSc (xdOf X) b s a q = TL X B Q q (480 * t + a) := by
  rw [tailSc, TL, dif_pos (by omega)]
  refine Finset.sum_congr rfl fun d _ => ?_
  rw [tailW, tailWt]
  simp only [hb, hs]
  rfl
end

/-- Row `r`'s share of the vocabulary: every eighth score. -/
def eighth (L : ℕ → EReal) (r : Fin 8) : ℕ → EReal := fun k => L (8 * k + r)

/-- The rows of a share that are the target `y`, its numbering starting at `o`. -/
def hitAt (o : ℕ) (y : BitVec 32) (r : Fin 8) (k : ℕ) : Prop := BitVec.ofNat 32 (o + (8 * k + r)) = y

/-- Whether a row is the target is decided on words. -/
instance (o : ℕ) (y : BitVec 32) (r : Fin 8) : DecidablePred (hitAt o y r) := fun k => by unfold hitAt; infer_instance

/-- A hit in a head tile, in the numbering of the whole head. -/
theorem hit_head (y : BitVec 32) (t j r : ℕ) :
    (BitVec.ofNat 32 (8 * j + r) = y - BitVec.ofNat 32 t * 512#32) ↔ BitVec.ofNat 32 (0 + (8 * (64 * t + j) + r)) = y := by
  rw [eq_comm, BitVec.sub_eq_iff_eq_add, eq_comm, show (512#32) = BitVec.ofNat 32 512 from rfl, ← BitVec.ofNat_mul, ← BitVec.ofNat_add,
    show 8 * j + r + t * 512 = 0 + (8 * (64 * t + j) + r) by ring]

/-- A hit in a tail tile, in the numbering of the whole vocabulary. -/
theorem hit_tail (y : BitVec 32) (t j r : ℕ) :
    (BitVec.ofNat 32 (8 * j + r) = y - (6144#32 + (BitVec.ofNat 32 (t + 12) - 12#32) * 480#32)) ↔ BitVec.ofNat 32 (6144 + (8 * (60 * t + j) + r)) = y := by
  have h : BitVec.ofNat 32 (t + 12) - 12#32 = BitVec.ofNat 32 t := by
    rw [BitVec.ofNat_add, show (12#32) = BitVec.ofNat 32 12 from rfl, BitVec.add_sub_cancel]
  rw [h, eq_comm, BitVec.sub_eq_iff_eq_add, eq_comm, show (480#32) = BitVec.ofNat 32 480 from rfl, show (6144#32) = BitVec.ofNat 32 6144 from rfl,
    ← BitVec.ofNat_mul, ← BitVec.ofNat_add, ← BitVec.ofNat_add,
    show 8 * j + r + (6144 + t * 480) = 6144 + (8 * (60 * t + j) + r) by ring]

section
variable {X : Vec Ideal S4096x1024 .bf16} {W : Vec Ideal S6144x1024 .bf16} {S : Vec Ideal S6144x1 .f32}
variable {w : Vec Ideal S512x1024 .bf16} {s : Vec Ideal S512x1 .f32} {Y : Vec Ideal S1x4096 .i32} {t : ℕ} (ht : t < 12)
  (hw : ∀ (a : Fin 512) (d : Fin 1024), w (ix2 a d) = W (ix2 ⟨512 * t + a, by omega⟩ d))
  (hs : ∀ a : Fin 512, s (ix2 a 0) = S (ix2 ⟨512 * t + a, by omega⟩ 0))
include hw hs

/-- The scores of a head tile in row `r`. -/
theorem head_eighth (r : Fin 8) (q : Fin 4096) (j : Fin 64) :
    headLogit X w s ⟨8 * j + r, by omega⟩ q = eighth (HL X W S q) r (64 * t + j) := by
  rw [headLogit_eq t ht hw hs, eighth]
  exact congrArg (HL X W S q) (by show 512 * t + (8 * j.val + r.val) = _; ring)

/-- A head tile takes the running maximum one tile on. -/
theorem hM_step {m : Fin 8 → Fin 4096 → EReal} (r : Fin 8) (q : Fin 4096) (hm : m r q = rowM (eighth (HL X W S q) r) (64 * t)) :
    hM X w s m r q = rowM (eighth (HL X W S q) r) (64 * (t + 1)) := by
  rw [show 64 * (t + 1) = 64 * t + 64 by ring, rowM_add, hM, hm]
  exact congrArg _ (congrArg _ (funext fun j => head_eighth ht hw hs r q j))

/-- A head tile takes the running sum one tile on. -/
theorem hS_step {m z : Fin 8 → Fin 4096 → EReal} (r : Fin 8) (q : Fin 4096) (hm : m r q = rowM (eighth (HL X W S q) r) (64 * t))
    (hz : z r q = rowS (eighth (HL X W S q) r) (64 * t)) :
    hS X w s m z r q = rowS (eighth (HL X W S q) r) (64 * (t + 1)) := by
  rw [hS, hM_step ht hw hs r q hm, show 64 * (t + 1) = 64 * t + 64 by ring, rowS_add, hm, hz]
  exact congrArg _ (Finset.sum_congr rfl fun j _ => by rw [head_eighth ht hw hs r q j])

/-- A head tile takes the target's score one tile on. -/
theorem hT_step {z : Fin 8 → Fin 4096 → EReal} (r : Fin 8) (q : Fin 4096)
    (hz : z r q = rowT (hitAt 0 (Y (ix2 0 q)) r) (eighth (HL X W S q) r) (64 * t)) :
    hT X w s Y (BitVec.ofNat 32 t) z r q = rowT (hitAt 0 (Y (ix2 0 q)) r) (eighth (HL X W S q) r) (64 * (t + 1)) := by
  rw [hT, show 64 * (t + 1) = 64 * t + 64 by ring, rowT_add, hz]
  refine congrArg _ (Finset.sum_congr rfl fun j _ => ?_)
  rw [head_eighth ht hw hs r q j]
  exact if_congr (hit_head _ _ _ _) rfl rfl
end

section
variable {X : Vec Ideal S4096x1024 .bf16} {B : Vec Ideal S44160x512 .i8} {Q : Vec Ideal S44160x8 .bf16}
variable {b : Vec Ideal S480x512 .i8} {s : Vec Ideal S480x8 .bf16} {Y : Vec Ideal S1x4096 .i32} {t : ℕ} (ht : t < 92)
  (hb : ∀ (a : Fin 480) (d : Fin 512), b (ix2 a d) = B (ix2 ⟨480 * t + a, by omega⟩ d))
  (hs : ∀ (a : Fin 480) (g : Fin 8), s (ix2 a g) = Q (ix2 ⟨480 * t + a, by omega⟩ g))
include hb hs

/-- The scores of a tail tile in row `r`. -/
theorem tail_eighth (r : Fin 8) (q : Fin 4096) (j : Fin 60) :
    tailSc (xdOf X) b s ⟨8 * j + r, by omega⟩ q = eighth (TL X B Q q) r (60 * t + j) := by
  rw [tailSc_eq t ht hb hs, eighth]
  exact congrArg (TL X B Q q) (by show 480 * t + (8 * j.val + r.val) = _; ring)

/-- A tail tile takes the running maximum one tile on. -/
theorem tM_step {m : Fin 8 → Fin 4096 → EReal} (r : Fin 8) (q : Fin 4096) (hm : m r q = rowM (eighth (TL X B Q q) r) (60 * t)) :
    tM (xdOf X) b s m r q = rowM (eighth (TL X B Q q) r) (60 * (t + 1)) := by
  rw [show 60 * (t + 1) = 60 * t + 60 by ring, rowM_add, tM, hm]
  exact congrArg _ (congrArg _ (funext fun j => tail_eighth ht hb hs r q j))

/-- A tail tile takes the running sum one tile on. -/
theorem tS_step {m z : Fin 8 → Fin 4096 → EReal} (r : Fin 8) (q : Fin 4096) (hm : m r q = rowM (eighth (TL X B Q q) r) (60 * t))
    (hz : z r q = rowS (eighth (TL X B Q q) r) (60 * t)) :
    tS (xdOf X) b s m z r q = rowS (eighth (TL X B Q q) r) (60 * (t + 1)) := by
  rw [tS, tM_step ht hb hs r q hm, show 60 * (t + 1) = 60 * t + 60 by ring, rowS_add, hm, hz]
  exact congrArg _ (Finset.sum_congr rfl fun j _ => by rw [tail_eighth ht hb hs r q j])

/-- A tail tile takes the target's score one tile on. -/
theorem tT_step {z : Fin 8 → Fin 4096 → EReal} {h : EReal} (r : Fin 8) (q : Fin 4096)
    (hz : z r q = h + rowT (hitAt 6144 (Y (ix2 0 q)) r) (eighth (TL X B Q q) r) (60 * t)) :
    tT (xdOf X) b s Y (BitVec.ofNat 32 (t + 12)) z r q = h + rowT (hitAt 6144 (Y (ix2 0 q)) r) (eighth (TL X B Q q) r) (60 * (t + 1)) := by
  rw [tT, show 60 * (t + 1) = 60 * t + 60 by ring, rowT_add, hz, add_assoc]
  refine congrArg _ (congrArg _ (Finset.sum_congr rfl fun j _ => ?_))
  rw [tail_eighth ht hb hs r q j]
  exact if_congr (hit_tail _ _ _ _) rfl rfl
end

/-- Nothing seen: the running maximum is the fill. -/
theorem rowM_zero (L : ℕ → EReal) : rowM L 0 = NEG := by rw [rowM, Finset.range_zero, Finset.sup_empty]; exact max_eq_left bot_le
/-- Nothing seen: the running sum is zero. -/
theorem rowS_zero (L : ℕ → EReal) : rowS L 0 = 0 := by rw [rowS, Finset.range_zero, Finset.sum_empty]
/-- Nothing seen: no hit. -/
theorem rowT_zero (hit : ℕ → Prop) [DecidablePred hit] (L : ℕ → EReal) : rowT hit L 0 = 0 := by rw [rowT, Finset.range_zero, Finset.sum_empty]

variable (X : Vec Ideal S4096x1024 .bf16) (W : Vec Ideal S6144x1024 .bf16) (S : Vec Ideal S6144x1 .f32)
variable (B : Vec Ideal S44160x512 .i8) (Q : Vec Ideal S44160x8 .bf16) (Y : Vec Ideal S1x4096 .i32)

/-- The running maximum after `n` points. -/
def mAt (n : ℕ) (r : Fin 8) (q : Fin 4096) : EReal :=
  if n ≤ 12 then rowM (eighth (HL X W S q) r) (64 * n) else rowM (eighth (TL X B Q q) r) (60 * (n - 12))
/-- The running sum after `n` points. -/
def sAt (n : ℕ) (r : Fin 8) (q : Fin 4096) : EReal :=
  if n ≤ 12 then rowS (eighth (HL X W S q) r) (64 * n) else rowS (eighth (TL X B Q q) r) (60 * (n - 12))
/-- The target's score after `n` points. -/
def tAt (n : ℕ) (r : Fin 8) (q : Fin 4096) : EReal :=
  if n ≤ 12 then rowT (hitAt 0 (Y (ix2 0 q)) r) (eighth (HL X W S q) r) (64 * n)
  else rowT (hitAt 0 (Y (ix2 0 q)) r) (eighth (HL X W S q) r) 768 + rowT (hitAt 6144 (Y (ix2 0 q)) r) (eighth (TL X B Q q) r) (60 * (n - 12))

/-- The rows hold what the points so far make of the arrays. -/
structure Inv (n : ℕ) (xd : Vec Ideal S4096x1024 .bf16) (mm ss tt : Vec Ideal S8x4096 .f32) : Prop where
  x : xd = xdOf X
  m : ∀ r q, mm (ix2 r q) = mAt X W S B Q n r q
  s : ∀ r q, ss (ix2 r q) = sAt X W S B Q n r q
  t : ∀ r q, tt (ix2 r q) = tAt X W S B Q Y n r q

/-- The head's log-sum-exp of token `q`. -/
def lseHead (q : Fin 4096) : EReal := lse (HL X W S q) 6144
/-- The tail's log-sum-exp of token `q`. -/
def lseTail (q : Fin 4096) : EReal := lse (TL X B Q q) 44160
/-- The target's score of token `q`. -/
def tgtScore (q : Fin 4096) : EReal := ∑ r : Fin 8, tAt X W S B Q Y 104 r q

/-- The head's rows give its log-sum-exp. -/
theorem lse_head_rows {m z : Fin 8 → EReal} (q : Fin 4096) (hm : ∀ r, m r = rowM (eighth (HL X W S q) r) 768)
    (hz : ∀ r, z r = rowS (eighth (HL X W S q) r) 768) : lseOf m z = lseHead X W S q := by
  rw [funext hm, funext hz]
  exact lseOf_rows (HL X W S q) 768 (by omega)

/-- The tail's rows give its log-sum-exp. -/
theorem lse_tail_rows {m z : Fin 8 → EReal} (q : Fin 4096) (hm : ∀ r, m r = rowM (eighth (TL X B Q q) r) 5520)
    (hz : ∀ r, z r = rowS (eighth (TL X B Q q) r) 5520) : lseOf m z = lseTail X B Q q := by
  rw [funext hm, funext hz]
  exact lseOf_rows (TL X B Q q) 5520 (by omega)

end Cert.KernelIdeal.Hand

end
-- ==== Proof.State.lean ====
module

public import proofs.«01_k».proof.Proof.Inv

@[expose] public section

/-! The kernel's state between grid points and what its body is handed and gives back, over the ideal numbers. -/

set_option maxRecDepth 16384

noncomputable section
namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The invariant of core `c`'s rows after `n` points. -/
abbrev InvC (c : Dev nD) (n : ℕ) := Inv (aX m c) (aW m c) (aS m c) (aB m c) (aQ m c) (aY m c) n
/-- Core `c`'s head log-sum-exp. -/
abbrev lseHeadC (c : Dev nD) := lseHead (aX m c) (aW m c) (aS m c)
/-- Core `c`'s tail log-sum-exp. -/
abbrev lseTailC (c : Dev nD) := lseTail (aX m c) (aB m c) (aQ m c)
/-- Core `c`'s target scores. -/
abbrev tgtC (c : Dev nD) := tgtScore (aX m c) (aW m c) (aS m c) (aB m c) (aQ m c) (aY m c)

/-- The scratch after `n` points: the rows at the invariant, the unpacked weights at anything. -/
def stateAt (c : Dev nD) (n : ℕ) : sProp 𝕄 :=
  iprop(∃ xs0 xs1 xs2 xs3 xs4, (owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4) ∗ (∃ r, prngReg c r) ∗ ⌜InvC m c n xs0 xs2 xs3 xs4⌝)

/-- What the body is handed at point `t` beside the scratch: the inputs' blocks, window 8 at `x8`, the other outputs at anything. -/
def bodyPre (c : Dev nD) (t : Fin cfg0.N) (x8 : Vec Ideal S1x4096 .f32) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ (∃ d, owns (c : Thread nD τ) (ms0_6 t) fullShare d)
    ∗ (∃ d, owns (c : Thread nD τ) (ms0_7 t) fullShare d)
    ∗ owns (c : Thread nD τ) (ms0_8 t) fullShare x8
    ∗ (∃ d, owns (c : Thread nD τ) (ms0_9 t) fullShare d))

/-- What it gives back: the inputs' blocks, and each output at what the point makes of it. -/
def bodyPost (c : Dev nD) (t : Fin cfg0.N) (x8 : Vec Ideal S1x4096 .f32) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ (∃ X, owns (c : Thread nD τ) (ms0_6 t) fullShare X ∗ ⌜t.val = 103 → ∀ q, X (ix2 0 q) = addLse (lseHeadC m c q) (lseTailC m c q)⌝)
    ∗ (∃ X, owns (c : Thread nD τ) (ms0_7 t) fullShare X ∗ ⌜t.val = 103 → ∀ q, X (ix2 0 q) = tgtC m c q - addLse (lseHeadC m c q) (lseTailC m c q)⌝)
    ∗ (∃ X, owns (c : Thread nD τ) (ms0_8 t) fullShare X ∗ ⌜if t.val = 11 then ∀ q, X (ix2 0 q) = lseHeadC m c q else X = x8⌝)
    ∗ (∃ X, owns (c : Thread nD τ) (ms0_9 t) fullShare X ∗ ⌜t.val = 103 → ∀ q, X (ix2 0 q) = lseTailC m c q⌝))

/-- The grid coordinate of a point is its number. -/
theorem coord_val (t : Fin cfg0.N) : (grid0.coords t 0).val = t.val := by
  have ht : t.val < 104 := Nat.lt_of_lt_of_eq t.isLt N_0
  have e0 : (grid0.coords t 0).val = t.val / 1 % 104 := Pipeline.Grid.coords_val t 0 (by decide) rfl
  omega

section
variable (c : Dev nD) (t : Fin cfg0.N) {xd xs0 : Vec Ideal S4096x1024 .bf16} {xs2 xs3 xs4 x2 x3 x4 : Vec Ideal S8x4096 .f32}

/-- A head tile's stores take the invariant one point on. -/
theorem inv_head (ht : t.val < 12) {m0 s0 t0 : Fin 8 → Fin 4096 → EReal} (hxd : xd = xdOf (aX m c))
    (hm : ∀ r q, m0 r q = mAt (aX m c) (aW m c) (aS m c) (aB m c) (aQ m c) t.val r q)
    (hs : ∀ r q, s0 r q = sAt (aX m c) (aW m c) (aS m c) (aB m c) (aQ m c) t.val r q)
    (hz : ∀ r q, t0 r q = tAt (aX m c) (aW m c) (aS m c) (aB m c) (aQ m c) (aY m c) t.val r q)
    (em : ∀ r q, x2 (ix2 r q) = hM (iblk m c 0 t) (iblk m c 1 t) (iblk m c 2 t) m0 r q)
    (es : ∀ r q, x3 (ix2 r q) = hS (iblk m c 0 t) (iblk m c 1 t) (iblk m c 2 t) m0 s0 r q)
    (et : ∀ r q, x4 (ix2 r q) = hT (iblk m c 0 t) (iblk m c 1 t) (iblk m c 2 t) (iblk m c 5 t) (BitVec.ofNat 32 (grid0.coords t 0).val) t0 r q) :
    InvC m c (t.val + 1) xd x2 x3 x4 := by
  have h1 : t.val ≤ 12 := by omega
  have h2 : t.val + 1 ≤ 12 := by omega
  refine ⟨hxd, fun r q => ?_, fun r q => ?_, fun r q => ?_⟩
  · have h := hm r q
    rw [mAt, if_pos h1] at h
    rw [em, iblk_0, mAt, if_pos h2]
    exact hM_step ht (iblk_1 m c t ht) (iblk_2 m c t ht) r q h
  · have h := hm r q
    have h' := hs r q
    rw [mAt, if_pos h1] at h
    rw [sAt, if_pos h1] at h'
    rw [es, iblk_0, sAt, if_pos h2]
    exact hS_step ht (iblk_1 m c t ht) (iblk_2 m c t ht) r q h h'
  · have h := hz r q
    rw [tAt, if_pos h1] at h
    rw [et, iblk_0, iblk_5, coord_val, tAt, if_pos h2]
    exact hT_step ht (iblk_1 m c t ht) (iblk_2 m c t ht) r q h

/-- The running maximum a tail tile starts from. -/
def mT0 (c : Dev nD) (n : ℕ) (r : Fin 8) (q : Fin 4096) : EReal := rowM (eighth (TL (aX m c) (aB m c) (aQ m c) q) r) (60 * (n - 12))
/-- The running sum a tail tile starts from. -/
def sT0 (c : Dev nD) (n : ℕ) (r : Fin 8) (q : Fin 4096) : EReal := rowS (eighth (TL (aX m c) (aB m c) (aQ m c) q) r) (60 * (n - 12))

/-- A tail tile's stores take the invariant one point on. -/
theorem inv_tail (ht : 12 ≤ t.val) {m0 s0 t0 : Fin 8 → Fin 4096 → EReal} (hxd : xs0 = xdOf (aX m c)) (hxd' : xd = xs0)
    (hm : ∀ r q, m0 r q = mT0 m c t.val r q) (hs : ∀ r q, s0 r q = sT0 m c t.val r q)
    (hz : ∀ r q, t0 r q = tAt (aX m c) (aW m c) (aS m c) (aB m c) (aQ m c) (aY m c) t.val r q)
    (em : ∀ r q, x2 (ix2 r q) = tM xs0 (iblk m c 3 t) (iblk m c 4 t) m0 r q)
    (es : ∀ r q, x3 (ix2 r q) = tS xs0 (iblk m c 3 t) (iblk m c 4 t) m0 s0 r q)
    (et : ∀ r q, x4 (ix2 r q) = tT xs0 (iblk m c 3 t) (iblk m c 4 t) (iblk m c 5 t) (BitVec.ofNat 32 (grid0.coords t 0).val) t0 r q) :
    InvC m c (t.val + 1) xd x2 x3 x4 := by
  have hN : t.val < 104 := lt_of_lt_of_eq t.isLt (show cfg0.N = 104 from N_0)
  have h2 : ¬t.val + 1 ≤ 12 := by omega
  have h3 : t.val + 1 - 12 = (t.val - 12) + 1 := by omega
  have h4 : BitVec.ofNat 32 t.val = BitVec.ofNat 32 (t.val - 12 + 12) := congrArg _ (by omega)
  subst hxd'
  refine ⟨hxd, fun r q => ?_, fun r q => ?_, fun r q => ?_⟩
  · rw [em, hxd, mAt, if_neg h2, h3]
    exact tM_step (by omega) (iblk_3 m c t hN) (iblk_4 m c t hN) r q (hm r q)
  · rw [es, hxd, sAt, if_neg h2, h3]
    exact tS_step (by omega) (iblk_3 m c t hN) (iblk_4 m c t hN) r q (hm r q) (hs r q)
  · rw [et, hxd, iblk_5, coord_val, tAt, if_neg h2, h3, h4]
    refine tT_step (by omega) (iblk_3 m c t hN) (iblk_4 m c t hN) r q ((hz r q).trans ?_)
    rw [tAt]
    by_cases h : t.val ≤ 12
    · have e : t.val = 12 := by omega
      rw [if_pos h, e, rowT_zero, add_zero]
    · rw [if_neg h]

variable {y0 : Vec Ideal S4096x1024 .bf16} {y2 y3 y4 : Vec Ideal S8x4096 .f32}

/-- The head's log-sum-exp is what the rows give after the last head tile. -/
theorem out_head (ht : t.val = 11) (hinv : InvC m c t.val y0 y2 y3 y4) (q : Fin 4096) :
    lseOf (fun r => hM (iblk m c 0 t) (iblk m c 1 t) (iblk m c 2 t) (fun r q => y2 (ix2 r q)) r q)
      (fun r => hS (iblk m c 0 t) (iblk m c 1 t) (iblk m c 2 t) (fun r q => y2 (ix2 r q)) (fun r q => y3 (ix2 r q)) r q) = lseHeadC m c q := by
  have h11 : t.val < 12 := by omega
  have hm : ∀ r, y2 (ix2 r q) = rowM (eighth (HL (aX m c) (aW m c) (aS m c) q) r) (64 * t.val) := fun r => (hinv.m r q).trans (if_pos (by omega))
  have hs : ∀ r, y3 (ix2 r q) = rowS (eighth (HL (aX m c) (aW m c) (aS m c) q) r) (64 * t.val) := fun r => (hinv.s r q).trans (if_pos (by omega))
  have e : 64 * (t.val + 1) = 768 := by omega
  rw [iblk_0]
  refine lse_head_rows _ _ _ q (fun r => ?_) fun r => ?_
  · rw [← e]; exact hM_step h11 (iblk_1 m c t h11) (iblk_2 m c t h11) r q (hm r)
  · rw [← e]; exact hS_step h11 (iblk_1 m c t h11) (iblk_2 m c t h11) r q (hm r) (hs r)

/-- The tail's log-sum-exp is what the rows give after the last tail tile. -/
theorem out_tail (ht : t.val = 103) (hinv : InvC m c t.val y0 y2 y3 y4) (q : Fin 4096) :
    lseOf (fun r => tM y0 (iblk m c 3 t) (iblk m c 4 t) (fun r q => y2 (ix2 r q)) r q)
      (fun r => tS y0 (iblk m c 3 t) (iblk m c 4 t) (fun r q => y2 (ix2 r q)) (fun r q => y3 (ix2 r q)) r q) = lseTailC m c q := by
  have hN : t.val < 104 := by omega
  have hm : ∀ r, y2 (ix2 r q) = rowM (eighth (TL (aX m c) (aB m c) (aQ m c) q) r) (60 * (t.val - 12)) := fun r => (hinv.m r q).trans (if_neg (by omega))
  have hs : ∀ r, y3 (ix2 r q) = rowS (eighth (TL (aX m c) (aB m c) (aQ m c) q) r) (60 * (t.val - 12)) := fun r => (hinv.s r q).trans (if_neg (by omega))
  have e : 60 * (t.val - 12 + 1) = 5520 := by omega
  rw [hinv.x]
  refine lse_tail_rows _ _ _ q (fun r => ?_) fun r => ?_
  · rw [← e]; exact tM_step (by omega) (iblk_3 m c t hN) (iblk_4 m c t hN) r q (hm r)
  · rw [← e]; exact tS_step (by omega) (iblk_3 m c t hN) (iblk_4 m c t hN) r q (hm r) (hs r)

/-- The target's score is what the rows sum to after the last tail tile. -/
theorem out_tgt (ht : t.val = 103) (hinv : InvC m c t.val y0 y2 y3 y4) (q : Fin 4096) :
    (∑ r : Fin 8, tT y0 (iblk m c 3 t) (iblk m c 4 t) (iblk m c 5 t) (BitVec.ofNat 32 (grid0.coords t 0).val) (fun r q => y4 (ix2 r q)) r q) = tgtC m c q := by
  have hN : t.val < 104 := by omega
  have h4 : BitVec.ofNat 32 t.val = BitVec.ofNat 32 (t.val - 12 + 12) := congrArg _ (by omega)
  refine Finset.sum_congr rfl fun r _ => ?_
  rw [hinv.x, iblk_5, coord_val, h4, tAt, if_neg (by omega), show 104 - 12 = t.val - 12 + 1 by omega]
  exact tT_step (by omega) (iblk_3 m c t hN) (iblk_4 m c t hN) r q ((hinv.t r q).trans (if_neg (by omega)))
end

end Cert.KernelIdeal.Hand

end
-- ==== Proof.StepA.lean ====
module

public import proofs.«01_k».proof.Proof.State

@[expose] public section

/-! The body at the first point. -/

set_option maxRecDepth 16384

noncomputable section
namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 4000000 in
/-- The body's triple at the first point. -/
theorem stepA (c : Dev nD) (t : Fin cfg0.N) (x8 : Vec Ideal S1x4096 .f32) (ht : t.val = 0) (O : sProp 𝕄) :
    iprop(Pipeline.ΦA spec0 c ∗ O ∗ bodyPre m c t x8) ⊢ wp frame (wpE (defs₀ (F := Ideal)) Variants.none c none) Set.univ (bodyAt0 t) (fun _ => iprop(stateAt m c (t.val + 1) ∗ O ∗ bodyPost m c t x8)) := by
  have hN : t.val < 104 := lt_of_lt_of_eq t.isLt (show cfg0.N = 104 from N_0)
  rw [PhiA0_eq]
  unfold bodyPre bodyPost bodyAt0 stateAt
  iintro ⟨⟨⟨HS0, HS1, HS2, HS3, HS4⟩, Hg⟩, Ho, H0, H1, H2, H3, H4, H5, ⟨%d6, H6⟩, ⟨%d7, H7⟩, H8, ⟨%d9, H9⟩⟩
  iapply ((runA (F := Ideal) c (grid0.coords t) _ _ _ _ _ _ _ _ _ _ _ _ _ _ _ _ _ _ _ _ _ _ _ _ _ _ _ _ _ _ ((hcond0_0 t).mpr (by omega)) ((hcond0_1 t).mpr (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) (iblk m c 4 t) (iblk m c 5 t) x8).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%d6, H6⟩, ⟨%d7, H7⟩, H8, ⟨%d9, H9⟩, ⟨%es0, HS0⟩, ⟨%es1, HS1⟩, ⟨%es2, HS2⟩, ⟨%es3, HS3⟩, ⟨%es4, HS4⟩⟩
  isplitl [HS0 HS1 HS2 HS3 HS4 Hg]
  · iexists _, _, _, _, _
    isplitl [HS0 HS1 HS2 HS3 HS4]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      unfold owns; iexists _; isplitr
      swap; · iexact HS4
      ipureintro; rfl
    isplitl [Hg]; · iexact Hg
    ipureintro
    exact inv_head m c t (by omega) ((runA_X ..).trans (congrArg xdOf (iblk_0 m c t)))
      (fun r q => by rw [mAt, if_pos (by omega), ht]; exact (rowM_zero _).symm)
      (fun r q => by rw [sAt, if_pos (by omega), ht]; exact (rowS_zero _).symm)
      (fun r q => by rw [tAt, if_pos (by omega), ht]; exact (rowT_zero _ _).symm)
      (fun r q => runA_M (hc0 := _) (hc1 := _) (hc2 := _) (hc3 := _) (hc4 := _) ..) (fun r q => runA_S (hc0 := _) (hc1 := _) (hc2 := _) (hc3 := _) (hc4 := _) ..) (fun r q => runA_T (hc0 := _) (hc1 := _) (hc2 := _) (hc3 := _) (hc4 := _) ..)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitl [H6]
    · iexact H6
    ipureintro
    exact fun h => absurd h (by omega)
  isplitl [H7]
  · iexists _
    isplitl [H7]
    · iexact H7
    ipureintro
    exact fun h => absurd h (by omega)
  isplitl [H8]
  · iexists _
    isplitl [H8]
    · iexact H8
    ipureintro
    rw [if_neg (by omega)]
  iexists _
  isplitl [H9]
  · iexact H9
  ipureintro
  exact fun h => absurd h (by omega)

end Cert.KernelIdeal.Hand

end
-- ==== Proof.StepB.lean ====
module

public import proofs.«01_k».proof.Proof.State

@[expose] public section

/-! The body at a head tile that is neither the first nor the last. -/

set_option maxRecDepth 16384

noncomputable section
namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 4000000 in
/-- The body's triple at a head tile that is neither the first nor the last. -/
theorem stepB (c : Dev nD) (t : Fin cfg0.N) (x8 : Vec Ideal S1x4096 .f32) (h1 : 1 ≤ t.val) (h2 : t.val < 11) (O : sProp 𝕄) :
    iprop(stateAt m c t.val ∗ O ∗ bodyPre m c t x8) ⊢ wp frame (wpE (defs₀ (F := Ideal)) Variants.none c none) Set.univ (bodyAt0 t) (fun _ => iprop(stateAt m c (t.val + 1) ∗ O ∗ bodyPost m c t x8)) := by
  have hN : t.val < 104 := lt_of_lt_of_eq t.isLt (show cfg0.N = 104 from N_0)
  unfold bodyPre bodyPost bodyAt0 stateAt
  iintro ⟨⟨%xs0, %xs1, %xs2, %xs3, %xs4, ⟨HS0, HS1, HS2, HS3, HS4⟩, Hg, %hinv⟩, Ho, H0, H1, H2, H3, H4, H5, ⟨%d6, H6⟩, ⟨%d7, H7⟩, H8, ⟨%d9, H9⟩⟩
  iapply ((runB (F := Ideal) c (grid0.coords t) _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) (iblk m c 4 t) (iblk m c 5 t) x8 xs0 xs2 xs3 xs4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexists _; iexact HS1
  isplitl [HS2]; · iexact HS2
  isplitl [HS3]; · iexact HS3
  isplitl [HS4]; · iexact HS4
  iintro ⟨H0, H1, H2, H3, H4, H5, ⟨%d6, H6⟩, ⟨%d7, H7⟩, H8, ⟨%d9, H9⟩, HS0, ⟨%es1, HS1⟩, ⟨%es2, HS2⟩, ⟨%es3, HS3⟩, ⟨%es4, HS4⟩⟩
  isplitl [HS0 HS1 HS2 HS3 HS4 Hg]
  · iexists _, _, _, _, _
    isplitl [HS0 HS1 HS2 HS3 HS4]
    · isplitl [HS0]
      · iexact HS0
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      unfold owns; iexists _; isplitr
      swap; · iexact HS4
      ipureintro; rfl
    isplitl [Hg]; · iexact Hg
    ipureintro
    exact inv_head m c t (by omega) hinv.x hinv.m hinv.s hinv.t (fun r q => runB_M (hc0 := _) (hc1 := _) (hc2 := _) (hc3 := _) (hc4 := _) ..) (fun r q => runB_S (hc0 := _) (hc1 := _) (hc2 := _) (hc3 := _) (hc4 := _) ..) (fun r q => runB_T (hc0 := _) (hc1 := _) (hc2 := _) (hc3 := _) (hc4 := _) ..)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitl [H6]
    · iexact H6
    ipureintro
    exact fun h => absurd h (by omega)
  isplitl [H7]
  · iexists _
    isplitl [H7]
    · iexact H7
    ipureintro
    exact fun h => absurd h (by omega)
  isplitl [H8]
  · iexists _
    isplitl [H8]
    · iexact H8
    ipureintro
    rw [if_neg (by omega)]
  iexists _
  isplitl [H9]
  · iexact H9
  ipureintro
  exact fun h => absurd h (by omega)

end Cert.KernelIdeal.Hand

end
-- ==== Proof.StepC.lean ====
module

public import proofs.«01_k».proof.Proof.State

@[expose] public section

/-! The body at the last head tile. -/

set_option maxRecDepth 16384

noncomputable section
namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 4000000 in
/-- The body's triple at the last head tile. -/
theorem stepC (c : Dev nD) (t : Fin cfg0.N) (x8 : Vec Ideal S1x4096 .f32) (ht : t.val = 11) (O : sProp 𝕄) :
    iprop(stateAt m c t.val ∗ O ∗ bodyPre m c t x8) ⊢ wp frame (wpE (defs₀ (F := Ideal)) Variants.none c none) Set.univ (bodyAt0 t) (fun _ => iprop(stateAt m c (t.val + 1) ∗ O ∗ bodyPost m c t x8)) := by
  have hN : t.val < 104 := lt_of_lt_of_eq t.isLt (show cfg0.N = 104 from N_0)
  unfold bodyPre bodyPost bodyAt0 stateAt
  iintro ⟨⟨%xs0, %xs1, %xs2, %xs3, %xs4, ⟨HS0, HS1, HS2, HS3, HS4⟩, Hg, %hinv⟩, Ho, H0, H1, H2, H3, H4, H5, ⟨%d6, H6⟩, ⟨%d7, H7⟩, H8, ⟨%d9, H9⟩⟩
  iapply ((runC (F := Ideal) c (grid0.coords t) _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) ((hcond0_3 t).mpr (by omega)) (fun h => absurd ((hcond0_4 t).mp h) (by omega)) (iblk m c 0 t) (iblk m c 1 t) (iblk m c 2 t) (iblk m c 3 t) (iblk m c 4 t) (iblk m c 5 t) xs0 xs2 xs3 xs4).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexists _; iexact HS1
  isplitl [HS2]; · iexact HS2
  isplitl [HS3]; · iexact HS3
  isplitl [HS4]; · iexact HS4
  iintro ⟨H0, H1, H2, H3, H4, H5, ⟨%d6, H6⟩, ⟨%d7, H7⟩, ⟨%e8, H8⟩, ⟨%d9, H9⟩, HS0, ⟨%es1, HS1⟩, ⟨%es2, HS2⟩, ⟨%es3, HS3⟩, ⟨%es4, HS4⟩⟩
  isplitl [HS0 HS1 HS2 HS3 HS4 Hg]
  · iexists _, _, _, _, _
    isplitl [HS0 HS1 HS2 HS3 HS4]
    · isplitl [HS0]
      · iexact HS0
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      unfold owns; iexists _; isplitr
      swap; · iexact HS4
      ipureintro; rfl
    isplitl [Hg]; · iexact Hg
    ipureintro
    exact inv_head m c t (by omega) hinv.x hinv.m hinv.s hinv.t (fun r q => runC_M (hc0 := _) (hc1 := _) (hc2 := _) (hc3 := _) (hc4 := _) ..) (fun r q => runC_S (hc0 := _) (hc1 := _) (hc2 := _) (hc3 := _) (hc4 := _) ..) (fun r q => runC_T (hc0 := _) (hc1 := _) (hc2 := _) (hc3 := _) (hc4 := _) ..)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitl [H6]
    · iexact H6
    ipureintro
    exact fun h => absurd h (by omega)
  isplitl [H7]
  · iexists _
    isplitl [H7]
    · iexact H7
    ipureintro
    exact fun h => absurd h (by omega)
  isplitl [H8]
  · iexists _
    isplitl [H8]
    · unfold owns; iexists _; isplitr
      swap; · iexact H8
      ipureintro; rfl
    ipureintro
    rw [if_pos ht]
    exact fun q => (runC_out ..).trans (out_head m c t ht hinv q)
  iexists _
  isplitl [H9]
  · iexact H9
  ipureintro
  exact fun h => absurd h (by omega)

end Cert.KernelIdeal.Hand

end
-- ==== Proof.StepD.lean ====
module

public import proofs.«01_k».proof.Proof.State

@[expose] public section

/-! The body at the first tail tile. -/

set_option maxRecDepth 16384

noncomputable section
namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 4000000 in
/-- The body's triple at the first tail tile. -/
theorem stepD (c : Dev nD) (t : Fin cfg0.N) (x8 : Vec Ideal S1x4096 .f32) (ht : t.val = 12) (O : sProp 𝕄) :
    iprop(stateAt m c t.val ∗ O ∗ bodyPre m c t x8) ⊢ wp frame (wpE (defs₀ (F := Ideal)) Variants.none c none) Set.univ (bodyAt0 t) (fun _ => iprop(stateAt m c (t.val + 1) ∗ O ∗ bodyPost m c t x8)) := by
  have hN : t.val < 104 := lt_of_lt_of_eq t.isLt (show cfg0.N = 104 from N_0)
  unfold bodyPre bodyPost bodyAt0 stateAt
  iintro ⟨⟨%xs0, %xs1, %xs2, %xs3, %xs4, ⟨HS0, HS1, HS2, HS3, HS4⟩, Hg, %hinv⟩, Ho, H0, H1, H2, H3, H4, H5, ⟨%d6, H6⟩, ⟨%d7, H7⟩, H8, ⟨%d9, H9⟩⟩
  iapply ((runD (F := Ideal) c (grid0.coords t) _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) ((hcond0_4 t).mpr (by omega)) (fun h => absurd ((hcond0_5 t).mp h) (by omega)) (iblk m c 0 t) (iblk m c 1 t) (iblk m c 2 t) (iblk m c 3 t) (iblk m c 4 t) (iblk m c 5 t) x8 xs0 xs1 xs4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexact HS1
  isplitl [HS2]; · iexists _; iexact HS2
  isplitl [HS3]; · iexists _; iexact HS3
  isplitl [HS4]; · iexact HS4
  iintro ⟨H0, H1, H2, H3, H4, H5, ⟨%d6, H6⟩, ⟨%d7, H7⟩, H8, ⟨%d9, H9⟩, HS0, HS1, ⟨%es2, HS2⟩, ⟨%es3, HS3⟩, ⟨%es4, HS4⟩⟩
  isplitl [HS0 HS1 HS2 HS3 HS4 Hg]
  · iexists _, _, _, _, _
    isplitl [HS0 HS1 HS2 HS3 HS4]
    · isplitl [HS0]
      · iexact HS0
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      unfold owns; iexists _; isplitr
      swap; · iexact HS4
      ipureintro; rfl
    isplitl [Hg]; · iexact Hg
    ipureintro
    exact inv_tail m c t (by omega) hinv.x rfl (fun r q => by rw [mT0, ht]; exact (rowM_zero _).symm) (fun r q => by rw [sT0, ht]; exact (rowS_zero _).symm) hinv.t (fun r q => runD_M (hc0 := _) (hc1 := _) (hc2 := _) (hc4 := _) (hc5 := _) ..) (fun r q => runD_S (hc0 := _) (hc1 := _) (hc2 := _) (hc4 := _) (hc5 := _) ..) (fun r q => runD_T (hc0 := _) (hc1 := _) (hc2 := _) (hc4 := _) (hc5 := _) ..)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitl [H6]
    · iexact H6
    ipureintro
    exact fun h => absurd h (by omega)
  isplitl [H7]
  · iexists _
    isplitl [H7]
    · iexact H7
    ipureintro
    exact fun h => absurd h (by omega)
  isplitl [H8]
  · iexists _
    isplitl [H8]
    · iexact H8
    ipureintro
    rw [if_neg (by omega)]
  iexists _
  isplitl [H9]
  · iexact H9
  ipureintro
  exact fun h => absurd h (by omega)

end Cert.KernelIdeal.Hand

end
-- ==== Proof.StepE.lean ====
module

public import proofs.«01_k».proof.Proof.State

@[expose] public section

/-! The body at a tail tile that is neither the first nor the last. -/

set_option maxRecDepth 16384

noncomputable section
namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 4000000 in
/-- The body's triple at a tail tile that is neither the first nor the last. -/
theorem stepE (c : Dev nD) (t : Fin cfg0.N) (x8 : Vec Ideal S1x4096 .f32) (h1 : 13 ≤ t.val) (h2 : t.val < 103) (O : sProp 𝕄) :
    iprop(stateAt m c t.val ∗ O ∗ bodyPre m c t x8) ⊢ wp frame (wpE (defs₀ (F := Ideal)) Variants.none c none) Set.univ (bodyAt0 t) (fun _ => iprop(stateAt m c (t.val + 1) ∗ O ∗ bodyPost m c t x8)) := by
  have hN : t.val < 104 := lt_of_lt_of_eq t.isLt (show cfg0.N = 104 from N_0)
  unfold bodyPre bodyPost bodyAt0 stateAt
  iintro ⟨⟨%xs0, %xs1, %xs2, %xs3, %xs4, ⟨HS0, HS1, HS2, HS3, HS4⟩, Hg, %hinv⟩, Ho, H0, H1, H2, H3, H4, H5, ⟨%d6, H6⟩, ⟨%d7, H7⟩, H8, ⟨%d9, H9⟩⟩
  iapply ((runE (F := Ideal) c (grid0.coords t) _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_4 t).mpr (by omega)) (fun h => absurd ((hcond0_5 t).mp h) (by omega)) (iblk m c 0 t) (iblk m c 1 t) (iblk m c 2 t) (iblk m c 3 t) (iblk m c 4 t) (iblk m c 5 t) x8 xs0 xs1 xs2 xs3 xs4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%d6, H6⟩, ⟨%d7, H7⟩, H8, ⟨%d9, H9⟩, HS0, HS1, ⟨%es2, HS2⟩, ⟨%es3, HS3⟩, ⟨%es4, HS4⟩⟩
  isplitl [HS0 HS1 HS2 HS3 HS4 Hg]
  · iexists _, _, _, _, _
    isplitl [HS0 HS1 HS2 HS3 HS4]
    · isplitl [HS0]
      · iexact HS0
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      unfold owns; iexists _; isplitr
      swap; · iexact HS4
      ipureintro; rfl
    isplitl [Hg]; · iexact Hg
    ipureintro
    exact inv_tail m c t (by omega) hinv.x rfl (fun r q => (hinv.m r q).trans (if_neg (by omega))) (fun r q => (hinv.s r q).trans (if_neg (by omega))) hinv.t (fun r q => runE_M (hc0 := _) (hc1 := _) (hc2 := _) (hc4 := _) (hc5 := _) ..) (fun r q => runE_S (hc0 := _) (hc1 := _) (hc2 := _) (hc4 := _) (hc5 := _) ..) (fun r q => runE_T (hc0 := _) (hc1 := _) (hc2 := _) (hc4 := _) (hc5 := _) ..)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitl [H6]
    · iexact H6
    ipureintro
    exact fun h => absurd h (by omega)
  isplitl [H7]
  · iexists _
    isplitl [H7]
    · iexact H7
    ipureintro
    exact fun h => absurd h (by omega)
  isplitl [H8]
  · iexists _
    isplitl [H8]
    · iexact H8
    ipureintro
    rw [if_neg (by omega)]
  iexists _
  isplitl [H9]
  · iexact H9
  ipureintro
  exact fun h => absurd h (by omega)

end Cert.KernelIdeal.Hand

end
-- ==== Proof.StepF.lean ====
module

public import proofs.«01_k».proof.Proof.State

@[expose] public section

/-! The body at the last point. -/

set_option maxRecDepth 16384

noncomputable section
namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 4000000 in
/-- The body's triple at the last point. -/
theorem stepF (c : Dev nD) (t : Fin cfg0.N) (x8 : Vec Ideal S1x4096 .f32) (ht : t.val = 103) (h8 : ∀ q, x8 (ix2 0 q) = lseHeadC m c q) (O : sProp 𝕄) :
    iprop(stateAt m c t.val ∗ O ∗ bodyPre m c t x8) ⊢ wp frame (wpE (defs₀ (F := Ideal)) Variants.none c none) Set.univ (bodyAt0 t) (fun _ => iprop(stateAt m c (t.val + 1) ∗ O ∗ bodyPost m c t x8)) := by
  have hN : t.val < 104 := lt_of_lt_of_eq t.isLt (show cfg0.N = 104 from N_0)
  unfold bodyPre bodyPost bodyAt0 stateAt
  iintro ⟨⟨%xs0, %xs1, %xs2, %xs3, %xs4, ⟨HS0, HS1, HS2, HS3, HS4⟩, Hg, %hinv⟩, Ho, H0, H1, H2, H3, H4, H5, ⟨%d6, H6⟩, ⟨%d7, H7⟩, H8, ⟨%d9, H9⟩⟩
  iapply ((runF (F := Ideal) c (grid0.coords t) _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_4 t).mpr (by omega)) ((hcond0_5 t).mpr (by omega)) (iblk m c 0 t) (iblk m c 1 t) (iblk m c 2 t) (iblk m c 3 t) (iblk m c 4 t) (iblk m c 5 t) x8 xs0 xs1 xs2 xs3 xs4).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%e7, H7⟩, H8, ⟨%e9, H9⟩, HS0, HS1, ⟨%es2, HS2⟩, ⟨%es3, HS3⟩, ⟨%es4, HS4⟩⟩
  isplitl [HS0 HS1 HS2 HS3 HS4 Hg]
  · iexists _, _, _, _, _
    isplitl [HS0 HS1 HS2 HS3 HS4]
    · isplitl [HS0]
      · iexact HS0
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      unfold owns; iexists _; isplitr
      swap; · iexact HS4
      ipureintro; rfl
    isplitl [Hg]; · iexact Hg
    ipureintro
    exact inv_tail m c t (by omega) hinv.x rfl (fun r q => (hinv.m r q).trans (if_neg (by omega))) (fun r q => (hinv.s r q).trans (if_neg (by omega))) hinv.t (fun r q => runF_M (hc0 := _) (hc1 := _) (hc2 := _) (hc4 := _) (hc5 := _) ..) (fun r q => runF_S (hc0 := _) (hc1 := _) (hc2 := _) (hc4 := _) (hc5 := _) ..) (fun r q => runF_T (hc0 := _) (hc1 := _) (hc2 := _) (hc4 := _) (hc5 := _) ..)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitl [H6]
    · unfold owns; iexists _; isplitr
      swap; · iexact H6
      ipureintro; rfl
    ipureintro
    exact fun _ q => (runF_logz ..).trans (congrArg₂ addLse (h8 q) (out_tail m c t ht hinv q))
  isplitl [H7]
  · iexists _
    isplitl [H7]
    · unfold owns; iexists _; isplitr
      swap; · iexact H7
      ipureintro; rfl
    ipureintro
    exact fun _ q => (runF_logp ..).trans (congrArg₂ (· - ·) (out_tgt m c t ht hinv q) (congrArg₂ addLse (h8 q) (out_tail m c t ht hinv q)))
  isplitl [H8]
  · iexists _
    isplitl [H8]
    · iexact H8
    ipureintro
    rw [if_neg (by omega)]
  iexists _
  isplitl [H9]
  · unfold owns; iexists _; isplitr
    swap; · iexact H9
    ipureintro; rfl
  ipureintro
  exact fun _ q => (runF_tail ..).trans (out_tail m c t ht hinv q)

end Cert.KernelIdeal.Hand

end
-- ==== Proof.RunIdeal.lean ====
module

public import proofs.«01_k».proof.Proof.StepA
public import proofs.«01_k».proof.Proof.StepB
public import proofs.«01_k».proof.Proof.StepC
public import proofs.«01_k».proof.Proof.StepD
public import proofs.«01_k».proof.Proof.StepE
public import proofs.«01_k».proof.Proof.StepF
public import Idealize.ShloMosaic.Lib.Pipeline.ArrRel
public import Idealize.ShloMosaic.Lib.Claim

@[expose] public section

/-! The idealized kernel's run: the proof data, the body at every point, the results it ends with, its frame. -/

set_option maxRecDepth 16384

noncomputable section
namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the body may leave in a window's buffer: an input's as found, an output's at its value where it is stored. -/
def leftAt (c : Dev nD) : (w : Fin cfg0.W) → (t : Fin cfg0.N) → (Y X : (cfg0.win w).block.Idx → Elt Ideal (cfg0.win w).elt) → Prop
  | ⟨0, _⟩, _ => fun Y X => X = Y
  | ⟨1, _⟩, _ => fun Y X => X = Y
  | ⟨2, _⟩, _ => fun Y X => X = Y
  | ⟨3, _⟩, _ => fun Y X => X = Y
  | ⟨4, _⟩, _ => fun Y X => X = Y
  | ⟨5, _⟩, _ => fun Y X => X = Y
  | ⟨6, _⟩, t => fun _ X => t.val = 103 → ∀ q, (X : Vec Ideal S1x4096 .f32) (ix2 0 q) = addLse (lseHeadC m c q) (lseTailC m c q)
  | ⟨7, _⟩, t => fun _ X => t.val = 103 → ∀ q, (X : Vec Ideal S1x4096 .f32) (ix2 0 q) = tgtC m c q - addLse (lseHeadC m c q) (lseTailC m c q)
  | ⟨8, _⟩, t => fun Y X => if t.val = 11 then ∀ q, (X : Vec Ideal S1x4096 .f32) (ix2 0 q) = lseHeadC m c q else X = Y
  | ⟨9, _⟩, t => fun _ X => t.val = 103 → ∀ q, (X : Vec Ideal S1x4096 .f32) (ix2 0 q) = lseTailC m c q

/-- The scratch between points: at anything before the first, then at the invariant. -/
def PhiS (c : Dev nD) (n : ℕ) : sProp 𝕄 := if n = 0 then Pipeline.ΦA spec0 c else stateAt m c n

/-- The proof data. -/
def rdat (c : Dev nD) : Pipeline.RDat τ (Elt Ideal) Unit ℕ (UR sig nD τ) ℕ cfg0 c where
  A w := V m c (Pipeline.arrRef spec0 w)
  after := leftAt m c
  Φ t := PhiS m c t.val
  q _ := fullShare
  owed _ := 0

/-- The arrays at the region's entry. -/
theorem A_eq (c : Dev nD) (w : Fin cfg0.W) : (rdat m c).A w = V m c (Pipeline.arrRef spec0 w) := by
  dsimp only [rdat]

/-- An input's buffer holds its block. -/
theorem finds0 (c : Dev nD) (t : Fin cfg0.N) (Y) (h : (rdat m c).Finds 0 t Y) : Y = iblk m c 0 t := by
  obtain ⟨d, e⟩ := Pipeline.RDat.finds_in_eq_fetched (rdat m c) 0 rfl (fun _ _ _ => rfl) (fun _ _ _ h => h) t Y h
  rw [e]; unfold Pipeline.RDat.fetched Pipeline.RDat.blockOf iblk; rw [A_eq]; rfl
/-- The same for input 1. -/
theorem finds1 (c : Dev nD) (t : Fin cfg0.N) (Y) (h : (rdat m c).Finds 1 t Y) : Y = iblk m c 1 t := by
  obtain ⟨d, e⟩ := Pipeline.RDat.finds_in_eq_fetched (rdat m c) 1 rfl (fun _ _ _ => rfl) (fun _ _ _ h => h) t Y h
  rw [e]; unfold Pipeline.RDat.fetched Pipeline.RDat.blockOf iblk; rw [A_eq]; rfl
/-- The same for input 2. -/
theorem finds2 (c : Dev nD) (t : Fin cfg0.N) (Y) (h : (rdat m c).Finds 2 t Y) : Y = iblk m c 2 t := by
  obtain ⟨d, e⟩ := Pipeline.RDat.finds_in_eq_fetched (rdat m c) 2 rfl (fun _ _ _ => rfl) (fun _ _ _ h => h) t Y h
  rw [e]; unfold Pipeline.RDat.fetched Pipeline.RDat.blockOf iblk; rw [A_eq]; rfl
/-- The same for input 3. -/
theorem finds3 (c : Dev nD) (t : Fin cfg0.N) (Y) (h : (rdat m c).Finds 3 t Y) : Y = iblk m c 3 t := by
  obtain ⟨d, e⟩ := Pipeline.RDat.finds_in_eq_fetched (rdat m c) 3 rfl (fun _ _ _ => rfl) (fun _ _ _ h => h) t Y h
  rw [e]; unfold Pipeline.RDat.fetched Pipeline.RDat.blockOf iblk; rw [A_eq]; rfl
/-- The same for input 4. -/
theorem finds4 (c : Dev nD) (t : Fin cfg0.N) (Y) (h : (rdat m c).Finds 4 t Y) : Y = iblk m c 4 t := by
  obtain ⟨d, e⟩ := Pipeline.RDat.finds_in_eq_fetched (rdat m c) 4 rfl (fun _ _ _ => rfl) (fun _ _ _ h => h) t Y h
  rw [e]; unfold Pipeline.RDat.fetched Pipeline.RDat.blockOf iblk; rw [A_eq]; rfl
/-- The same for input 5. -/
theorem finds5 (c : Dev nD) (t : Fin cfg0.N) (Y) (h : (rdat m c).Finds 5 t Y) : Y = iblk m c 5 t := by
  obtain ⟨d, e⟩ := Pipeline.RDat.finds_in_eq_fetched (rdat m c) 5 rfl (fun _ _ _ => rfl) (fun _ _ _ h => h) t Y h
  rw [e]; unfold Pipeline.RDat.fetched Pipeline.RDat.blockOf iblk; rw [A_eq]; rfl

/-- Window 8 is never fetched, and written back at the last point only. -/
theorem nofetch8 : ∀ t : Fin cfg0.N, (cfg0.win 8).fetch t = false := by decide +kernel
/-- Before the last point window 8 is not written back. -/
theorem noflush8 : ∀ t : Fin cfg0.N, t.val < 103 → (cfg0.win 8).flush t = false := by decide +kernel

/-- From the last head tile on, window 8's buffer holds the head's log-sum-exp. -/
theorem finds8 (c : Dev nD) (n : ℕ) : ∀ (t : Fin cfg0.N), t.val = 12 + n → ∀ Y : Vec Ideal S1x4096 .f32, (rdat m c).Finds 8 t Y → ∀ q, Y (ix2 0 q) = lseHeadC m c q := by
  have hstep : ∀ t : Fin cfg0.N, 12 ≤ t.val → ∀ Y : Vec Ideal S1x4096 .f32, (rdat m c).Finds 8 t Y →
      ∃ Y', (rdat m c).Finds 8 ⟨t.val - 1, Nat.lt_of_le_of_lt (Nat.sub_le _ _) t.isLt⟩ Y' ∧ leftAt m c 8 ⟨t.val - 1, Nat.lt_of_le_of_lt (Nat.sub_le _ _) t.isLt⟩ Y' Y := by
    intro t ht Y hY
    have hN : t.val < 104 := lt_of_lt_of_eq t.isLt (show cfg0.N = 104 from N_0)
    rcases ((rdat m c).finds_of_pos (nofetch8 t) (by omega) Y).mp hY with h | h
    · rw [noflush8 _ (by show t.val - 1 < 103; omega)] at h; exact absurd h Bool.false_ne_true
    · exact h
  induction n with
  | zero =>
    intro t ht Y hY
    obtain ⟨Y', -, h⟩ := hstep t (by omega) Y hY
    have h : if t.val - 1 = 11 then ∀ q, Y (ix2 0 q) = lseHeadC m c q else Y = Y' := h
    rwa [if_pos (by omega)] at h
  | succ n ih =>
    intro t ht Y hY
    obtain ⟨Y', h', h⟩ := hstep t (by omega) Y hY
    have h : if t.val - 1 = 11 then ∀ q, Y (ix2 0 q) = lseHeadC m c q else Y = Y' := h
    rw [if_neg (by omega)] at h
    rw [h]
    exact ih _ (by show t.val - 1 = 12 + n; omega) Y' h'

/-- The body at any point. -/
theorem step (c : Dev nD) (t : Fin cfg0.N) (x8 : Vec Ideal S1x4096 .f32) (h8 : t.val = 103 → ∀ q, x8 (ix2 0 q) = lseHeadC m c q) (O : sProp 𝕄) :
    iprop(PhiS m c t.val ∗ O ∗ bodyPre m c t x8) ⊢ wp frame (wpE (defs₀ (F := Ideal)) Variants.none c none) Set.univ (bodyAt0 t) (fun _ => iprop(PhiS m c (t.val + 1) ∗ O ∗ bodyPost m c t x8)) := by
  have hN : t.val < 104 := lt_of_lt_of_eq t.isLt (show cfg0.N = 104 from N_0)
  rw [show PhiS m c (t.val + 1) = stateAt m c (t.val + 1) from if_neg (by omega)]
  by_cases h0 : t.val = 0
  · rw [show PhiS m c t.val = Pipeline.ΦA spec0 c from if_pos h0]; exact stepA m c t x8 h0 O
  rw [show PhiS m c t.val = stateAt m c t.val from if_neg h0]
  by_cases h1 : t.val < 11
  · exact stepB m c t x8 (by omega) h1 O
  by_cases h2 : t.val = 11
  · exact stepC m c t x8 h2 O
  by_cases h3 : t.val = 12
  · exact stepD m c t x8 h3 O
  by_cases h4 : t.val < 103
  · exact stepE m c t x8 (by omega) h4 O
  · exact stepF m c t x8 (by omega) (h8 (by omega)) O

/-- The body table's row at a point's slots is the body. -/
theorem defs₀_row (t : Fin cfg0.N) : defs₀ (F := Ideal) .tc cfg0.body (cfg0.bodyArgs t (cfg0.slots t)) = bodyAt0 t := by
  unfold defs₀; rw [Defs.onTc_tc]

set_option maxHeartbeats 4000000 in
/-- The library's body obligation. -/
theorem body_obligation (c : Dev nD) : (rdat m c).BodyObligation (defs₀ (F := Ideal)) Variants.none () Set.univ := fun t Y hY => by
  rw [bigSep_W0, bigSep_W0, defs₀_row]
  have h0 := finds0 m c t _ (hY 0)
  have h1 := finds1 m c t _ (hY 1)
  have h2 := finds2 m c t _ (hY 2)
  have h3 := finds3 m c t _ (hY 3)
  have h4 := finds4 m c t _ (hY 4)
  have h5 := finds5 m c t _ (hY 5)
  have h8 : t.val = 103 → ∀ q, (Y 8 : Vec Ideal S1x4096 .f32) (ix2 0 q) = lseHeadC m c q := fun h => finds8 m c 91 t h (Y 8) (hY 8)
  rw [h0, h1, h2, h3, h4, h5, show (rdat m c).Φ t.castSucc = PhiS m c t.val from rfl, show (rdat m c).Φ t.succ = PhiS m c (t.val + 1) from rfl]
  refine triple_restated (step m c t (Y 8) h8 ((rdat m c).owesAt () t.castSucc)) rfl ?_ fun _ => ?_
  · unfold bodyPre
    iintro ⟨HP, Ho, H0, H1, H2, H3, H4, H5, H6, H7, H8, H9⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iexists _; iexact H9
  · unfold bodyPost
    iintro ⟨HP, Ho, H0, H1, H2, H3, H4, H5, ⟨%d6, H6, %p6⟩, ⟨%d7, H7, %p7⟩, ⟨%d8, H8, %p8⟩, ⟨%d9, H9, %p9⟩⟩
    isplitl [HP]; · iexact HP
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; exact p6
    isplitl [H7]
    · iexists _; isplitr; swap; · iexact H7
      ipureintro; exact p7
    isplitl [H8]
    · iexists _; isplitr; swap; · iexact H8
      ipureintro; exact p8
    iexists _; isplitr; swap; · iexact H9
    ipureintro; exact p9

/-- What the launch hands the region is the invariant before the first point. -/
theorem hin (c : Dev nD) : Pipeline.ΦA spec0 c ⊢ (rdat m c).Φ 0 := by
  rw [show (rdat m c).Φ 0 = PhiS m c 0 from rfl, show PhiS m c 0 = Pipeline.ΦA spec0 c from if_pos rfl]

/-- After the last point the invariant gives it back. -/
theorem hout (c : Dev nD) : (rdat m c).Φ (Fin.last cfg0.N) ⊢ Pipeline.ΦA spec0 c := by
  rw [show (rdat m c).Φ (Fin.last cfg0.N) = PhiS m c cfg0.N from rfl, show PhiS m c cfg0.N = stateAt m c cfg0.N from if_neg (by have : cfg0.N = 104 := N_0; omega), PhiA0_eq]
  unfold stateAt
  iintro ⟨%xs0, %xs1, %xs2, %xs3, %xs4, ⟨HS0, HS1, HS2, HS3, HS4⟩, Hg, %hinv⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

-- the launch theorem's implicit arguments are found by unifying its conclusion with this one
set_option backward.isDefEq.respectTransparency.types false in
/-- The run of the whole program: the arrays as the proof data say, every semaphore at zero. -/
theorem run_main : θ_run defs (onTc (τ := τ) (main (F := Ideal))) (s₀ m ρ) (fun r => Pipeline.RDat.FramePost (cfgs 0) (rdat m) (V m) r ∧ r.2.sem = fun _ => 0) :=
  Pipeline.RDat.θ_run_frame_track cfgs (0 : Fin 1) launch0 defs₀ Variants.none (rdat m) m ρ main
    (hbody := fun c => body_obligation m c) (hshare := fun c w => by unfold Pipeline.RDat.share; split <;> rfl)
    (howed := fun _ _ => rfl) (V := V m) (hmain := hmain m Variants.none) (hA := A_eq m) (hin := hin m) (hout := hout m)
    (Q' := fun r => Pipeline.RDat.FramePost (cfgs 0) (rdat m) (V m) r ∧ r.2.sem = fun _ => 0)

/-- The last point, where the results are written back. -/
def tLast : Fin cfg0.N := ⟨103, by rw [show cfg0.N = 104 from N_0]; omega⟩

/-- Each result is one write-back of its whole array, at the last point. -/
theorem whole6 : (cfg0.win 6).WholeAt tLast := by decide +kernel
/-- The same for window 7. -/
theorem whole7 : (cfg0.win 7).WholeAt tLast := by decide +kernel
/-- The same for window 8. -/
theorem whole8 : (cfg0.win 8).WholeAt tLast := by decide +kernel
/-- The same for window 9. -/
theorem whole9 : (cfg0.win 9).WholeAt tLast := by decide +kernel

/-- A row of results from its values. -/
def rowOf (f : Fin 4096 → EReal) : Vec Ideal S1x4096 .f32 := fun j => f (j 1)

/-- The log-sum-exp the run ends with. -/
theorem end6 {c : Dev nD} {G : Buf (Elt Ideal) ((c : Thread nD τ).loc main_v3_0)} (h : (rdat m c).ArrAt 6 cfg0.N G) :
    G = rowOf fun q => addLse (lseHeadC m c q) (lseTailC m c q) := by
  obtain ⟨X, ⟨Y, -, hX⟩, hG⟩ := Pipeline.RDat.ArrAt.emb_eq_of_wholeAt h whole6
  have hX : ∀ q, (X : Vec Ideal S1x4096 .f32) (ix2 0 q) = addLse (lseHeadC m c q) (lseTailC m c q) := hX rfl
  funext j
  have hj : (fun a => ⟨j a, whole6.lt_size j a⟩ : S1x4096.Idx) = ix2 0 (j 1) := by
    funext a
    match a with
    | ⟨0, _⟩ => exact Subsingleton.elim (α := Fin 1) _ _
    | ⟨1, _⟩ => rfl
  exact (hG j).trans ((congrArg (X : Vec Ideal S1x4096 .f32) hj).trans (hX (j 1)))

/-- The target's log-probability the run ends with. -/
theorem end7 {c : Dev nD} {G : Buf (Elt Ideal) ((c : Thread nD τ).loc main_v3_1)} (h : (rdat m c).ArrAt 7 cfg0.N G) :
    G = rowOf fun q => tgtC m c q - addLse (lseHeadC m c q) (lseTailC m c q) := by
  obtain ⟨X, ⟨Y, -, hX⟩, hG⟩ := Pipeline.RDat.ArrAt.emb_eq_of_wholeAt h whole7
  have hX : ∀ q, (X : Vec Ideal S1x4096 .f32) (ix2 0 q) = tgtC m c q - addLse (lseHeadC m c q) (lseTailC m c q) := hX rfl
  funext j
  have hj : (fun a => ⟨j a, whole7.lt_size j a⟩ : S1x4096.Idx) = ix2 0 (j 1) := by
    funext a
    match a with
    | ⟨0, _⟩ => exact Subsingleton.elim (α := Fin 1) _ _
    | ⟨1, _⟩ => rfl
  exact (hG j).trans ((congrArg (X : Vec Ideal S1x4096 .f32) hj).trans (hX (j 1)))

/-- The head's log-sum-exp the run ends with. -/
theorem end8 {c : Dev nD} {G : Buf (Elt Ideal) ((c : Thread nD τ).loc main_v3_2)} (h : (rdat m c).ArrAt 8 cfg0.N G) :
    G = rowOf fun q => lseHeadC m c q := by
  obtain ⟨X, ⟨Y, hY, hX⟩, hG⟩ := Pipeline.RDat.ArrAt.emb_eq_of_wholeAt h whole8
  have hX : ∀ q, (X : Vec Ideal S1x4096 .f32) (ix2 0 q) = lseHeadC m c q := by
    have h : if tLast.val = 11 then ∀ q, (X : Vec Ideal S1x4096 .f32) (ix2 0 q) = lseHeadC m c q else X = Y := hX
    rw [if_neg (by decide)] at h
    rw [h]
    exact finds8 m c 91 tLast rfl Y hY
  funext j
  have hj : (fun a => ⟨j a, whole8.lt_size j a⟩ : S1x4096.Idx) = ix2 0 (j 1) := by
    funext a
    match a with
    | ⟨0, _⟩ => exact Subsingleton.elim (α := Fin 1) _ _
    | ⟨1, _⟩ => rfl
  exact (hG j).trans ((congrArg (X : Vec Ideal S1x4096 .f32) hj).trans (hX (j 1)))

/-- The tail's log-sum-exp the run ends with. -/
theorem end9 {c : Dev nD} {G : Buf (Elt Ideal) ((c : Thread nD τ).loc main_v3_3)} (h : (rdat m c).ArrAt 9 cfg0.N G) :
    G = rowOf fun q => lseTailC m c q := by
  obtain ⟨X, ⟨Y, -, hX⟩, hG⟩ := Pipeline.RDat.ArrAt.emb_eq_of_wholeAt h whole9
  have hX : ∀ q, (X : Vec Ideal S1x4096 .f32) (ix2 0 q) = lseTailC m c q := hX rfl
  funext j
  have hj : (fun a => ⟨j a, whole9.lt_size j a⟩ : S1x4096.Idx) = ix2 0 (j 1) := by
    funext a
    match a with
    | ⟨0, _⟩ => exact Subsingleton.elim (α := Fin 1) _ _
    | ⟨1, _⟩ => rfl
  exact (hG j).trans ((congrArg (X : Vec Ideal S1x4096 .f32) hj).trans (hX (j 1)))

/-- THE FRAME: the arguments end unchanged, every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (rdat m) (A_eq m) ((θ_run defs _ _).mono (fun _ h => h.1) (run_main m ρ))) ((θ_run defs _ _).mono (fun _ h => h.2) (run_main m ρ))

/-- THE RESULTS: what the four result arrays hold at the end. -/
theorem results : θ_run defs (onTc (τ := τ) (main (F := Ideal))) ⟨m, fun _ => 0, ρ⟩ (fun r => ∀ c : Dev nD,
      r.2.mem ((c.tc : Thread nD τ).loc main_v3_0) = rowOf (fun q => addLse (lseHeadC m c q) (lseTailC m c q))
      ∧ r.2.mem ((c.tc : Thread nD τ).loc main_v3_1) = rowOf (fun q => tgtC m c q - addLse (lseHeadC m c q) (lseTailC m c q))
      ∧ r.2.mem ((c.tc : Thread nD τ).loc main_v3_2) = rowOf (lseHeadC m c)
      ∧ r.2.mem ((c.tc : Thread nD τ).loc main_v3_3) = rowOf (lseTailC m c)) :=
  (θ_run defs _ _).mono (fun r h c => ⟨end6 m ((h.1 c).1 6), end7 m ((h.1 c).1 7), end8 m ((h.1 c).1 8), end9 m ((h.1 c).1 9)⟩) (run_main m ρ)

end Cert.KernelIdeal.Hand

end
-- ==== Proof.RefLogits.lean ====
module

public import proofs.«01_k».proof.Proof.Gen.ReferenceIdeal.Read
public import proofs.«01_k».proof.Proof.Inv

@[expose] public section

/-! The reference's scores are the kernel's. -/

set_option maxRecDepth 16384

noncomputable section
namespace Cert.ReferenceIdeal.Hand

open Cert.ReferenceIdeal.Gen Cert.ReferenceIdeal.Read Idealize.ShloMosaic
open Cert.KernelIdeal.Hand (HL TL tailWt nibLo nibHi signed4 bits8 xPerm)

/-- Token `(b, s)` counted along both axes. -/
def tok (b : Fin 16) (s : Fin 256) : Fin 4096 := ⟨b.val * 256 + s.val, by omega⟩

variable {x0 : (⟨S16x256x1024, .bf16⟩ : BufTy).Contents (Elt Ideal)} {x2 : (⟨S6144, .f32⟩ : BufTy).Contents (Elt Ideal)}
variable {x3 : (⟨S44160x512, .i8⟩ : BufTy).Contents (Elt Ideal)} {x4 : (⟨S44160x8, .bf16⟩ : BufTy).Contents (Elt Ideal)}
variable {r0 : (⟨S6144x1024, .bf16⟩ : BufTy).Contents (Elt Ideal)}
variable {X : Vec Ideal Cert.KernelIdeal.S4096x1024 .bf16} {S : Vec Ideal Cert.KernelIdeal.S6144x1 .f32}

/-- The reference's head score of row `v` for token `(b, s)`. -/
theorem head_score (hX : ∀ b s d, X (ix2 (tok b s) d) = x0 (ix3 b s d)) (hS : ∀ v : Fin 6144, S (ix2 v 0) = x2 (ix1 v))
    (b : Fin 16) (s : Fin 256) (v : Fin 6144) :
    val_main_v4 (F := Ideal) x0 x2 r0 (ix3 b s v) = HL X r0 S (tok b s) v := by
  rw [val_main_v4_apply, val_main_v3_apply, val_main_v2_apply, val_main_v1_apply, HL, dif_pos v.isLt]
  have e2 : idx_main_v2 (idx_main_v3 (ix3 b s v)) = ix1 v := funext fun a => match a with | ⟨0, _⟩ => rfl
  rw [e2, hS]
  refine congrArg (· * x2 (ix1 v)) (Finset.sum_congr rfl fun d _ => ?_)
  have el : lidx_main_v1 (ix3 b s v) d = ix3 b s d := funext fun a => match a with | ⟨0, _⟩ => rfl | ⟨1, _⟩ => rfl | ⟨2, _⟩ => rfl
  have er : ridx_main_v1 (ix3 b s v) d = ix2 v d := funext fun a => match a with | ⟨0, _⟩ => rfl | ⟨1, _⟩ => rfl
  rw [el, er, hX, mul_comm]

/-- The reference's reading of a byte's low four bits. -/
theorem low_nibble (b : BitVec 8) :
    (FloatOps.sitofp .bf16 (Scalar.select (IntOp.cmpi .sge (IntOp.andi (BitVec.setWidth 32 b) 15#32) 8#32)
      (IntOp.subi (IntOp.andi (BitVec.setWidth 32 b) 15#32) 16#32) (IntOp.andi (BitVec.setWidth 32 b) 15#32)) : Ideal .bf16) = nibLo b := by
  have h : ∀ n : Fin 256, (Scalar.select (IntOp.cmpi .sge (IntOp.andi (BitVec.setWidth 32 (BitVec.ofNat 8 n)) 15#32) 8#32)
      (IntOp.subi (IntOp.andi (BitVec.setWidth 32 (BitVec.ofNat 8 n)) 15#32) 16#32) (IntOp.andi (BitVec.setWidth 32 (BitVec.ofNat 8 n)) 15#32)).toInt
      = signed4 (BitVec.ofNat 8 n).toNat := by decide +kernel
  obtain ⟨n, rfl⟩ := bits8 b
  exact congrArg (fun z : ℤ => ((z : ℝ) : EReal)) (h n)

/-- The reference's reading of a byte's high four bits. -/
theorem high_nibble (b : BitVec 8) :
    (FloatOps.sitofp .bf16 (Scalar.select (IntOp.cmpi .sge (IntOp.shrsi ArithUnit.host (BitVec.setWidth 32 b) 4#32) 8#32)
      (IntOp.subi (IntOp.shrsi ArithUnit.host (BitVec.setWidth 32 b) 4#32) 16#32) (IntOp.shrsi ArithUnit.host (BitVec.setWidth 32 b) 4#32)) : Ideal .bf16) = nibHi b := by
  have h : ∀ n : Fin 256, (Scalar.select (IntOp.cmpi .sge (IntOp.shrsi ArithUnit.host (BitVec.setWidth 32 (BitVec.ofNat 8 n)) 4#32) 8#32)
      (IntOp.subi (IntOp.shrsi ArithUnit.host (BitVec.setWidth 32 (BitVec.ofNat 8 n)) 4#32) 16#32) (IntOp.shrsi ArithUnit.host (BitVec.setWidth 32 (BitVec.ofNat 8 n)) 4#32)).toInt
      = signed4 ((BitVec.ofNat 8 n).toNat / 16) := by decide +kernel
  obtain ⟨n, rfl⟩ := bits8 b
  exact congrArg (fun z : ℤ => ((z : ℝ) : EReal)) (h n)

/-- The reference's low tail weights. -/
theorem low_weight (v : Fin 44160) (d : Fin 512) :
    val_main_v25 (F := Ideal) x3 x4 (ix2 v d) = nibLo (x3 (ix2 v d)) * x4 (ix2 v ⟨d.val / 64, by omega⟩) := by
  rw [val_main_v25_apply, val_main_v24_apply, val_main_v23_apply, val_main_v22_apply, val_main_v21_apply]
  have e1 : idx_main_v21 (idx_main_v25 (ix2 v d)) = ix2 v d := funext fun a => match a with
    | ⟨0, _⟩ => Fin.ext (show ((((v.val * 512 + d.val) / 512) * 8 + (v.val * 512 + d.val) / 64 % 8) * 64 + (v.val * 512 + d.val) % 64) / 512 = v.val by omega)
    | ⟨1, _⟩ => Fin.ext (show ((((v.val * 512 + d.val) / 512) * 8 + (v.val * 512 + d.val) / 64 % 8) * 64 + (v.val * 512 + d.val) % 64) % 512 = d.val by omega)
  have e2 : idx_main_v22 (idx_main_v23 (idx_main_v25 (ix2 v d))) = ix2 v ⟨d.val / 64, by omega⟩ := funext fun a => match a with
    | ⟨0, _⟩ => Fin.ext (show (v.val * 512 + d.val) / 512 = v.val by omega)
    | ⟨1, _⟩ => Fin.ext (show (v.val * 512 + d.val) / 64 % 8 = d.val / 64 by omega)
  rw [e1, e2]
  exact congrArg (· * _) (low_nibble _)

/-- The reference's high tail weights. -/
theorem high_weight (v : Fin 44160) (d : Fin 512) :
    val_main_v31 (F := Ideal) x3 x4 (ix2 v d) = nibHi (x3 (ix2 v d)) * x4 (ix2 v ⟨d.val / 64, by omega⟩) := by
  rw [val_main_v31_apply, val_main_v30_apply, val_main_v29_apply, val_main_v28_apply, val_main_v27_apply]
  have e1 : idx_main_v27 (idx_main_v31 (ix2 v d)) = ix2 v d := funext fun a => match a with
    | ⟨0, _⟩ => Fin.ext (show ((((v.val * 512 + d.val) / 512) * 8 + (v.val * 512 + d.val) / 64 % 8) * 64 + (v.val * 512 + d.val) % 64) / 512 = v.val by omega)
    | ⟨1, _⟩ => Fin.ext (show ((((v.val * 512 + d.val) / 512) * 8 + (v.val * 512 + d.val) / 64 % 8) * 64 + (v.val * 512 + d.val) % 64) % 512 = d.val by omega)
  have e2 : idx_main_v28 (idx_main_v29 (idx_main_v31 (ix2 v d))) = ix2 v ⟨d.val / 64, by omega⟩ := funext fun a => match a with
    | ⟨0, _⟩ => Fin.ext (show (v.val * 512 + d.val) / 512 = v.val by omega)
    | ⟨1, _⟩ => Fin.ext (show (v.val * 512 + d.val) / 64 % 8 = d.val / 64 by omega)
  rw [e1, e2]
  exact congrArg (· * _) (high_nibble _)

/-- The tokens' even channels. -/
theorem even_channel (b : Fin 16) (s : Fin 256) (d : Fin 512) :
    val_main_v32 (F := Ideal) x0 (ix3 b s d) = x0 (ix3 b s ⟨2 * d.val, by omega⟩) := by
  unfold val_main_v32
  refine congrArg x0 (funext fun a => match a with | ⟨0, _⟩ => Fin.ext ?_ | ⟨1, _⟩ => Fin.ext ?_ | ⟨2, _⟩ => Fin.ext ?_)
  · show 0 + 1 * b.val = b.val; omega
  · show 0 + 1 * s.val = s.val; omega
  · show 0 + 2 * d.val = 2 * d.val; omega

/-- The tokens' odd channels. -/
theorem odd_channel (b : Fin 16) (s : Fin 256) (d : Fin 512) :
    val_main_v34 (F := Ideal) x0 (ix3 b s d) = x0 (ix3 b s ⟨2 * d.val + 1, by omega⟩) := by
  unfold val_main_v34
  refine congrArg x0 (funext fun a => match a with | ⟨0, _⟩ => Fin.ext ?_ | ⟨1, _⟩ => Fin.ext ?_ | ⟨2, _⟩ => Fin.ext ?_)
  · show 0 + 1 * b.val = b.val; omega
  · show 0 + 1 * s.val = s.val; omega
  · show 1 + 2 * d.val = 2 * d.val + 1; omega

/-- The reference's tail score of row `v` for token `(b, s)`. -/
theorem tail_score (hX : ∀ b s d, X (ix2 (tok b s) d) = x0 (ix3 b s d)) (b : Fin 16) (s : Fin 256) (v : Fin 44160) :
    val_main_v36 (F := Ideal) x0 x3 x4 (ix3 b s v) = TL X x3 x4 (tok b s) v := by
  rw [val_main_v36_apply, val_main_v33_apply, val_main_v35_apply, TL, dif_pos v.isLt]
  rw [Fin.sum_univ_add (a := 512) (b := 512) (fun d : Fin 1024 => tailWt x3 x4 ⟨v.val, v.isLt⟩ d * X (ix2 (tok b s) (xPerm d)))]
  refine congrArg₂ (· + ·) (Finset.sum_congr rfl fun d _ => ?_) (Finset.sum_congr rfl fun d _ => ?_)
  · have el : lidx_main_v33 (ix3 b s v) d = ix3 b s d := funext fun a => match a with | ⟨0, _⟩ => rfl | ⟨1, _⟩ => rfl | ⟨2, _⟩ => rfl
    have er : ridx_main_v33 (ix3 b s v) d = ix2 v d := funext fun a => match a with | ⟨0, _⟩ => rfl | ⟨1, _⟩ => rfl
    have hd : ((Fin.castAdd 512 d : Fin 1024) : ℕ) = d.val := rfl
    have ex : xPerm (Fin.castAdd 512 d : Fin 1024) = ⟨2 * d.val, by omega⟩ := by
      refine Fin.ext ?_
      simp only [xPerm, hd, d.isLt, if_true]
    have eq : (⟨((Fin.castAdd 512 d : Fin 1024) : ℕ) % 512 / 64, by omega⟩ : Fin 8) = ⟨d.val / 64, by omega⟩ := Fin.ext (show d.val % 512 / 64 = d.val / 64 by omega)
    rw [el, er, even_channel, low_weight, hX, tailWt, ex, eq, dif_pos (show ((Fin.castAdd 512 d : Fin 1024) : ℕ) < 512 from d.isLt), mul_comm]
    rfl
  · have el : lidx_main_v35 (ix3 b s v) d = ix3 b s d := funext fun a => match a with | ⟨0, _⟩ => rfl | ⟨1, _⟩ => rfl | ⟨2, _⟩ => rfl
    have er : ridx_main_v35 (ix3 b s v) d = ix2 v d := funext fun a => match a with | ⟨0, _⟩ => rfl | ⟨1, _⟩ => rfl
    have hd : ((Fin.natAdd 512 d : Fin 1024) : ℕ) = 512 + d.val := rfl
    have hn : ¬ ((Fin.natAdd 512 d : Fin 1024) : ℕ) < 512 := by rw [hd]; omega
    have ex : xPerm (Fin.natAdd 512 d : Fin 1024) = ⟨2 * d.val + 1, by omega⟩ := by
      refine Fin.ext ?_
      show (if ((Fin.natAdd 512 d : Fin 1024) : ℕ) < 512 then _ else _) = 2 * d.val + 1
      rw [if_neg hn]
      show 2 * (512 + d.val - 512) + 1 = 2 * d.val + 1
      omega
    have eq : (⟨((Fin.natAdd 512 d : Fin 1024) : ℕ) % 512 / 64, by omega⟩ : Fin 8) = ⟨d.val / 64, by omega⟩ := Fin.ext (show (512 + d.val) % 512 / 64 = d.val / 64 by omega)
    have ed : (⟨((Fin.natAdd 512 d : Fin 1024) : ℕ) - 512, by omega⟩ : Fin 512) = d := Fin.ext (show 512 + d.val - 512 = d.val by omega)
    rw [el, er, odd_channel, high_weight, hX, tailWt, ex, eq, dif_neg hn, ed, mul_comm]

end Cert.ReferenceIdeal.Hand
-- ==== Proof.RefLse.lean ====
module

public import proofs.«01_k».proof.Proof.RefLogits

@[expose] public section

/-! The reference's three log-sum-exps are the kernel's. -/

set_option maxRecDepth 16384

noncomputable section
namespace Cert.ReferenceIdeal.Hand

open Cert.ReferenceIdeal.Gen Cert.ReferenceIdeal.Read Idealize.ShloMosaic
open Cert.KernelIdeal.Hand (HL TL lse addLse ofBits_bot fold_max_bot)

/-- A log-sum-exp is never plus infinity. -/
theorem lse_ne_top (f : ℕ → EReal) (N : ℕ) : lse f N ≠ ⊤ := by
  rw [lse]
  have hz : ∀ v ∈ Finset.range N, f v ≤ (Finset.range N).sup f := fun v hv => Finset.le_sup hv
  generalize (Finset.range N).sup f = M at hz ⊢
  have log0 : Ideal.log 0 = ⊥ := by have := Ideal.log_coe (r := 0); simpa using this
  induction M with
  | bot => simp
  | top =>
    rw [Finset.sum_eq_zero fun v _ => by simp, log0]
    simp
  | coe b =>
    have hr : ∀ v, v ∈ Finset.range N → ∃ r : ℝ, Ideal.exp (f v - (b : EReal)) = (r : EReal) := by
      intro v hv
      have := hz v hv
      induction hzi : f v with
      | bot => exact ⟨0, by simp⟩
      | top => rw [hzi] at this; simp at this
      | coe a => exact ⟨Real.exp (a - b), by rw [← EReal.coe_sub, Ideal.exp_coe]⟩
    choose! r hr using hr
    have e : ∑ v ∈ Finset.range N, (r v : EReal) = ((∑ v ∈ Finset.range N, r v : ℝ) : EReal) :=
      (map_sum (⟨⟨fun x : ℝ => (x : EReal), EReal.coe_zero⟩, EReal.coe_add⟩ : ℝ →+ EReal) r _).symm
    rw [Finset.sum_congr rfl hr, e, Ideal.log_coe]
    split_ifs
    · simp
    · rw [← EReal.coe_add]; exact EReal.coe_ne_top _

/-- `logaddexp` and the kernel's combination agree below plus infinity. -/
theorem logaddexp_eq {a b : EReal} (ha : a ≠ ⊤) (hb : b ≠ ⊤) :
    max a b + Ideal.log1p (Ideal.exp (-(max (a - b) (-(a - b))))) = addLse a b := by
  rw [addLse, Ideal.log1p]
  have log1 : Ideal.log 1 = 0 := by
    have := Ideal.log_coe (r := 1)
    rw [if_neg (by norm_num), Real.log_one] at this
    simpa using this
  induction a with
  | top => exact absurd rfl ha
  | bot =>
    induction b with
    | top => exact absurd rfl hb
    | bot => simp
    | coe y =>
      have e1 : (⊥ : EReal) - (y : EReal) = ⊥ := rfl
      have e2 : (y : EReal) - (y : EReal) = 0 := by rw [← EReal.coe_sub, sub_self, EReal.coe_zero]
      have e3 : Ideal.exp 0 = 1 := by have := Ideal.exp_coe (r := 0); simpa using this
      simp [e1, e2, e3, log1]
  | coe x =>
    induction b with
    | top => exact absurd rfl hb
    | bot =>
      have e1 : (x : EReal) - (⊥ : EReal) = ⊤ := rfl
      have e4 : (⊥ : EReal) - (x : EReal) = ⊥ := rfl
      have e2 : (x : EReal) - (x : EReal) = 0 := by rw [← EReal.coe_sub, sub_self, EReal.coe_zero]
      have e3 : Ideal.exp 0 = 1 := by have := Ideal.exp_coe (r := 0); simpa using this
      simp [e1, e2, e3, e4, log1]
    | coe y =>
      have em : max (x : EReal) (y : EReal) = ((max x y : ℝ) : EReal) := by
        rcases le_total x y with h | h
        · rw [max_eq_right h, max_eq_right (by exact_mod_cast h)]
        · rw [max_eq_left h, max_eq_left (by exact_mod_cast h)]
      have ed : max ((x : EReal) - y) (-((x : EReal) - y)) = ((|x - y| : ℝ) : EReal) := by
        rw [← EReal.coe_sub, ← EReal.coe_neg, abs_eq_max_neg]
        rcases le_total (x - y) (-(x - y)) with h | h
        · rw [max_eq_right h, max_eq_right (by exact_mod_cast h)]
        · rw [max_eq_left h, max_eq_left (by exact_mod_cast h)]
      rw [em, ed, ← EReal.coe_sub, ← EReal.coe_sub, ← EReal.coe_neg, Ideal.exp_coe, Ideal.exp_coe, Ideal.exp_coe, ← EReal.coe_one, ← EReal.coe_add, ← EReal.coe_add]
      congr 3
      rcases le_total x y with h | h
      · rw [max_eq_right h, sub_self, Real.exp_zero, abs_of_nonpos (by linarith), neg_neg, add_comm]
      · rw [max_eq_left h, sub_self, Real.exp_zero, abs_of_nonneg (by linarith), neg_sub]

/-- The host's maximum over the vocabulary, from minus infinity. -/
theorem max_reduce {n : ℕ} (x : (⟨3, ![16, 256, n]⟩ : Shape).Idx → EReal) (h' : (⟨3, ![16, 256, n]⟩ : Shape).ReducesTo [2] S16x256)
    (h : (⟨3, ![16, 256, n]⟩ : Shape).Reduces [2] S16x256) (f : ℕ → EReal) (b : Fin 16) (s : Fin 256) (hx : ∀ v : Fin n, x (ix3 b s v) = f v) :
    Host.reduce (FloatOps.maximumf (F := Ideal) (φ := .f32)) x (constant (F := Ideal) S_ .f32 0xFF800000#32) h' h_S_ (ix2 b s) = (Finset.range n).sup f := by
  rw [Host.reduce_eq_fold_single _ _ _ h' h]
  have e : x ∘ h.lift (ix2 b s) = fun v : Fin n => f v := funext fun v => by
    rw [← hx v]
    exact congrArg x (funext fun a => match a with | ⟨0, _⟩ => rfl | ⟨1, _⟩ => rfl | ⟨2, _⟩ => rfl)
  rw [e]
  have e2 : (Finset.univ : Finset (Fin n)).fold max (⊥ : EReal) (fun v : Fin n => f v) = (Finset.range n).sup f := by
    rw [fold_max_bot]
    refine le_antisymm (Finset.sup_le fun v _ => Finset.le_sup (f := f) (Finset.mem_range.mpr v.isLt)) (Finset.sup_le fun k hk => ?_)
    exact Finset.le_sup (f := fun v : Fin n => f v) (Finset.mem_univ ⟨k, Finset.mem_range.mp hk⟩)
  rw [← e2]
  exact congrArg (fun z => (Finset.univ : Finset (Fin n)).fold max z (fun v : Fin n => f v)) ofBits_bot

/-- A log-sum-exp of the first `n` numbers, over their index type. -/
theorem lse_fin (n : ℕ) (f : ℕ → EReal) (g : Fin n → EReal) (hg : ∀ v : Fin n, g v = Ideal.exp (f v - (Finset.range n).sup f)) :
    (Finset.range n).sup f + Ideal.log (0 + ∑ v : Fin n, g v) = lse f n := by
  rw [lse, Finset.sum_range fun v => Ideal.exp (f v - (Finset.range n).sup f), zero_add, Finset.sum_congr rfl fun v _ => hg v]

/-- The host's sum with a logarithm. -/
theorem add_log (M z : EReal) : FloatOps.addf (F := Ideal) (φ := .f32) M (FloatOps.hostUnary (F := Ideal) (φ := .f32) .log z) = M + Ideal.log z := rfl

/-- No number differs from itself. -/
theorem une_self (d : Ideal .f32) : FloatOps.cmpf (F := Ideal) .une d d = 0#1 := by
  show BitVec.ofBool (decide (d ≠ d)) = 0#1
  simp

variable {x0 : (⟨S16x256x1024, .bf16⟩ : BufTy).Contents (Elt Ideal)} {x2 : (⟨S6144, .f32⟩ : BufTy).Contents (Elt Ideal)}
variable {x3 : (⟨S44160x512, .i8⟩ : BufTy).Contents (Elt Ideal)} {x4 : (⟨S44160x8, .bf16⟩ : BufTy).Contents (Elt Ideal)}
variable {r0 : (⟨S6144x1024, .bf16⟩ : BufTy).Contents (Elt Ideal)}
variable {X : Vec Ideal Cert.KernelIdeal.S4096x1024 .bf16} {S : Vec Ideal Cert.KernelIdeal.S6144x1 .f32}

/-- The reference's log-sum-exp of the head. -/
theorem head_lse (hX : ∀ b s d, X (ix2 (tok b s) d) = x0 (ix3 b s d)) (hS : ∀ v : Fin 6144, S (ix2 v 0) = x2 (ix1 v))
    (b : Fin 16) (s : Fin 256) :
    val_main_v45 (F := Ideal) x0 x2 r0 (ix2 b s) = lse (HL X r0 S (tok b s)) 6144 := by
  have hm : val_main_v37 (F := Ideal) x0 x2 r0 (ix2 b s) = (Finset.range 6144).sup (HL X r0 S (tok b s)) :=
    max_reduce _ _ (by decide) _ b s fun v => head_score hX hS b s v
  have e1 : idx_main_v38 (idx_main_v39 (ix2 b s)) = ix2 b s := funext fun a => match a with
    | ⟨0, _⟩ => Fin.ext (show (b.val * 256 + s.val) / 256 = b.val by omega)
    | ⟨1, _⟩ => Fin.ext (show (b.val * 256 + s.val) / 1 % 256 = s.val by omega)
  have e2 : ∀ v : Fin 6144, idx_main_v38 (idx_main_v40 (idx_main_v43 (ix2 b s) v)) = ix2 b s := fun v => funext fun a => match a with | ⟨0, _⟩ => rfl | ⟨1, _⟩ => rfl
  have e3 : ∀ v : Fin 6144, idx_main_v43 (ix2 b s) v = ix3 b s v := fun v => funext fun a => match a with | ⟨0, _⟩ => rfl | ⟨1, _⟩ => rfl | ⟨2, _⟩ => rfl
  have e0 : val_main_cst_5 (F := Ideal) (Shape.Idx.first h_S_) = (0 : EReal) := Ideal.ofBits_zero .f32
  have hg : ∀ v : Fin 6144, val_main_v42 (F := Ideal) x0 x2 r0 (idx_main_v43 (ix2 b s) v) = Ideal.exp (HL X r0 S (tok b s) v - (Finset.range 6144).sup (HL X r0 S (tok b s))) := fun v => by
    rw [val_main_v42_apply, val_main_v41_apply, val_main_v40_apply, val_main_v38_apply, e2, hm, e3, head_score hX hS]
    generalize (Finset.range 6144).sup (HL X r0 S (tok b s)) = M
    rfl
  rw [val_main_v45_apply, val_main_v39_apply, val_main_v38_apply, e1, hm, val_main_v44_apply, val_main_v43_apply, e0]
  rw [← lse_fin 6144 (HL X r0 S (tok b s)) (fun v => val_main_v42 (F := Ideal) x0 x2 r0 (idx_main_v43 (ix2 b s) v)) hg]
  generalize (Finset.range 6144).sup (HL X r0 S (tok b s)) = M
  exact add_log M _

/-- The reference's log-sum-exp of the tail. -/
theorem tail_lse (hX : ∀ b s d, X (ix2 (tok b s) d) = x0 (ix3 b s d)) (b : Fin 16) (s : Fin 256) :
    val_main_v54 (F := Ideal) x0 x3 x4 (ix2 b s) = lse (TL X x3 x4 (tok b s)) 44160 := by
  have hm : val_main_v46 (F := Ideal) x0 x3 x4 (ix2 b s) = (Finset.range 44160).sup (TL X x3 x4 (tok b s)) :=
    max_reduce _ _ (by decide) _ b s fun v => tail_score hX b s v
  have e1 : idx_main_v47 (idx_main_v48 (ix2 b s)) = ix2 b s := funext fun a => match a with
    | ⟨0, _⟩ => Fin.ext (show (b.val * 256 + s.val) / 256 = b.val by omega)
    | ⟨1, _⟩ => Fin.ext (show (b.val * 256 + s.val) / 1 % 256 = s.val by omega)
  have e2 : ∀ v : Fin 44160, idx_main_v47 (idx_main_v49 (idx_main_v52 (ix2 b s) v)) = ix2 b s := fun v => funext fun a => match a with | ⟨0, _⟩ => rfl | ⟨1, _⟩ => rfl
  have e3 : ∀ v : Fin 44160, idx_main_v52 (ix2 b s) v = ix3 b s v := fun v => funext fun a => match a with | ⟨0, _⟩ => rfl | ⟨1, _⟩ => rfl | ⟨2, _⟩ => rfl
  have e0 : val_main_cst_7 (F := Ideal) (Shape.Idx.first h_S_) = (0 : EReal) := Ideal.ofBits_zero .f32
  have hg : ∀ v : Fin 44160, val_main_v51 (F := Ideal) x0 x3 x4 (idx_main_v52 (ix2 b s) v) = Ideal.exp (TL X x3 x4 (tok b s) v - (Finset.range 44160).sup (TL X x3 x4 (tok b s))) := fun v => by
    rw [val_main_v51_apply, val_main_v50_apply, val_main_v49_apply, val_main_v47_apply, e2, hm, e3, tail_score hX]
    generalize (Finset.range 44160).sup (TL X x3 x4 (tok b s)) = M
    rfl
  rw [val_main_v54_apply, val_main_v48_apply, val_main_v47_apply, e1, hm, val_main_v53_apply, val_main_v52_apply, e0]
  rw [← lse_fin 44160 (TL X x3 x4 (tok b s)) (fun v => val_main_v51 (F := Ideal) x0 x3 x4 (idx_main_v52 (ix2 b s) v)) hg]
  generalize (Finset.range 44160).sup (TL X x3 x4 (tok b s)) = M
  exact add_log M _

/-- The reference's log-sum-exp of the whole vocabulary. -/
theorem both_lse (hX : ∀ b s d, X (ix2 (tok b s) d) = x0 (ix3 b s d)) (hS : ∀ v : Fin 6144, S (ix2 v 0) = x2 (ix1 v))
    (b : Fin 16) (s : Fin 256) :
    val_main_v64 (F := Ideal) x0 x2 x3 x4 r0 (ix2 b s) = addLse (lse (HL X r0 S (tok b s)) 6144) (lse (TL X x3 x4 (tok b s)) 44160) := by
  have hc : val_main_v57 (F := Ideal) x0 x2 x3 x4 r0 (ix2 b s) = 0#1 :=
    (val_main_v57_apply ..).trans (une_self _)
  rw [val_main_v64_apply, hc, val_main_v63_apply, val_main_v62_apply, val_main_v61_apply, val_main_v60_apply, val_main_v59_apply,
    val_main_v56_apply, val_main_v55_apply, head_lse hX hS, tail_lse hX]
  exact logaddexp_eq (lse_ne_top _ _) (lse_ne_top _ _)

end Cert.ReferenceIdeal.Hand
-- ==== Proof.RefTarget.lean ====
module

public import proofs.«01_k».proof.Proof.RefLse

@[expose] public section

/-! The reference's score of the target is the kernel's. -/

set_option maxRecDepth 16384

noncomputable section
namespace Cert.ReferenceIdeal.Hand

open Cert.ReferenceIdeal.Gen Cert.ReferenceIdeal.Read Idealize.ShloMosaic
open Cert.KernelIdeal.Hand (HL TL lse addLse tgtScore tAt hitAt rowT eighth sum_eight)

/-- A clip leaves a number that is in range. -/
theorem clip_eq {hi y : BitVec 32} (h0 : 0 ≤ y.toInt) (h1 : y.toInt ≤ hi.toInt) : IntOp.minsi hi (IntOp.maxsi 0#32 y) = y := by
  have e0 : (0#32 : BitVec 32).toInt = 0 := rfl
  have a : IntOp.maxsi 0#32 y = y := by
    rw [IntOp.maxsi, if_neg (by rw [BitVec.slt_iff_toInt_lt, e0]; omega)]
  rw [a, IntOp.minsi, if_neg (by rw [BitVec.slt_iff_toInt_lt]; omega)]

/-- A number that is not negative is not below zero. -/
theorem slt_zero {y : BitVec 32} (h0 : 0 ≤ y.toInt) : IntOp.cmpi .slt y 0#32 = 0#1 := by
  have e0 : (0#32 : BitVec 32).toInt = 0 := rfl
  show BitVec.ofBool (decide (y.toInt < (0#32 : BitVec 32).toInt)) = 0#1
  rw [e0, decide_eq_false (by omega)]
  rfl

/-- A number in range passes the range check. -/
theorem in_range {hi y : BitVec 32} (h0 : 0 ≤ y.toInt) (h1 : y.toInt ≤ hi.toInt) :
    IntOp.andi (IntOp.cmpi .sge y 0#32) (IntOp.cmpi .sle y hi) = 1#1 := by
  have e0 : (0#32 : BitVec 32).toInt = 0 := rfl
  show BitVec.ofBool (decide ((0#32 : BitVec 32).toInt ≤ y.toInt)) &&& BitVec.ofBool (decide (y.toInt ≤ hi.toInt)) = 1#1
  rw [e0, decide_eq_true h0, decide_eq_true h1]
  rfl

/-- A range check over the one index of each token, where every index is in range. -/
theorem and_reduce (x : IVec S16x256x1x1 1) (j : S16x256x1.Idx) (hx : ∀ i, reducesTo_S16x256x1x1_S16x256x1_d3.drop i = j → x i = 1#1) :
    Host.reduce IntOp.andi x (constantI S_ 1 1#1) reducesTo_S16x256x1x1_S16x256x1_d3 h_S_ j = 1#1 := by
  rw [Host.reduce_eq_fold]
  have h : ∀ s : Finset S16x256x1x1.Idx, (∀ i ∈ s, x i = 1#1) → s.fold IntOp.andi 1#1 x = 1#1 := by
    classical
    intro s
    induction s using Finset.induction_on with
    | empty => intro _; rfl
    | insert a s ha ih =>
      intro hs
      rw [Finset.fold_insert ha, hs a (Finset.mem_insert_self a s), ih fun i hi => hs i (Finset.mem_insert_of_mem hi)]
      rfl
  exact h _ fun i hi => hx i (Finset.mem_filter.mp hi).2

section
variable {α : Type} {N w : ℕ}

/-- Those dimension numbers that take one score of `N` per token. -/
abbrev pickDims (wf : GatherDims.WF ⟨3, ![16, 256, N]⟩ S16x256x1x1 S16x256x1 [] [2] [0, 1] [2] [0, 1] 3 ![1, 1, 1]) :
    GatherDims ⟨3, ![16, 256, N]⟩ S16x256x1x1 S16x256x1 where
  offsetDims := []
  collapsedSliceDims := [2]
  operandBatchingDims := [0, 1]
  startIndicesBatchingDims := [0, 1]
  startIndexMap := [2]
  indexVectorDim := 3
  sliceSizes := ![1, 1, 1]
  wf := wf

/-- The gather at a token: the score its index names, kept in range. -/
theorem pick_apply (wf) (hN : 0 < N) (x : (⟨3, ![16, 256, N]⟩ : Shape).Idx → α) (idx : IVec S16x256x1x1 w) (b : Fin 16) (s : Fin 256) :
    Host.gather (pickDims (N := N) wf) x idx (ix3 b s 0) = x (ix3 b s ⟨min (idx (ix4 b s 0 0)).toInt.toNat (N - 1), by omega⟩) := by
  unfold Host.gather
  congr 1
  funext a
  refine Fin.ext ?_
  show (pickDims wf).start (ix3 b s 0) idx a + (pickDims wf).batchCoord (ix3 b s 0) a + (pickDims wf).offCoord (ix3 b s 0) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have hm : (0 : Fin 3) ∈ (pickDims wf).operandBatchingDims := List.mem_cons_self
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    rfl
  · have hm : (1 : Fin 3) ∈ (pickDims wf).operandBatchingDims := List.mem_cons_of_mem _ List.mem_cons_self
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    rfl
  · have hm : (2 : Fin 3) ∈ (pickDims wf).startIndexMap := List.mem_singleton.mpr rfl
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos hm]
    have hsi : (pickDims wf).siIdx (ix3 b s 0) ⟨List.idxOf (2 : Fin 3) (pickDims wf).startIndexMap,
        List.idxOf_lt_length_iff.2 hm⟩ = ix4 b s 0 0 := by
      funext e; refine Fin.ext ?_
      match e with
      | ⟨0, _⟩ => rfl
      | ⟨1, _⟩ => rfl
      | ⟨2, _⟩ => rfl
      | ⟨3, _⟩ => rfl
    rw [hsi]
    rfl

/-- The gather at a token whose index is in range. -/
theorem pick_of (wf) (x : (⟨3, ![16, 256, N]⟩ : Shape).Idx → α) (idx : IVec S16x256x1x1 w) (b : Fin 16) (s : Fin 256) (n : ℕ) (h : n < N)
    (hn : (idx (ix4 b s 0 0)).toInt = n) : Host.gather (pickDims (N := N) wf) x idx (ix3 b s 0) = x (ix3 b s ⟨n, h⟩) := by
  rw [pick_apply wf (by omega)]
  refine congrArg (fun v => x (ix3 b s v)) (Fin.ext ?_)
  show min (idx (ix4 b s 0 0)).toInt.toNat (N - 1) = n
  rw [hn]
  omega
end

/-- A choice whose condition holds. -/
theorem select_one (a b : EReal) : Scalar.select (BitVec.ofBool true) a b = a := rfl

/-- A choice whose condition fails. -/
theorem select_zero (a b : EReal) : Scalar.select (BitVec.ofBool false) a b = b := rfl

/-- Which index of the range check belongs to a token. -/
theorem drop_tok (b : Fin 16) (s : Fin 256) (i : S16x256x1x1.Idx) (h : reducesTo_S16x256x1x1_S16x256x1_d3.drop i = ix3 b s 0) :
    i = ix4 b s 0 0 := by
  have h0 : i 0 = b := Fin.ext ((Shape.ReducesTo.drop_apply_val_of_eq reducesTo_S16x256x1x1_S16x256x1_d3 i 0 0).symm.trans (congrArg (fun j : S16x256x1.Idx => (j 0).val) h))
  have h1 : i 1 = s := Fin.ext ((Shape.ReducesTo.drop_apply_val_of_eq reducesTo_S16x256x1x1_S16x256x1_d3 i 1 1).symm.trans (congrArg (fun j : S16x256x1.Idx => (j 1).val) h))
  refine funext fun a => match a with | ⟨0, _⟩ => h0 | ⟨1, _⟩ => h1 | ⟨2, _⟩ => Fin.ext ?_ | ⟨3, _⟩ => Fin.ext ?_
  · have : (i 2).val < 1 := (i 2).isLt
    show (i 2).val = 0; omega
  · have : (i 3).val < 1 := (i 3).isLt
    show (i 3).val = 0; omega

variable {x0 : (⟨S16x256x1024, .bf16⟩ : BufTy).Contents (Elt Ideal)} {x2 : (⟨S6144, .f32⟩ : BufTy).Contents (Elt Ideal)}
variable {x3 : (⟨S44160x512, .i8⟩ : BufTy).Contents (Elt Ideal)} {x4 : (⟨S44160x8, .bf16⟩ : BufTy).Contents (Elt Ideal)}
variable {x5 : (⟨S16x256, .i32⟩ : BufTy).Contents (Elt Ideal)} {r0 : (⟨S6144x1024, .bf16⟩ : BufTy).Contents (Elt Ideal)}
variable {X : Vec Ideal Cert.KernelIdeal.S4096x1024 .bf16} {S : Vec Ideal Cert.KernelIdeal.S6144x1 .f32} {Y : Vec Ideal Cert.KernelIdeal.S1x4096 .i32}

/-- The head index of a head target is the target. -/
theorem head_index (b : Fin 16) (s : Fin 256) (h0 : 0 ≤ (x5 (ix2 b s)).toInt) (h1 : (x5 (ix2 b s)).toInt ≤ 6143) :
    val_main_call4_v5 (F := Ideal) x5 (ix4 b s 0 0) = x5 (ix2 b s) := by
  have e : idx_main_call4_v5 (ix4 b s 0 0) = ix3 b s 0 := funext fun a => match a with
    | ⟨0, _⟩ => Fin.ext (show (((b.val * 256 + s.val) * 1 + 0) * 1 + 0) / 256 = b.val by omega)
    | ⟨1, _⟩ => Fin.ext (show (((b.val * 256 + s.val) * 1 + 0) * 1 + 0) / 1 % 256 = s.val by omega)
    | ⟨2, _⟩ => rfl
  have e2 : idx_main_v69 (ix3 b s 0) = ix2 b s := funext fun a => match a with | ⟨0, _⟩ => rfl | ⟨1, _⟩ => rfl
  have e3 : val_main_v65 (F := Ideal) x5 (ix2 b s) = x5 (ix2 b s) := clip_eq (hi := 6143#32) h0 h1
  have e4 : val_main_v69 (F := Ideal) x5 (ix3 b s 0) = x5 (ix2 b s) := by rw [val_main_v69_apply, e2, e3]
  have e5 : val_main_call4_v1 (F := Ideal) x5 (ix3 b s 0) = 0#1 := by
    rw [val_main_call4_v1_apply, e4]
    exact slt_zero h0
  rw [val_main_call4_v5_apply, e, val_main_call4_v4_apply, e5, e4]
  rfl

/-- The tail index of a tail target is the target less the head's size. -/
theorem tail_index (b : Fin 16) (s : Fin 256) (h0 : 0 ≤ (x5 (ix2 b s) - 6144#32).toInt) (h1 : (x5 (ix2 b s) - 6144#32).toInt ≤ 44159) :
    val_main_call5_v5 (F := Ideal) x5 (ix4 b s 0 0) = x5 (ix2 b s) - 6144#32 := by
  have e : idx_main_call5_v5 (ix4 b s 0 0) = ix3 b s 0 := funext fun a => match a with
    | ⟨0, _⟩ => Fin.ext (show (((b.val * 256 + s.val) * 1 + 0) * 1 + 0) / 256 = b.val by omega)
    | ⟨1, _⟩ => Fin.ext (show (((b.val * 256 + s.val) * 1 + 0) * 1 + 0) / 1 % 256 = s.val by omega)
    | ⟨2, _⟩ => rfl
  have e2 : idx_main_v72 (ix3 b s 0) = ix2 b s := funext fun a => match a with | ⟨0, _⟩ => rfl | ⟨1, _⟩ => rfl
  have e3 : val_main_v68 (F := Ideal) x5 (ix2 b s) = x5 (ix2 b s) - 6144#32 := clip_eq (hi := 44159#32) h0 h1
  have e4 : val_main_v72 (F := Ideal) x5 (ix3 b s 0) = x5 (ix2 b s) - 6144#32 := by rw [val_main_v72_apply, e2, e3]
  have e5 : val_main_call5_v1 (F := Ideal) x5 (ix3 b s 0) = 0#1 := by
    rw [val_main_call5_v1_apply, e4]
    exact slt_zero h0
  rw [val_main_call5_v5_apply, e, val_main_call5_v4_apply, e5, e4]
  rfl

/-- The reference's score of a head target. -/
theorem head_target (hX : ∀ b s d, X (ix2 (tok b s) d) = x0 (ix3 b s d)) (hS : ∀ v : Fin 6144, S (ix2 v 0) = x2 (ix1 v))
    (b : Fin 16) (s : Fin 256) (n : ℕ) (hn : (x5 (ix2 b s)).toInt = n) (h : n < 6144) :
    val_main_v71 (F := Ideal) x0 x2 x5 r0 (ix2 b s) = HL X r0 S (tok b s) n := by
  have e1 : idx_main_v71 (ix2 b s) = ix3 b s 0 := funext fun a => match a with
    | ⟨0, _⟩ => Fin.ext (show (b.val * 256 + s.val) / 256 = b.val by omega)
    | ⟨1, _⟩ => Fin.ext (show (b.val * 256 + s.val) / 1 % 256 = s.val by omega)
    | ⟨2, _⟩ => rfl
  have ei := head_index (x5 := x5) b s (by omega) (by omega)
  have em : val_main_call4_v12 (F := Ideal) x5 (ix3 b s 0) = 1#1 := by
    refine and_reduce _ _ fun i hi => ?_
    rw [drop_tok b s i hi, val_main_call4_v11_apply, val_main_call4_v7_apply, val_main_call4_v10_apply, ei]
    exact in_range (hi := 6143#32) (by omega) (by rw [hn]; show (n : ℤ) ≤ 6143; omega)
  have eg : val_main_call4_v13 (F := Ideal) x0 x2 x5 r0 (ix3 b s 0) = HL X r0 S (tok b s) n := by
    unfold val_main_call4_v13
    exact (pick_of (N := 6144) _ _ _ b s n h (by rw [ei, hn])).trans (head_score hX hS b s ⟨n, h⟩)
  rw [val_main_v71_apply, e1, val_main_v70_apply, em, eg]
  exact select_one _ _

/-- The reference's score of a tail target. -/
theorem tail_target (hX : ∀ b s d, X (ix2 (tok b s) d) = x0 (ix3 b s d)) (b : Fin 16) (s : Fin 256) (n : ℕ)
    (hn : (x5 (ix2 b s) - 6144#32).toInt = n) (h : n < 44160) :
    val_main_v74 (F := Ideal) x0 x3 x4 x5 (ix2 b s) = TL X x3 x4 (tok b s) n := by
  have e1 : idx_main_v74 (ix2 b s) = ix3 b s 0 := funext fun a => match a with
    | ⟨0, _⟩ => Fin.ext (show (b.val * 256 + s.val) / 256 = b.val by omega)
    | ⟨1, _⟩ => Fin.ext (show (b.val * 256 + s.val) / 1 % 256 = s.val by omega)
    | ⟨2, _⟩ => rfl
  have ei := tail_index (x5 := x5) b s (by omega) (by omega)
  have em : val_main_call5_v12 (F := Ideal) x5 (ix3 b s 0) = 1#1 := by
    refine and_reduce _ _ fun i hi => ?_
    rw [drop_tok b s i hi, val_main_call5_v11_apply, val_main_call5_v7_apply, val_main_call5_v10_apply, ei]
    exact in_range (hi := 44159#32) (by omega) (by rw [hn]; show (n : ℤ) ≤ 44159; omega)
  have eg : val_main_call5_v13 (F := Ideal) x0 x3 x4 x5 (ix3 b s 0) = TL X x3 x4 (tok b s) n := by
    unfold val_main_call5_v13
    exact (pick_of (N := 44160) _ _ _ b s n h (by rw [ei, hn])).trans (tail_score hX b s ⟨n, h⟩)
  rw [val_main_v74_apply, e1, val_main_v73_apply, em, eg]
  exact select_one _ _

/-- One number of a sum over a range is hit, or none. -/
theorem sum_hit (f : ℕ → EReal) (N o : ℕ) (y : BitVec 32) (hN : o + N < 2 ^ 32) :
    (∑ v ∈ Finset.range N, if BitVec.ofNat 32 (o + v) = y then f v else 0) = if o ≤ y.toNat ∧ y.toNat < o + N then f (y.toNat - o) else 0 := by
  have hv : ∀ v, v < N → (BitVec.ofNat 32 (o + v) = y ↔ o + v = y.toNat) := fun v hv => by
    rw [← BitVec.toNat_inj, BitVec.toNat_ofNat, Nat.mod_eq_of_lt (by omega)]
  split_ifs with h
  · rw [Finset.sum_eq_single (y.toNat - o)]
    · rw [if_pos ((hv _ (by omega)).mpr (by omega))]
    · intro v hv' hne
      rw [if_neg fun e => hne (by have := (hv v (Finset.mem_range.mp hv')).mp e; omega)]
    · intro hne
      exact absurd (Finset.mem_range.mpr (by omega)) hne
  · refine Finset.sum_eq_zero fun v hv' => if_neg fun e => h ?_
    have h1 := Finset.mem_range.mp hv'
    have := (hv v h1).mp e
    omega

/-- The kernel's score of the target: a row of the head, or of the tail. -/
theorem tgt_eq (W : Vec Ideal Cert.KernelIdeal.S6144x1024 .bf16) (B : Vec Ideal Cert.KernelIdeal.S44160x512 .i8) (Q : Vec Ideal Cert.KernelIdeal.S44160x8 .bf16)
    (q : Fin 4096) (hy : (Y (ix2 0 q)).toNat < 50304) :
    tgtScore X W S B Q Y q = if (Y (ix2 0 q)).toNat < 6144 then HL X W S q (Y (ix2 0 q)).toNat else TL X B Q q ((Y (ix2 0 q)).toNat - 6144) := by
  have e : ∀ r : Fin 8, tAt X W S B Q Y 104 r q
      = (∑ k ∈ Finset.range 768, (fun v => if BitVec.ofNat 32 (0 + v) = Y (ix2 0 q) then HL X W S q v else 0) (8 * k + r))
        + ∑ k ∈ Finset.range 5520, (fun v => if BitVec.ofNat 32 (6144 + v) = Y (ix2 0 q) then TL X B Q q v else 0) (8 * k + r) := fun r => by
    rw [tAt, if_neg (by omega)]
    rfl
  rw [tgtScore, Finset.sum_congr rfl fun r _ => e r, Finset.sum_add_distrib,
    sum_eight (fun v => if BitVec.ofNat 32 (0 + v) = Y (ix2 0 q) then HL X W S q v else 0),
    sum_eight (fun v => if BitVec.ofNat 32 (6144 + v) = Y (ix2 0 q) then TL X B Q q v else 0), sum_hit _ _ _ _ (by norm_num), sum_hit _ _ _ _ (by norm_num)]
  by_cases h : (Y (ix2 0 q)).toNat < 6144
  · rw [if_pos (by omega), if_neg (by omega), if_pos h, add_zero, Nat.sub_zero]
  · rw [if_neg (by omega), if_pos (by omega), if_neg h, zero_add]

/-- The reference's score of the target. -/
theorem target (hX : ∀ b s d, X (ix2 (tok b s) d) = x0 (ix3 b s d)) (hS : ∀ v : Fin 6144, S (ix2 v 0) = x2 (ix1 v))
    (hY : ∀ b s, Y (ix2 0 (tok b s)) = x5 (ix2 b s)) (b : Fin 16) (s : Fin 256) (hy : (x5 (ix2 b s)).toNat < 50304) :
    val_main_v77 (F := Ideal) x0 x2 x3 x4 x5 r0 (ix2 b s) = tgtScore X r0 S x3 x4 Y (tok b s) := by
  have hi : (x5 (ix2 b s)).toInt = ((x5 (ix2 b s)).toNat : ℤ) := BitVec.toInt_eq_toNat_of_lt (by omega)
  have hc : val_main_v76 (F := Ideal) x5 (ix2 b s) = BitVec.ofBool (decide ((x5 (ix2 b s)).toInt < 6144)) := rfl
  rw [tgt_eq _ _ _ _ (by rw [hY]; exact hy), hY, val_main_v77_apply, hc, hi]
  by_cases h : (x5 (ix2 b s)).toNat < 6144
  · rw [if_pos h, decide_eq_true (by omega), head_target hX hS b s _ hi h]
    exact select_one _ _
  · have hs : (x5 (ix2 b s) - 6144#32).toNat = (x5 (ix2 b s)).toNat - 6144 := by
      rw [BitVec.toNat_sub_of_le (by rw [BitVec.le_def]; show 6144 ≤ _; omega)]
      rfl
    rw [if_neg h, decide_eq_false (by omega), tail_target hX b s ((x5 (ix2 b s)).toNat - 6144) (by rw [BitVec.toInt_eq_toNat_of_lt (by omega), hs]) (by omega)]
    exact select_zero _ _

end Cert.ReferenceIdeal.Hand
-- ==== Proof.Bridge.lean ====
module

public import proofs.«01_k».proof.Proof.RunIdeal
public import proofs.«01_k».proof.Proof.RefTarget
public import proofs.«01_k».proof.Pre_valid
public import proofs.«01_k».proof.Proof.Gen.Pre_valid

@[expose] public section

/-! The kernel's reshaped operands at coordinates of its arguments, and what the precondition says of one target. -/

set_option maxRecDepth 16384

noncomputable section
namespace Cert.KernelIdeal.Hand

open Cert.KernelIdeal.Gen Idealize.ShloMosaic Idealize.ShloMosaic.TcCoe
open Cert.ReferenceIdeal.Hand (tok)

variable (m : (ℓ : Loc nD τ sig) → Buf (Elt Ideal) ℓ)

/-- The tokens are the argument reshaped. -/
theorem tokens (c : Dev nD) : aX m c = shapeCast S4096x1024 (m ((c : Thread nD τ).loc main_arg0)) shapeCasts_S16x256x1024_S4096x1024 := by
  unfold aX V
  rw [StableHlo.after_cons, StableHlo.after_cons, StableHlo.after_cons, StableHlo.after_nil,
    StableHlo.reshape_result_ne' _ _ _ _ _ (by decide), StableHlo.reshape_result_ne' _ _ _ _ _ (by decide), StableHlo.reshape_result']
  rfl

/-- The head scales are the argument reshaped. -/
theorem scales (c : Dev nD) : aS m c = shapeCast S6144x1 (m ((c : Thread nD τ).loc main_arg2)) shapeCasts_S6144_S6144x1 := by
  unfold aS V
  rw [StableHlo.after_cons, StableHlo.after_cons, StableHlo.after_cons, StableHlo.after_nil,
    StableHlo.reshape_result_ne' _ _ _ _ _ (by decide), StableHlo.reshape_result', StableHlo.reshape_result_ne' _ _ _ _ _ (by decide)]
  rfl

/-- The targets are the argument reshaped. -/
theorem targets (c : Dev nD) : aY m c = shapeCast S1x4096 (m ((c : Thread nD τ).loc main_arg5)) shapeCasts_S16x256_S1x4096 := by
  unfold aY V
  rw [StableHlo.after_cons, StableHlo.after_cons, StableHlo.after_cons, StableHlo.after_nil,
    StableHlo.reshape_result', StableHlo.reshape_result_ne' _ _ _ _ _ (by decide), StableHlo.reshape_result_ne' _ _ _ _ _ (by decide)]
  rfl

/-- A token's number at its coordinates. -/
theorem aX_at (c : Dev nD) (b : Fin 16) (s : Fin 256) (d : Fin 1024) :
    aX m c (ix2 (tok b s) d) = (m ((c : Thread nD τ).loc main_arg0) : Vec Ideal S16x256x1024 .bf16) (ix3 b s d) := by
  rw [tokens]
  refine shapeCast_apply (s := S16x256x1024) _ _ _ _ ?_
  rw [Shape.rowMajor_val_three, Shape.rowMajor_val_two]
  show (b.val * 256 + s.val) * 1024 + d.val = (b.val * 256 + s.val) * 1024 + d.val
  rfl

/-- A head scale at its coordinate. -/
theorem aS_at (c : Dev nD) (v : Fin 6144) :
    aS m c (ix2 v 0) = (m ((c : Thread nD τ).loc main_arg2) : Vec Ideal S6144 .f32) (ix1 v) := by
  rw [scales]
  refine shapeCast_apply (s := S6144) _ _ _ _ ?_
  rw [Shape.rowMajor_val_one, Shape.rowMajor_val_two]
  show v.val = v.val * 1 + 0
  omega

/-- A target at its coordinates. -/
theorem aY_at (c : Dev nD) (b : Fin 16) (s : Fin 256) :
    aY m c (ix2 0 (tok b s)) = (m ((c : Thread nD τ).loc main_arg5) : Vec Ideal S16x256 .i32) (ix2 b s) := by
  rw [targets]
  refine shapeCast_apply (s := S16x256) _ _ _ _ ?_
  rw [Shape.rowMajor_val_two, Shape.rowMajor_val_two]
  show b.val * 256 + s.val = 0 * 4096 + (b.val * 256 + s.val)
  omega

/-- Both comparisons true: the word is a number of the vocabulary. -/
theorem word_range (y : BitVec 32) (h : IntOp.andi (IntOp.cmpi .sge y 0#32) (IntOp.cmpi .slt y 50304#32) = 1#1) : y.toNat < 50304 := by
  have e0 : (0#32 : BitVec 32).toInt = 0 := rfl
  have e1 : (50304#32 : BitVec 32).toInt = 50304 := rfl
  have h' : BitVec.ofBool (decide ((0#32 : BitVec 32).toInt ≤ y.toInt)) &&& BitVec.ofBool (decide (y.toInt < (50304#32 : BitVec 32).toInt)) = 1#1 := h
  rw [e0, e1] at h'
  by_cases a : 0 ≤ y.toInt
  · by_cases b : y.toInt < 50304
    · rw [BitVec.toInt_eq_toNat_cond] at a b
      have := y.isLt
      split at a <;> omega
    · rw [decide_eq_false b, decide_eq_true a] at h'
      exact absurd h' (by decide)
  · rw [decide_eq_false a] at h'
    cases hd : decide (y.toInt < 50304) <;> rw [hd] at h' <;> exact absurd h' (by decide)

/-- Where the precondition's function is all ones, each target is a number of the vocabulary. -/
theorem in_vocab (x0 : FVec Ideal Cert.Pre_valid.S16x256x1024 .bf16) (x1 : FVec Ideal Cert.Pre_valid.S6144x1024 .fp8e4m3) (x2 : FVec Ideal Cert.Pre_valid.S6144 .f32)
    (x3 : IVec Cert.Pre_valid.S44160x512 8) (x4 : FVec Ideal Cert.Pre_valid.S44160x8 .bf16) (x5 : IVec Cert.Pre_valid.S16x256 32)
    (h : Cert.Pre_valid.fn (F := Ideal) x0 x1 x2 x3 x4 x5 = fun _ => 1#1) (i : Cert.Pre_valid.S16x256.Idx) : (x5 i).toNat < 50304 :=
  word_range _ (congrFun h i)

end Cert.KernelIdeal.Hand

end
-- ==== Proof.RefResults.lean ====
module

public import proofs.«01_k».proof.Proof.RefTarget
public import proofs.«01_k».proof.Proof.RunIdeal

@[expose] public section

/-! The reference's four results as rows over the tokens. -/

set_option maxRecDepth 16384

noncomputable section
namespace Cert.ReferenceIdeal.Hand

open Cert.ReferenceIdeal.Gen Cert.ReferenceIdeal.Read Idealize.ShloMosaic
open Cert.KernelIdeal.Hand (HL TL lse addLse tgtScore rowOf)

variable {x0 : (⟨S16x256x1024, .bf16⟩ : BufTy).Contents (Elt Ideal)} {x2 : (⟨S6144, .f32⟩ : BufTy).Contents (Elt Ideal)}
  {x3 : (⟨S44160x512, .i8⟩ : BufTy).Contents (Elt Ideal)} {x4 : (⟨S44160x8, .bf16⟩ : BufTy).Contents (Elt Ideal)}
  {x5 : (⟨S16x256, .i32⟩ : BufTy).Contents (Elt Ideal)} {r0 : (⟨S6144x1024, .bf16⟩ : BufTy).Contents (Elt Ideal)}
  {X : Vec Ideal Cert.KernelIdeal.S4096x1024 .bf16} {S : Vec Ideal Cert.KernelIdeal.S6144x1 .f32}
  {Y : Vec Ideal Cert.KernelIdeal.S1x4096 .i32}

/-- Every token is some batch's some position. -/
theorem exists_tok (q : Fin 4096) : ∃ b s, q = tok b s :=
  ⟨⟨q.val / 256, by omega⟩, ⟨q.val % 256, by omega⟩, Fin.ext (show q.val = q.val / 256 * 256 + q.val % 256 by omega)⟩

/-- A reshape of the tokens' grid to one row, at a token. -/
theorem row_at (y : FVec Ideal S16x256 .f32) (b : Fin 16) (s : Fin 256) (j : S1x4096.Idx) (hj : j 1 = tok b s) :
    shapeCast S1x4096 y shapeCasts_S16x256_S1x4096 j = y (ix2 b s) := by
  refine shapeCast_apply (s := S16x256) _ _ _ _ ?_
  rw [Shape.rowMajor_val_two, Shape.rowMajor_val_two]
  have h0 : (j 0).val < 1 := (j 0).isLt
  have h1 : (j 1).val = b.val * 256 + s.val := congrArg Fin.val hj
  show b.val * 256 + s.val = (j 0).val * 4096 + (j 1).val
  omega

/-- A reshape of the tokens' grid to one row is the row of its values. -/
theorem row_eq (y : FVec Ideal S16x256 .f32) (f : Fin 4096 → EReal) (h : ∀ b s, y (ix2 b s) = f (tok b s)) :
    shapeCast S1x4096 y shapeCasts_S16x256_S1x4096 = rowOf f := by
  funext j
  obtain ⟨b, s, hj⟩ := exists_tok (j 1)
  exact (row_at y b s j hj).trans ((h b s).trans (congrArg f hj.symm))

/-- The first result: each token's log-sum-exp. -/
theorem result0 (hX : ∀ b s d, X (ix2 (tok b s) d) = x0 (ix3 b s d)) (hS : ∀ v : Fin 6144, S (ix2 v 0) = x2 (ix1 v)) :
    val_main_v79 (F := Ideal) x0 x2 x3 x4 r0 = rowOf fun q => addLse (lse (HL X r0 S q) 6144) (lse (TL X x3 x4 q) 44160) := by
  unfold val_main_v79
  exact row_eq _ _ (both_lse hX hS)

/-- The second result: each token's log-probability of its target. -/
theorem result1 (hX : ∀ b s d, X (ix2 (tok b s) d) = x0 (ix3 b s d)) (hS : ∀ v : Fin 6144, S (ix2 v 0) = x2 (ix1 v))
    (hY : ∀ b s, Y (ix2 0 (tok b s)) = x5 (ix2 b s)) (hy : ∀ b s, (x5 (ix2 b s)).toNat < 50304) :
    val_main_v80 (F := Ideal) x0 x2 x3 x4 x5 r0
      = rowOf fun q => tgtScore X r0 S x3 x4 Y q - addLse (lse (HL X r0 S q) 6144) (lse (TL X x3 x4 q) 44160) := by
  unfold val_main_v80
  refine row_eq _ _ fun b s => ?_
  rw [val_main_v78_apply, target hX hS hY b s (hy b s), both_lse hX hS b s]
  rfl

/-- The third result: each token's log-sum-exp over the head. -/
theorem result2 (hX : ∀ b s d, X (ix2 (tok b s) d) = x0 (ix3 b s d)) (hS : ∀ v : Fin 6144, S (ix2 v 0) = x2 (ix1 v)) :
    val_main_v81 (F := Ideal) x0 x2 r0 = rowOf fun q => lse (HL X r0 S q) 6144 := by
  unfold val_main_v81
  exact row_eq _ _ (head_lse hX hS)

/-- The fourth result: each token's log-sum-exp over the tail. -/
theorem result3 (hX : ∀ b s d, X (ix2 (tok b s) d) = x0 (ix3 b s d)) :
    val_main_v82 (F := Ideal) x0 x3 x4 = rowOf fun q => lse (TL X x3 x4 q) 44160 := by
  unfold val_main_v82
  exact row_eq _ _ (tail_lse hX)

end Cert.ReferenceIdeal.Hand

end
-- ==== Proof.Widen.lean ====
module

public import proofs.«01_k».proof.Proof.RefTarget
public import proofs.«01_k».proof.Proof.Gen.ReferenceIdeal.Run
public import Idealize.ShloMosaic.Lib.Pipeline.ValueKit.Geometry

@[expose] public section

/-! What the reference's widening of the head weights leaves, over the extended reals: the weights. -/

set_option maxRecDepth 16384

noncomputable section
namespace Cert.ReferenceIdeal.Hand

open Cert.ReferenceIdeal.Gen Idealize.ShloMosaic Idealize.ShloMosaic.TcCoe

variable (m : (ℓ : Loc nD τ sig) → Buf (Elt Ideal) ℓ)

/-- The whole array as a rectangle leaves an index where it is. -/
theorem whole_idx (y : S6144x1024.Idx) : r0_0.emb y = y := by
  funext a
  apply Fin.ext
  match a with
  | ⟨0, _⟩ => show 0 + 1 * (y 0).val = (y 0).val; omega
  | ⟨1, _⟩ => show 0 + 1 * (y 1).val = (y 1).val; omega

/-- What the widening's body stores is what it read. -/
theorem widen_out (x : Vec Ideal S6144x1024 .fp8e4m3) (y : S6144x1024.Idx) : out0_1 x y = x y := by
  have h := View.canon_cons_emb (Val := Elt Ideal) (e := .bf16) r0_0 (k0_pay1 (F := Ideal) (View.ld x r0_0)) [] y
  rw [whole_idx] at h
  refine h.trans ?_
  show x (r0_0.emb y) = x y
  rw [whole_idx]

/-- The widening reads the weights whole. -/
theorem widen_in (c : Dev nD) (t : Fin cfg0.N) (y : S6144x1024.Idx) :
    (iblk m c 0 t : Vec Ideal S6144x1024 .fp8e4m3) y = m ((c : Thread nD τ).loc main_arg1) y := by
  unfold iblk
  rw [View.read_apply]
  show V m c main_arg1 _ = V m c main_arg1 _
  congr 1
  funext a
  apply Fin.ext
  rw [fin_N0 t]
  match a with
  | ⟨0, _⟩ => show 0 * 6144 + 1 * (y 0).val = (y 0).val; omega
  | ⟨1, _⟩ => show 0 * 1024 + 1 * (y 1).val = (y 1).val; omega

/-- The widening writes its output back once, whole. -/
theorem whole1 : (cfg0.win 1).WholeAt t0_0 := by decide +kernel

/-- The weights as the widened array. -/
def weights (c : Dev nD) : Vec Ideal S6144x1024 .bf16 := fun y => (m ((c : Thread nD τ).loc main_arg1) : Vec Ideal S6144x1024 .fp8e4m3) y

/-- What the body leaves is the weights. -/
theorem widened_after (c : Dev nD) (j : S6144x1024.Idx) : ((dats m 0 c).after 1 t0_0 : Vec Ideal S6144x1024 .bf16) j = weights m c j := by
  rw [after0_1]
  exact (widen_out _ j).trans (widen_in m c t0_0 j)

/-- What the widening leaves is the weights. -/
theorem widened (c : Dev nD) : (dats m 0 c).arrAt 1 cfg0.N = weights m c :=
  (dats m 0 c).arrAt_eq_of_after_last 1 t0_0 whole1 (weights m c) fun j => widened_after m c j

end Cert.ReferenceIdeal.Hand

end
-- ==== Proof.RefRun.lean ====
module

public import proofs.«01_k».proof.Proof.RefResults
public import proofs.«01_k».proof.Proof.Widen
public import proofs.«01_k».proof.Proof.Gen.ReferenceIdeal.Frame

@[expose] public section

/-! What the reference's run leaves, over operands that agree with its arguments. -/

set_option maxRecDepth 16384

noncomputable section
namespace Cert.ReferenceIdeal.Hand

open Cert.ReferenceIdeal.Gen Cert.ReferenceIdeal.Read Idealize.ShloMosaic Idealize.ShloMosaic.TcCoe
open Idealize.SL Idealize.SL.Sem
open Cert.KernelIdeal.Hand (HL TL lse addLse tgtScore rowOf)

variable (m : (ℓ : Loc nD τ sig) → Buf (Elt Ideal) ℓ) (ρ : Dev nD → PrngReg)

/-- The operands `X S Y` are core `c`'s arguments reshaped, and its targets are in the vocabulary. -/
structure Agrees (c : Dev nD) (X : Vec Ideal Cert.KernelIdeal.S4096x1024 .bf16) (S : Vec Ideal Cert.KernelIdeal.S6144x1 .f32)
    (Y : Vec Ideal Cert.KernelIdeal.S1x4096 .i32) : Prop where
  tokens : ∀ b s d, X (ix2 (tok b s) d) = (m ((c.tc : Thread nD τ).loc main_arg0) : Vec Ideal S16x256x1024 .bf16) (ix3 b s d)
  scales : ∀ v : Fin 6144, S (ix2 v 0) = (m ((c.tc : Thread nD τ).loc main_arg2) : Vec Ideal S6144 .f32) (ix1 v)
  targets : ∀ b s, Y (ix2 0 (tok b s)) = (m ((c.tc : Thread nD τ).loc main_arg5) : Vec Ideal S16x256 .i32) (ix2 b s)
  range : ∀ b s, ((m ((c.tc : Thread nD τ).loc main_arg5) : Vec Ideal S16x256 .i32) (ix2 b s)).toNat < 50304

variable {m}
variable {c : Dev nD} {X : Vec Ideal Cert.KernelIdeal.S4096x1024 .bf16} {S : Vec Ideal Cert.KernelIdeal.S6144x1 .f32}
  {Y : Vec Ideal Cert.KernelIdeal.S1x4096 .i32}

/-- The weights the reference's host operations read. -/
theorem exit_weights (c : Dev nD) : Value.exitV m c (Proc.devRef .tc main_v0) = weights m c := (Value.exit_main_v0 m c).trans (widened m c)

/-- The first result's row. -/
theorem row0 (h : Agrees m c X S Y) : shapeCast _ (Value.res_main_v64 (Value.exitV m c)) shapeCasts_S16x256_S1x4096
      = rowOf fun q => addLse (lse (HL X (weights m c) S q) 6144) (lse (TL X (m ((c.tc : Thread nD τ).loc main_arg3)) (m ((c.tc : Thread nD τ).loc main_arg4)) q) 44160) := by
  rw [val_main_v79_eq, Value.exit_main_arg0, Value.exit_main_arg2, Value.exit_main_arg3, Value.exit_main_arg4, exit_weights]
  exact result0 h.tokens h.scales

/-- The second result's row. -/
theorem row1 (h : Agrees m c X S Y) :
    val_main_v80 (F := Ideal) (Value.exitV m c (Proc.devRef .tc main_arg0)) (Value.exitV m c (Proc.devRef .tc main_arg2)) (Value.exitV m c (Proc.devRef .tc main_arg3))
        (Value.exitV m c (Proc.devRef .tc main_arg4)) (Value.exitV m c (Proc.devRef .tc main_arg5)) (Value.exitV m c (Proc.devRef .tc main_v0))
      = rowOf fun q => tgtScore X (weights m c) S (m ((c.tc : Thread nD τ).loc main_arg3)) (m ((c.tc : Thread nD τ).loc main_arg4)) Y q
          - addLse (lse (HL X (weights m c) S q) 6144) (lse (TL X (m ((c.tc : Thread nD τ).loc main_arg3)) (m ((c.tc : Thread nD τ).loc main_arg4)) q) 44160) := by
  rw [Value.exit_main_arg0, Value.exit_main_arg2, Value.exit_main_arg3, Value.exit_main_arg4, Value.exit_main_arg5, exit_weights]
  exact result1 h.tokens h.scales h.targets h.range

/-- The third result's row. -/
theorem row2 (h : Agrees m c X S Y) : shapeCast _ (Value.res_main_v45 (Value.exitV m c)) shapeCasts_S16x256_S1x4096
      = rowOf fun q => lse (HL X (weights m c) S q) 6144 := by
  rw [val_main_v81_eq, Value.exit_main_arg0, Value.exit_main_arg2, exit_weights]
  exact result2 h.tokens h.scales

/-- The fourth result's row. -/
theorem row3 (h : Agrees m c X S Y) : shapeCast _ (Value.res_main_v54 (Value.exitV m c)) shapeCasts_S16x256_S1x4096
      = rowOf fun q => lse (TL X (m ((c.tc : Thread nD τ).loc main_arg3)) (m ((c.tc : Thread nD τ).loc main_arg4)) q) 44160 := by
  rw [val_main_v82_eq, Value.exit_main_arg0, Value.exit_main_arg3, Value.exit_main_arg4]
  exact result3 h.tokens

/-- THE RESULTS: what the reference's four result arrays hold at the end. -/
theorem results (X : Dev nD → Vec Ideal Cert.KernelIdeal.S4096x1024 .bf16) (S : Dev nD → Vec Ideal Cert.KernelIdeal.S6144x1 .f32)
    (Y : Dev nD → Vec Ideal Cert.KernelIdeal.S1x4096 .i32) (hA : ∀ c, Agrees m c (X c) (S c) (Y c)) :
    θ_run defs (onTc (τ := τ) (main (F := Ideal))) ⟨m, fun _ => 0, ρ⟩ (fun r => ∀ c : Dev nD,
      r.2.mem ((c.tc : Thread nD τ).loc main_v79)
        = rowOf (fun q => addLse (lse (HL (X c) (weights m c) (S c) q) 6144) (lse (TL (X c) (m ((c.tc : Thread nD τ).loc main_arg3)) (m ((c.tc : Thread nD τ).loc main_arg4)) q) 44160))
      ∧ r.2.mem ((c.tc : Thread nD τ).loc main_v80)
        = rowOf (fun q => tgtScore (X c) (weights m c) (S c) (m ((c.tc : Thread nD τ).loc main_arg3)) (m ((c.tc : Thread nD τ).loc main_arg4)) (Y c) q
          - addLse (lse (HL (X c) (weights m c) (S c) q) 6144) (lse (TL (X c) (m ((c.tc : Thread nD τ).loc main_arg3)) (m ((c.tc : Thread nD τ).loc main_arg4)) q) 44160))
      ∧ r.2.mem ((c.tc : Thread nD τ).loc main_v81) = rowOf (fun q => lse (HL (X c) (weights m c) (S c) q) 6144)
      ∧ r.2.mem ((c.tc : Thread nD τ).loc main_v82)
        = rowOf (fun q => lse (TL (X c) (m ((c.tc : Thread nD τ).loc main_arg3)) (m ((c.tc : Thread nD τ).loc main_arg4)) q) 44160)) :=
  (θ_run defs _ _).mono (fun r h c => ⟨(h c).1.trans (row0 (hA c)),
    (h c).2.1.trans ((val_main_v80_eq (Value.exitV m c)).trans (row1 (hA c))),
    (h c).2.2.1.trans (row2 (hA c)), (h c).2.2.2.1.trans (row3 (hA c))⟩) (Value.run m ρ)

end Cert.ReferenceIdeal.Hand

end
-- ==== Proof.Equal.lean ====
module

public import proofs.«01_k».proof.Proof.Bridge
public import proofs.«01_k».proof.Proof.RefRun

@[expose] public section

/-! The kernel's arguments as the reference's: both runs end with the same rows. -/

set_option maxRecDepth 16384

noncomputable section
namespace Cert.Equal

open Idealize.ShloMosaic Idealize.ShloMosaic.TcCoe Idealize.SL Idealize.SL.Sem
open Cert.KernelIdeal.Hand (HL TL lse addLse tgtScore rowOf lseHeadC lseTailC tgtC aX aW aS aB aQ aY)
open Cert.ReferenceIdeal.Hand (weights Agrees)

/-- The kernel's memory. -/
abbrev KMem := (ℓ : Loc Cert.KernelIdeal.nD Cert.KernelIdeal.τ Cert.KernelIdeal.sig) → Buf (Elt Ideal) ℓ
/-- The reference's memory. -/
abbrev RMem := (ℓ : Loc Cert.ReferenceIdeal.nD Cert.ReferenceIdeal.τ Cert.ReferenceIdeal.sig) → Buf (Elt Ideal) ℓ

variable {m : KMem} {m' : RMem}

/-- The two memories hold the same arguments on core `c`. -/
abbrev SameArgs (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- The kernel's weights are the reference's. -/
theorem weights_eq {c : Dev Cert.KernelIdeal.nD} (h : SameArgs m m' c) : weights m' c = aW m c :=
  funext fun y => (congrFun h.2.1 y).trans (congrFun (Cert.KernelIdeal.Gen.V_main_arg1 m c).symm y)

/-- The kernel's packed weights are the reference's. -/
theorem packed_eq {c : Dev Cert.KernelIdeal.nD} (h : SameArgs m m' c) :
    (m' ((c.tc : Thread Cert.ReferenceIdeal.nD Cert.ReferenceIdeal.τ).loc Cert.ReferenceIdeal.main_arg3) : Vec Ideal Cert.KernelIdeal.S44160x512 .i8) = aB m c :=
  h.2.2.2.1.trans (Cert.KernelIdeal.Gen.V_main_arg3 m c).symm

/-- The kernel's tail scales are the reference's. -/
theorem tail_scales_eq {c : Dev Cert.KernelIdeal.nD} (h : SameArgs m m' c) :
    (m' ((c.tc : Thread Cert.ReferenceIdeal.nD Cert.ReferenceIdeal.τ).loc Cert.ReferenceIdeal.main_arg4) : Vec Ideal Cert.KernelIdeal.S44160x8 .bf16) = aQ m c :=
  h.2.2.2.2.1.trans (Cert.KernelIdeal.Gen.V_main_arg4 m c).symm

/-- The kernel's reshaped operands agree with the reference's arguments. -/
theorem agrees {c : Dev Cert.KernelIdeal.nD} (h : SameArgs m m' c)
    (hy : ∀ i, ((m ((c.tc : Thread Cert.KernelIdeal.nD Cert.KernelIdeal.τ).loc Cert.KernelIdeal.main_arg5) : Vec Ideal Cert.KernelIdeal.S16x256 .i32) i).toNat < 50304) :
    Agrees m' c (aX m c) (aS m c) (aY m c) where
  tokens b s d := (Cert.KernelIdeal.Hand.aX_at m c b s d).trans (congrFun h.1.symm (ix3 b s d))
  scales v := (Cert.KernelIdeal.Hand.aS_at m c v).trans (congrFun h.2.2.1.symm (ix1 v))
  targets b s := (Cert.KernelIdeal.Hand.aY_at m c b s).trans (congrFun h.2.2.2.2.2.symm (ix2 b s))
  range b s := (congrArg BitVec.toNat (congrFun h.2.2.2.2.2 (ix2 b s))).trans_lt (hy (ix2 b s))

/-- The reference's run leaves the rows the kernel's run leaves. -/
theorem reference_rows (g' : Dev Cert.ReferenceIdeal.nD → PrngReg) (h : ∀ c, SameArgs m m' c)
    (hy : ∀ (c : Dev Cert.KernelIdeal.nD) i, ((m ((c.tc : Thread Cert.KernelIdeal.nD Cert.KernelIdeal.τ).loc Cert.KernelIdeal.main_arg5) : Vec Ideal Cert.KernelIdeal.S16x256 .i32) i).toNat < 50304) :
    θ_run (Cert.ReferenceIdeal.defs (F := Ideal)) (onTc (τ := Cert.ReferenceIdeal.τ) (Cert.ReferenceIdeal.main (F := Ideal))) ⟨m', fun _ => 0, g'⟩ (fun r => ∀ c : Dev Cert.KernelIdeal.nD,
      r.2.mem ((c.tc : Thread Cert.ReferenceIdeal.nD Cert.ReferenceIdeal.τ).loc Cert.ReferenceIdeal.main_v79) = rowOf (fun q => addLse (lseHeadC m c q) (lseTailC m c q))
      ∧ r.2.mem ((c.tc : Thread Cert.ReferenceIdeal.nD Cert.ReferenceIdeal.τ).loc Cert.ReferenceIdeal.main_v80) = rowOf (fun q => tgtC m c q - addLse (lseHeadC m c q) (lseTailC m c q))
      ∧ r.2.mem ((c.tc : Thread Cert.ReferenceIdeal.nD Cert.ReferenceIdeal.τ).loc Cert.ReferenceIdeal.main_v81) = rowOf (lseHeadC m c)
      ∧ r.2.mem ((c.tc : Thread Cert.ReferenceIdeal.nD Cert.ReferenceIdeal.τ).loc Cert.ReferenceIdeal.main_v82) = rowOf (lseTailC m c)) := by
  refine (θ_run _ _ _).mono (fun r hr c => ?_) (Cert.ReferenceIdeal.Hand.results g' (fun c => aX m c) (fun c => aS m c) (fun c => aY m c) fun c => agrees (h c) (hy c))
  have hc := hr c
  rw [weights_eq (h c), packed_eq (h c), tail_scales_eq (h c)] at hc
  exact hc

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.ReferenceIdeal.Frame
public import proofs.«01_k».proof.Proof.Gen.Pre_valid
public import proofs.«01_k».proof.Proof.RunBits
public import proofs.«01_k».proof.Proof.RunIdeal
public import proofs.«01_k».proof.Proof.Equal

public import Idealize.ShloMosaic.Adequacy
public import Idealize.ShloMosaic.Init

@[expose] public section

noncomputable section

namespace Cert.Proof

open Idealize.ShloMosaic Idealize.SL.Sem

/-- Over the extended reals the kernel's four results are the reference's. -/
theorem equal_results : Cert.algebraic_KernelIdeal_ReferenceIdeal_pre_valid (hKernelIdeal := Cert.KernelIdeal.Gen.facts)
    (hReferenceIdeal := Cert.ReferenceIdeal.Gen.facts) (hPre_valid := Cert.Pre_valid.Gen.facts) := fun m g m' g' hpre hargs =>
  ⟨_, _, _, _,
    (θ_run _ _ _).mono (fun r h c => ⟨(h.1 c).1, (h.1 c).2.1, (h.1 c).2.2.1, (h.1 c).2.2.2, h.2.1 c⟩)
      (θ_run_and (Cert.KernelIdeal.Hand.results m g) (Cert.KernelIdeal.Hand.frame m g)),
    (θ_run _ _ _).mono (fun r h c => ⟨(h.1 c).1, (h.1 c).2.1, (h.1 c).2.2.1, (h.1 c).2.2.2, h.2.1 c⟩)
      (θ_run_and (Cert.Equal.reference_rows g' hargs fun c => Cert.KernelIdeal.Hand.in_vocab _ _ _ _ _ _ (hpre c)) (Cert.ReferenceIdeal.Gen.frame m' g'))⟩

/-- Every claim of the certificate. -/
theorem claim : Cert.Claim := ⟨Cert.Kernel.Gen.facts, Cert.KernelIdeal.Gen.facts, Cert.ReferenceIdeal.Gen.facts, Cert.Pre_valid.Gen.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial, equal_results⟩

end Cert.Proof

end
